-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attention_is_finite [hPre_attention_is_finite : Cert.Pre_attention_is_finite.Facts] (m : (ℓ : Loc Cert.KernelIdeal.nD Cert.KernelIdeal.τ Cert.KernelIdeal.sig) → Buf (Elt Ideal) ℓ) : Prop :=
  ∀ c : Dev Cert.KernelIdeal.nD,
    (Cert.Pre_attention_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_attention_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attention_is_finite [hPre_attention_is_finite : Cert.Pre_attention_is_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attention_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_attention_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_attention_is_finite [hKernelIdeal : Cert.KernelIdeal.Facts] [hPre_attention_is_finite : Cert.Pre_attention_is_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attention_is_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_attention_is_finite [hReferenceIdeal : Cert.ReferenceIdeal.Facts] [hPre_attention_is_finite : Cert.Pre_attention_is_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attention_is_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale" .f32 0x3E38AA3B#32 ((8⁻¹ * (Real.log 2)⁻¹ : ℝ) : EReal)

def algebraic_KernelIdeal_ReferenceIdeal_pre_attention_is_finite [hKernelIdeal : Cert.KernelIdeal.Facts] [hReferenceIdeal : Cert.ReferenceIdeal.Facts] [hPre_attention_is_finite : Cert.Pre_attention_is_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attention_is_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Ffn_FfnIdeal : Prop :=
  IdealRules.named_const.Statement Cert.FfnIdeal.κ "gelu_b" .bf16 0xBDD3#16 (((((-2) * (6693141 / 8388608)) * (Real.log 2)⁻¹) * (12003091 / 268435456) : ℝ) : EReal)
  ∧ IdealRules.named_const.Statement Cert.FfnIdeal.κ "gelu_a" .bf16 0xC013#16 ((((-2) * (6693141 / 8388608)) * (Real.log 2)⁻¹ : ℝ) : EReal)

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v72) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hPre_attention_is_finite : Cert.Pre_attention_is_finite.Facts),
    quiescent_Kernel (hKernel := hKernel)
    ∧ quiescent_KernelIdeal (hKernelIdeal := hKernelIdeal)
    ∧ quiescent_KernelIdeal_pre_attention_is_finite (hKernelIdeal := hKernelIdeal) (hPre_attention_is_finite := hPre_attention_is_finite)
    ∧ quiescent_ReferenceIdeal (hReferenceIdeal := hReferenceIdeal)
    ∧ quiescent_ReferenceIdeal_pre_attention_is_finite (hReferenceIdeal := hReferenceIdeal) (hPre_attention_is_finite := hPre_attention_is_finite)
    ∧ quiescent_Ffn (hFfn := hFfn)
    ∧ quiescent_FfnIdeal (hFfnIdeal := hFfnIdeal)
    ∧ quiescent_FfnReferenceIdeal (hFfnReferenceIdeal := hFfnReferenceIdeal)
    ∧ preserves_Kernel_KernelIdeal
    ∧ algebraic_KernelIdeal_ReferenceIdeal_pre_attention_is_finite (hKernelIdeal := hKernelIdeal) (hReferenceIdeal := hReferenceIdeal) (hPre_attention_is_finite := hPre_attention_is_finite)
    ∧ preserves_Ffn_FfnIdeal
    ∧ algebraic_FfnIdeal_FfnReferenceIdeal (hFfnIdeal := hFfnIdeal) (hFfnReferenceIdeal := hFfnReferenceIdeal)
-- ==== Pre_attention_is_finite.lean ====
abbrev S16 : Shape := ⟨1, ![16]⟩
abbrev S1536x16384 : Shape := ⟨2, ![1536, 16384]⟩
abbrev S2x8192 : Shape := ⟨2, ![2, 8192]⟩
abbrev S16384x2048 : Shape := ⟨2, ![16384, 2048]⟩
abbrev S2x8192x1024 : Shape := ⟨3, ![2, 8192, 1024]⟩
abbrev S2048x1024 : Shape := ⟨2, ![2048, 1024]⟩
abbrev S1024x1024 : Shape := ⟨2, ![1024, 1024]⟩
abbrev S1024 : Shape := ⟨1, ![1024]⟩
abbrev S1280x16384 : Shape := ⟨2, ![1280, 16384]⟩
abbrev S_ : Shape := ⟨0, ![]⟩

class Facts : Prop where
  slices_S1536x16384_S1280x16384_0_0 : S1536x16384.Slices ![0, 0] S1280x16384
  bitsLt_bf16_f32 : FTy.bits .bf16 < FTy.bits .f32
  bcast_S_S1280x16384 : S_.BroadcastsInDim S1280x16384 (![] : Fin 0 → Fin S1280x16384.rank)
  bcast_S_S16 : S_.BroadcastsInDim S16 (![] : Fin 0 → Fin S16.rank)

variable [Facts]

def fn {F : FTy → Type} [FloatOps F] (main_arg0 : FVec F S16 .f32) (main_arg1 : FVec F S1536x16384 .bf16) (main_arg2 : IVec S2x8192 32) (main_arg3 : FVec F S16384x2048 .bf16) (main_arg4 : FVec F S16384x2048 .bf16) (main_arg5 : FVec F S2x8192x1024 .f32) (main_arg6 : FVec F S2048x1024 .f32) (main_arg7 : FVec F S1024x1024 .f32) (main_arg8 : FVec F S1024x1024 .f32) (main_arg9 : FVec F S1024 .f32) : IVec S1280x16384 1 × IVec S16 1 :=
  let main_v0 : FVec F S1280x16384 .bf16 := (extractStridedSlice S1280x16384 ![0, 0] · slices_S1536x16384_S1280x16384_0_0) main_arg1
  let main_v1 : FVec F S1280x16384 .f32 := (extf .f32 · bitsLt_bf16_f32) main_v0
  let main_v2 : FVec F S1280x16384 .f32 := Host.absf main_v1
  let main_cst : FVec F S_ .f32 := constant S_ .f32 0x7F800000#32
  let main_v3 : FVec F S1280x16384 .f32 := broadcastInDim S1280x16384 ![] bcast_S_S1280x16384 main_cst
  let main_v4 : IVec S1280x16384 1 := cmpf .olt main_v2 main_v3
  let main_cst_0 : FVec F S_ .f32 := constant S_ .f32 0x7F800000#32
  let main_v5 : FVec F S16 .f32 := broadcastInDim S16 ![] bcast_S_S16 main_cst_0
  let main_v6 : IVec S16 1 := cmpf .olt main_arg0 main_v5
  (main_v4, main_v6)
-- ==== Kernel.lean ====
abbrev S16 : Shape := ⟨1, ![16]⟩
abbrev S1536x16384 : Shape := ⟨2, ![1536, 16384]⟩
abbrev S2x8192 : Shape := ⟨2, ![2, 8192]⟩
abbrev S16384x2048 : Shape := ⟨2, ![16384, 2048]⟩
abbrev S2x8192x1024 : Shape := ⟨3, ![2, 8192, 1024]⟩
abbrev S2048x1024 : Shape := ⟨2, ![2048, 1024]⟩
abbrev S1024x1024 : Shape := ⟨2, ![1024, 1024]⟩
abbrev S1024 : Shape := ⟨1, ![1024]⟩
abbrev S16384x1024 : Shape := ⟨2, ![16384, 1024]⟩
abbrev S1x16384 : Shape := ⟨2, ![1, 16384]⟩
abbrev S32 : Shape := ⟨1, ![32]⟩
abbrev S_ : Shape := ⟨0, ![]⟩
abbrev S32x1 : Shape := ⟨2, ![32, 1]⟩
abbrev S32x128 : Shape := ⟨2, ![32, 128]⟩
abbrev S1x1024 : Shape := ⟨2, ![1, 1024]⟩
abbrev S1536x512 : Shape := ⟨2, ![1536, 512]⟩
abbrev S1x512 : Shape := ⟨2, ![1, 512]⟩
abbrev S512x2048 : Shape := ⟨2, ![512, 2048]⟩
abbrev S512x1024 : Shape := ⟨2, ![512, 1024]⟩
abbrev S1024x128 : Shape := ⟨2, ![1024, 128]⟩
abbrev S2x4x128x64 : Shape := ⟨4, ![2, 4, 128, 64]⟩
abbrev S2x256x128 : Shape := ⟨3, ![2, 256, 128]⟩
abbrev S2x4x1024x128 : Shape := ⟨4, ![2, 4, 1024, 128]⟩
abbrev S128x512 : Shape := ⟨2, ![128, 512]⟩
abbrev S1 : Shape := ⟨1, ![1]⟩
abbrev S1x128 : Shape := ⟨2, ![1, 128]⟩
abbrev S64x128 : Shape := ⟨2, ![64, 128]⟩
abbrev S128x64 : Shape := ⟨2, ![128, 64]⟩
abbrev S1x1x128x64 : Shape := ⟨4, ![1, 1, 128, 64]⟩
abbrev S256x128 : Shape := ⟨2, ![256, 128]⟩
abbrev S1x256x128 : Shape := ⟨3, ![1, 256, 128]⟩
abbrev S2048x256 : Shape := ⟨2, ![2048, 256]⟩
abbrev S512x256 : Shape := ⟨2, ![512, 256]⟩
abbrev S256x64 : Shape := ⟨2, ![256, 64]⟩
abbrev S64x512 : Shape := ⟨2, ![64, 512]⟩
abbrev S256x512 : Shape := ⟨2, ![256, 512]⟩
abbrev S512 : Shape := ⟨1, ![512]⟩
abbrev S1x64x128 : Shape := ⟨3, ![1, 64, 128]⟩
abbrev S64x256 : Shape := ⟨2, ![64, 256]⟩
abbrev S1x1x64x128 : Shape := ⟨4, ![1, 1, 64, 128]⟩
abbrev S1x1x1024x128 : Shape := ⟨4, ![1, 1, 1024, 128]⟩
abbrev S128x1024 : Shape := ⟨2, ![128, 1024]⟩
abbrev S1024x256 : Shape := ⟨2, ![1024, 256]⟩
abbrev S512x1 : Shape := ⟨2, ![512, 1]⟩

abbrev nBuf : Space → Nat
  | .hbm => 30
  | .vmem => 21
  | .smem => 1
  | _ => 0

abbrev bufTy : (tb : Table) → Fin (tcTables nBuf tb) → BufTy
  | .hbm, ⟨0, _⟩ => ⟨S16, .f32⟩
  | .hbm, ⟨1, _⟩ => ⟨S1536x16384, .bf16⟩
  | .hbm, ⟨2, _⟩ => ⟨S2x8192, .i32⟩
  | .hbm, ⟨3, _⟩ => ⟨S16384x2048, .bf16⟩
  | .hbm, ⟨4, _⟩ => ⟨S16384x2048, .bf16⟩
  | .hbm, ⟨5, _⟩ => ⟨S2x8192x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S16384x1024, .f32⟩
  | .hbm, ⟨11, _⟩ => ⟨S1x16384, .i32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S32x1, .f32⟩
  | .hbm, ⟨24, _⟩ => ⟨S32x128, .f32⟩
  | .hbm, ⟨25, _⟩ => ⟨S2048x1024, .bf16⟩
  | .hbm, ⟨26, _⟩ => ⟨S1024x1024, .bf16⟩
  | .hbm, ⟨27, _⟩ => ⟨S1024x1024, .bf16⟩
  | .hbm, ⟨28, _⟩ => ⟨S1x1024, .f32⟩
  | .hbm, ⟨29, _⟩ => ⟨S16384x1024, .f32⟩
  | .local _ .vmem, ⟨0, _⟩ => ⟨S1536x512, .bf16⟩
  | .local _ .vmem, ⟨1, _⟩ => ⟨S1536x512, .bf16⟩
  | .local _ .vmem, ⟨2, _⟩ => ⟨S1x512, .i32⟩
  | .local _ .vmem, ⟨3, _⟩ => ⟨S1x512, .i32⟩
  | .local _ .vmem, ⟨4, _⟩ => ⟨S32x128, .f32⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x1024, .f32⟩
  | .local _ .vmem, ⟨10, _⟩ => ⟨S512x1024, .f32⟩
  | .local _ .vmem, ⟨11, _⟩ => ⟨S2048x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S1024x128, .bf16⟩
  | .local _ .vmem, ⟨18, _⟩ => ⟨S2x4x128x64, .bf16⟩
  | .local _ .vmem, ⟨19, _⟩ => ⟨S2x256x128, .bf16⟩
  | .local _ .vmem, ⟨20, _⟩ => ⟨S2x4x1024x128, .bf16⟩
  | .local _ .smem, ⟨0, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![33], ![false]⟩

def k0_off1 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v627 : Index := Scalar.indexCast v24
  let c0_270 : Index := 0#32
  let c0_271 : Index := 0#32
  let c0_272 : Index := 0#32
  ![v627.toNat, 0, 0, 0]
def k0_off2 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v633 : Index := Scalar.indexCast v24
  let c0_273 : Index := 0#32
  let c64_274 : Index := 64#32
  let c0_275 : Index := 0#32
  ![v633.toNat, 0, 64, 0]
def k0_off3 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v639 : Index := Scalar.indexCast v24
  let c0_276 : Index := 0#32
  let c128_277 : Index := 128#32
  let c0_278 : Index := 0#32
  ![v639.toNat, 0, 128, 0]
def k0_off4 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v645 : Index := Scalar.indexCast v24
  let c0_279 : Index := 0#32
  let c192_280 : Index := 192#32
  let c0_281 : Index := 0#32
  ![v645.toNat, 0, 192, 0]
def k0_off5 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v651 : Index := Scalar.indexCast v24
  let c0_282 : Index := 0#32
  let c256_283 : Index := 256#32
  let c0_284 : Index := 0#32
  ![v651.toNat, 0, 256, 0]
def k0_off6 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v657 : Index := Scalar.indexCast v24
  let c0_285 : Index := 0#32
  let c320_286 : Index := 320#32
  let c0_287 : Index := 0#32
  ![v657.toNat, 0, 320, 0]
def k0_off7 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v663 : Index := Scalar.indexCast v24
  let c0_288 : Index := 0#32
  let c384_289 : Index := 384#32
  let c0_290 : Index := 0#32
  ![v663.toNat, 0, 384, 0]
def k0_off8 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v669 : Index := Scalar.indexCast v24
  let c0_291 : Index := 0#32
  let c448_292 : Index := 448#32
  let c0_293 : Index := 0#32
  ![v669.toNat, 0, 448, 0]
def k0_off9 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v675 : Index := Scalar.indexCast v24
  let c0_294 : Index := 0#32
  let c512_295 : Index := 512#32
  let c0_296 : Index := 0#32
  ![v675.toNat, 0, 512, 0]
def k0_off10 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v681 : Index := Scalar.indexCast v24
  let c0_297 : Index := 0#32
  let c576_298 : Index := 576#32
  let c0_299 : Index := 0#32
  ![v681.toNat, 0, 576, 0]
def k0_off11 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v687 : Index := Scalar.indexCast v24
  let c0_300 : Index := 0#32
  let c640_301 : Index := 640#32
  let c0_302 : Index := 0#32
  ![v687.toNat, 0, 640, 0]
def k0_off12 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v693 : Index := Scalar.indexCast v24
  let c0_303 : Index := 0#32
  let c704_304 : Index := 704#32
  let c0_305 : Index := 0#32
  ![v693.toNat, 0, 704, 0]
def k0_off13 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v699 : Index := Scalar.indexCast v24
  let c0_306 : Index := 0#32
  let c768_307 : Index := 768#32
  let c0_308 : Index := 0#32
  ![v699.toNat, 0, 768, 0]
def k0_off14 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v705 : Index := Scalar.indexCast v24
  let c0_309 : Index := 0#32
  let c832_310 : Index := 832#32
  let c0_311 : Index := 0#32
  ![v705.toNat, 0, 832, 0]
def k0_off15 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v711 : Index := Scalar.indexCast v24
  let c0_312 : Index := 0#32
  let c896_313 : Index := 896#32
  let c0_314 : Index := 0#32
  ![v711.toNat, 0, 896, 0]
def k0_off16 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v717 : Index := Scalar.indexCast v24
  let c0_315 : Index := 0#32
  let c960_316 : Index := 960#32
  let c0_317 : Index := 0#32
  ![v717.toNat, 0, 960, 0]
def k0_off17 (i : grid0.Coords) : Fin 4 → Nat :=
  let c1_i32_565 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v1208 : BitVec 32 := Scalar.subi c1_i32_565 v24
  let v1209 : Index := Scalar.indexCast v1208
  let c0_566 : Index := 0#32
  let c0_567 : Index := 0#32
  let c0_568 : Index := 0#32
  ![v1209.toNat, 0, 0, 0]
def k0_off18 (i : grid0.Coords) : Fin 4 → Nat :=
  let c1_i32_572 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v1215 : BitVec 32 := Scalar.subi c1_i32_572 v24
  let v1216 : Index := Scalar.indexCast v1215
  let c1_573 : Index := 1#32
  let c0_574 : Index := 0#32
  let c0_575 : Index := 0#32
  ![v1216.toNat, 1, 0, 0]
def k0_off19 (i : grid0.Coords) : Fin 4 → Nat :=
  let c1_i32_579 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v1222 : BitVec 32 := Scalar.subi c1_i32_579 v24
  let v1223 : Index := Scalar.indexCast v1222
  let c2_580 : Index := 2#32
  let c0_581 : Index := 0#32
  let c0_582 : Index := 0#32
  ![v1223.toNat, 2, 0, 0]
def k0_off20 (i : grid0.Coords) : Fin 4 → Nat :=
  let c1_i32_586 : BitVec 32 := 1#32
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v1229 : BitVec 32 := Scalar.subi c1_i32_586 v24
  let v1230 : Index := Scalar.indexCast v1229
  let c3_587 : Index := 3#32
  let c0_588 : Index := 0#32
  let c0_589 : Index := 0#32
  ![v1230.toNat, 3, 0, 0]
def k0_off21 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v1279 : Index := Scalar.indexCast v24
  let c1_625 : Index := 1#32
  let c0_626 : Index := 0#32
  let c0_627 : Index := 0#32
  ![v1279.toNat, 1, 0, 0]
def k0_off22 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v1285 : Index := Scalar.indexCast v24
  let c1_628 : Index := 1#32
  let c64_629 : Index := 64#32
  let c0_630 : Index := 0#32
  ![v1285.toNat, 1, 64, 0]
def k0_off23 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v1291 : Index := Scalar.indexCast v24
  let c1_631 : Index := 1#32
  let c128_632 : Index := 128#32
  let c0_633 : Index := 0#32
  ![v1291.toNat, 1, 128, 0]
def k0_off24 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v1297 : Index := Scalar.indexCast v24
  let c1_634 : Index := 1#32
  let c192_635 : Index := 192#32
  let c0_636 : Index := 0#32
  ![v1297.toNat, 1, 192, 0]
def k0_off25 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v1303 : Index := Scalar.indexCast v24
  let c1_637 : Index := 1#32
  let c256_638 : Index := 256#32
  let c0_639 : Index := 0#32
  ![v1303.toNat, 1, 256, 0]
def k0_off26 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v1309 : Index := Scalar.indexCast v24
  let c1_640 : Index := 1#32
  let c320_641 : Index := 320#32
  let c0_642 : Index := 0#32
  ![v1309.toNat, 1, 320, 0]
def k0_off27 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v1315 : Index := Scalar.indexCast v24
  let c1_643 : Index := 1#32
  let c384_644 : Index := 384#32
  let c0_645 : Index := 0#32
  ![v1315.toNat, 1, 384, 0]
def k0_off28 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v1321 : Index := Scalar.indexCast v24
  let c1_646 : Index := 1#32
  let c448_647 : Index := 448#32
  let c0_648 : Index := 0#32
  ![v1321.toNat, 1, 448, 0]
def k0_off29 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v1327 : Index := Scalar.indexCast v24
  let c1_649 : Index := 1#32
  let c512_650 : Index := 512#32
  let c0_651 : Index := 0#32
  ![v1327.toNat, 1, 512, 0]
def k0_off30 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v1333 : Index := Scalar.indexCast v24
  let c1_652 : Index := 1#32
  let c576_653 : Index := 576#32
  let c0_654 : Index := 0#32
  ![v1333.toNat, 1, 576, 0]
def k0_off31 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v1339 : Index := Scalar.indexCast v24
  let c1_655 : Index := 1#32
  let c640_656 : Index := 640#32
  let c0_657 : Index := 0#32
  ![v1339.toNat, 1, 640, 0]
def k0_off32 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v1345 : Index := Scalar.indexCast v24
  let c1_658 : Index := 1#32
  let c704_659 : Index := 704#32
  let c0_660 : Index := 0#32
  ![v1345.toNat, 1, 704, 0]
def k0_off33 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v1351 : Index := Scalar.indexCast v24
  let c1_661 : Index := 1#32
  let c768_662 : Index := 768#32
  let c0_663 : Index := 0#32
  ![v1351.toNat, 1, 768, 0]
def k0_off34 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v1357 : Index := Scalar.indexCast v24
  let c1_664 : Index := 1#32
  let c832_665 : Index := 832#32
  let c0_666 : Index := 0#32
  ![v1357.toNat, 1, 832, 0]
def k0_off35 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v1363 : Index := Scalar.indexCast v24
  let c1_667 : Index := 1#32
  let c896_668 : Index := 896#32
  let c0_669 : Index := 0#32
  ![v1363.toNat, 1, 896, 0]
def k0_off36 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v1369 : Index := Scalar.indexCast v24
  let c1_670 : Index := 1#32
  let c960_671 : Index := 960#32
  let c0_672 : Index := 0#32
  ![v1369.toNat, 1, 960, 0]
def k0_off37 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v1992 : Index := Scalar.indexCast v24
  let c2_987 : Index := 2#32
  let c0_988 : Index := 0#32
  let c0_989 : Index := 0#32
  ![v1992.toNat, 2, 0, 0]
def k0_off38 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v1998 : Index := Scalar.indexCast v24
  let c2_990 : Index := 2#32
  let c64_991 : Index := 64#32
  let c0_992 : Index := 0#32
  ![v1998.toNat, 2, 64, 0]
def k0_off39 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v2004 : Index := Scalar.indexCast v24
  let c2_993 : Index := 2#32
  let c128_994 : Index := 128#32
  let c0_995 : Index := 0#32
  ![v2004.toNat, 2, 128, 0]
def k0_off40 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v2010 : Index := Scalar.indexCast v24
  let c2_996 : Index := 2#32
  let c192_997 : Index := 192#32
  let c0_998 : Index := 0#32
  ![v2010.toNat, 2, 192, 0]
def k0_off41 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v2016 : Index := Scalar.indexCast v24
  let c2_999 : Index := 2#32
  let c256_1000 : Index := 256#32
  let c0_1001 : Index := 0#32
  ![v2016.toNat, 2, 256, 0]
def k0_off42 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v2022 : Index := Scalar.indexCast v24
  let c2_1002 : Index := 2#32
  let c320_1003 : Index := 320#32
  let c0_1004 : Index := 0#32
  ![v2022.toNat, 2, 320, 0]
def k0_off43 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v2028 : Index := Scalar.indexCast v24
  let c2_1005 : Index := 2#32
  let c384_1006 : Index := 384#32
  let c0_1007 : Index := 0#32
  ![v2028.toNat, 2, 384, 0]
def k0_off44 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v2034 : Index := Scalar.indexCast v24
  let c2_1008 : Index := 2#32
  let c448_1009 : Index := 448#32
  let c0_1010 : Index := 0#32
  ![v2034.toNat, 2, 448, 0]
def k0_off45 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v2040 : Index := Scalar.indexCast v24
  let c2_1011 : Index := 2#32
  let c512_1012 : Index := 512#32
  let c0_1013 : Index := 0#32
  ![v2040.toNat, 2, 512, 0]
def k0_off46 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v2046 : Index := Scalar.indexCast v24
  let c2_1014 : Index := 2#32
  let c576_1015 : Index := 576#32
  let c0_1016 : Index := 0#32
  ![v2046.toNat, 2, 576, 0]
def k0_off47 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v2052 : Index := Scalar.indexCast v24
  let c2_1017 : Index := 2#32
  let c640_1018 : Index := 640#32
  let c0_1019 : Index := 0#32
  ![v2052.toNat, 2, 640, 0]
def k0_off48 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v2058 : Index := Scalar.indexCast v24
  let c2_1020 : Index := 2#32
  let c704_1021 : Index := 704#32
  let c0_1022 : Index := 0#32
  ![v2058.toNat, 2, 704, 0]
def k0_off49 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v2064 : Index := Scalar.indexCast v24
  let c2_1023 : Index := 2#32
  let c768_1024 : Index := 768#32
  let c0_1025 : Index := 0#32
  ![v2064.toNat, 2, 768, 0]
def k0_off50 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v2070 : Index := Scalar.indexCast v24
  let c2_1026 : Index := 2#32
  let c832_1027 : Index := 832#32
  let c0_1028 : Index := 0#32
  ![v2070.toNat, 2, 832, 0]
def k0_off51 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v2076 : Index := Scalar.indexCast v24
  let c2_1029 : Index := 2#32
  let c896_1030 : Index := 896#32
  let c0_1031 : Index := 0#32
  ![v2076.toNat, 2, 896, 0]
def k0_off52 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v2082 : Index := Scalar.indexCast v24
  let c2_1032 : Index := 2#32
  let c960_1033 : Index := 960#32
  let c0_1034 : Index := 0#32
  ![v2082.toNat, 2, 960, 0]
def k0_off53 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v2618 : Index := Scalar.indexCast v24
  let c3_1317 : Index := 3#32
  let c0_1318 : Index := 0#32
  let c0_1319 : Index := 0#32
  ![v2618.toNat, 3, 0, 0]
def k0_off54 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v2624 : Index := Scalar.indexCast v24
  let c3_1320 : Index := 3#32
  let c64_1321 : Index := 64#32
  let c0_1322 : Index := 0#32
  ![v2624.toNat, 3, 64, 0]
def k0_off55 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v2630 : Index := Scalar.indexCast v24
  let c3_1323 : Index := 3#32
  let c128_1324 : Index := 128#32
  let c0_1325 : Index := 0#32
  ![v2630.toNat, 3, 128, 0]
def k0_off56 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v2636 : Index := Scalar.indexCast v24
  let c3_1326 : Index := 3#32
  let c192_1327 : Index := 192#32
  let c0_1328 : Index := 0#32
  ![v2636.toNat, 3, 192, 0]
def k0_off57 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v2642 : Index := Scalar.indexCast v24
  let c3_1329 : Index := 3#32
  let c256_1330 : Index := 256#32
  let c0_1331 : Index := 0#32
  ![v2642.toNat, 3, 256, 0]
def k0_off58 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v2648 : Index := Scalar.indexCast v24
  let c3_1332 : Index := 3#32
  let c320_1333 : Index := 320#32
  let c0_1334 : Index := 0#32
  ![v2648.toNat, 3, 320, 0]
def k0_off59 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v2654 : Index := Scalar.indexCast v24
  let c3_1335 : Index := 3#32
  let c384_1336 : Index := 384#32
  let c0_1337 : Index := 0#32
  ![v2654.toNat, 3, 384, 0]
def k0_off60 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v2660 : Index := Scalar.indexCast v24
  let c3_1338 : Index := 3#32
  let c448_1339 : Index := 448#32
  let c0_1340 : Index := 0#32
  ![v2660.toNat, 3, 448, 0]
def k0_off61 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v2666 : Index := Scalar.indexCast v24
  let c3_1341 : Index := 3#32
  let c512_1342 : Index := 512#32
  let c0_1343 : Index := 0#32
  ![v2666.toNat, 3, 512, 0]
def k0_off62 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v2672 : Index := Scalar.indexCast v24
  let c3_1344 : Index := 3#32
  let c576_1345 : Index := 576#32
  let c0_1346 : Index := 0#32
  ![v2672.toNat, 3, 576, 0]
def k0_off63 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v2678 : Index := Scalar.indexCast v24
  let c3_1347 : Index := 3#32
  let c640_1348 : Index := 640#32
  let c0_1349 : Index := 0#32
  ![v2678.toNat, 3, 640, 0]
def k0_off64 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v2684 : Index := Scalar.indexCast v24
  let c3_1350 : Index := 3#32
  let c704_1351 : Index := 704#32
  let c0_1352 : Index := 0#32
  ![v2684.toNat, 3, 704, 0]
def k0_off65 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v2690 : Index := Scalar.indexCast v24
  let c3_1353 : Index := 3#32
  let c768_1354 : Index := 768#32
  let c0_1355 : Index := 0#32
  ![v2690.toNat, 3, 768, 0]
def k0_off66 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v2696 : Index := Scalar.indexCast v24
  let c3_1356 : Index := 3#32
  let c832_1357 : Index := 832#32
  let c0_1358 : Index := 0#32
  ![v2696.toNat, 3, 832, 0]
def k0_off67 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v2702 : Index := Scalar.indexCast v24
  let c3_1359 : Index := 3#32
  let c896_1360 : Index := 896#32
  let c0_1361 : Index := 0#32
  ![v2702.toNat, 3, 896, 0]
def k0_off68 (i : grid0.Coords) : Fin 4 → Nat :=
  let arg0 : BitVec 32 := BitVec.ofNat 32 (i 0).val
  let c2_i32 : BitVec 32 := 2#32
  let c0_i32_6 : BitVec 32 := 0#32
  let v15 : BitVec 1 := Scalar.cmpi .eq c2_i32 c0_i32_6
  let c1_i32_7 : BitVec 32 := 1#32
  let v16 : BitVec 32 := Scalar.select v15 c1_i32_7 c2_i32
  let v17 : BitVec 32 := Scalar.remsi arg0 v16
  let c0_i32_9 : BitVec 32 := 0#32
  let v19 : BitVec 1 := Scalar.cmpi .slt v17 c0_i32_9
  let c0_i32_10 : BitVec 32 := 0#32
  let v20 : BitVec 1 := Scalar.cmpi .slt v16 c0_i32_10
  let v21 : BitVec 1 := Scalar.xori v19 v20
  let c0_i32_8 : BitVec 32 := 0#32
  let v18 : BitVec 1 := Scalar.cmpi .ne v17 c0_i32_8
  let v22 : BitVec 1 := Scalar.andi v21 v18
  let v23 : BitVec 32 := Scalar.addi v17 v16
  let v24 : BitVec 32 := Scalar.select v22 v23 v17
  let v2708 : Index := Scalar.indexCast v24
  let c3_1362 : Index := 3#32
  let c960_1363 : Index := 960#32
  let c0_1364 : Index := 0#32
  ![v2708.toNat, 3, 960, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1536x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "log2e" => some (((Real.log 2)⁻¹ : ℝ) : EReal)
  | "scale" => some ((8⁻¹ * (Real.log 2)⁻¹ : ℝ) : EReal)
  | _ => none
-- ==== ReferenceIdeal.lean ====
abbrev S16 : Shape := ⟨1, ![16]⟩
abbrev S1536x16384 : Shape := ⟨2, ![1536, 16384]⟩
abbrev S2x8192 : Shape := ⟨2, ![2, 8192]⟩
abbrev S16384x2048 : Shape := ⟨2, ![16384, 2048]⟩
abbrev S2x8192x1024 : Shape := ⟨3, ![2, 8192, 1024]⟩
abbrev S2048x1024 : Shape := ⟨2, ![2048, 1024]⟩
abbrev S1024x1024 : Shape := ⟨2, ![1024, 1024]⟩
abbrev S1024 : Shape := ⟨1, ![1024]⟩
abbrev S16384x1536 : Shape := ⟨2, ![16384, 1536]⟩
abbrev S2x8192x1536 : Shape := ⟨3, ![2, 8192, 1536]⟩
abbrev S2x8192x256 : Shape := ⟨3, ![2, 8192, 256]⟩
abbrev S2x8192x2048 : Shape := ⟨3, ![2, 8192, 2048]⟩
abbrev S32 : Shape := ⟨1, ![32]⟩
abbrev S_ : Shape := ⟨0, ![]⟩
abbrev S2x8192x1 : Shape := ⟨3, ![2, 8192, 1]⟩
abbrev S1x1x32 : Shape := ⟨3, ![1, 1, 32]⟩
abbrev S2x8192x32 : Shape := ⟨3, ![2, 8192, 32]⟩
abbrev S2x8192x4x4x64 : Shape := ⟨5, ![2, 8192, 4, 4, 64]⟩
abbrev S2x8192x1x1x32 : Shape := ⟨5, ![2, 8192, 1, 1, 32]⟩
abbrev S2x8192x4x4x32 : Shape := ⟨5, ![2, 8192, 4, 4, 32]⟩
abbrev S2x8192x4x64 : Shape := ⟨4, ![2, 8192, 4, 64]⟩
abbrev S2x8192x1x32 : Shape := ⟨4, ![2, 8192, 1, 32]⟩
abbrev S2x8192x4x32 : Shape := ⟨4, ![2, 8192, 4, 32]⟩
abbrev S2x64x128x4x4x64 : Shape := ⟨6, ![2, 64, 128, 4, 4, 64]⟩
abbrev S2x64x128x4x64 : Shape := ⟨5, ![2, 64, 128, 4, 64]⟩
abbrev S2x1x128x4x64 : Shape := ⟨5, ![2, 1, 128, 4, 64]⟩
abbrev S2x63x128x4x64 : Shape := ⟨5, ![2, 63, 128, 4, 64]⟩
abbrev S2x64x256x4x64 : Shape := ⟨5, ![2, 64, 256, 4, 64]⟩
abbrev S2x4x64x256x128x4 : Shape := ⟨6, ![2, 4, 64, 256, 128, 4]⟩
abbrev S2x4x4x64x128x256 : Shape := ⟨6, ![2, 4, 4, 64, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S64x128x256 : Shape := ⟨3, ![64, 128, 256]⟩
abbrev S4x4 : Shape := ⟨2, ![4, 4]⟩
abbrev S1x4x4x1x1x1 : Shape := ⟨6, ![1, 4, 4, 1, 1, 1]⟩
abbrev S2x4x4x64x128 : Shape := ⟨5, ![2, 4, 4, 64, 128]⟩
abbrev S2x4x4x64x128x1 : Shape := ⟨6, ![2, 4, 4, 64, 128, 1]⟩
abbrev S2x64x4x64x4x128 : Shape := ⟨6, ![2, 64, 4, 64, 4, 128]⟩
abbrev S1x1x1024 : Shape := ⟨3, ![1, 1, 1024]⟩
abbrev S16384x1024 : Shape := ⟨2, ![16384, 1024]⟩

abbrev nBuf : Space → Nat
  | .hbm => 194
  | .vmem => 0
  | .smem => 0
  | _ => 0

abbrev hbmTy0_0 (i : Nat) : BufTy := match i % 128 with
  | 0 => ⟨S16, .f32⟩
  | 1 => ⟨S1536x16384, .bf16⟩
  | 2 => ⟨S2x8192, .i32⟩
  | 3 => ⟨S16384x2048, .bf16⟩
  | 4 => ⟨S16384x2048, .bf16⟩
  | 5 => ⟨S2x8192x1024, .f32⟩
  | 6 => ⟨S2048x1024, .f32⟩
  | 7 => ⟨S1024x1024, .f32⟩
  | 8 => ⟨S1024x1024, .f32⟩
  | 9 => ⟨S1024, .f32⟩
  | 10 => ⟨S1536x16384, .f32⟩
  | 11 => ⟨S16384x1536, .f32⟩
  | 12 => ⟨S2x8192x1536, .f32⟩
  | 13 => ⟨S2x8192x1024, .f32⟩
  | 14 => ⟨S2x8192x256, .f32⟩
  | 15 => ⟨S2x8192x256, .f32⟩
  | 16 => ⟨S16384x2048, .f32⟩
  | 17 => ⟨S2x8192x2048, .f32⟩
  | 18 => ⟨S2x8192x1024, .f32⟩
  | 19 => ⟨S2x8192x1024, .f32⟩
  | 20 => ⟨S16384x2048, .f32⟩
  | 21 => ⟨S2x8192x2048, .f32⟩
  | 22 => ⟨S2x8192x1024, .f32⟩
  | 23 => ⟨S32, .f32⟩
  | 24 => ⟨S32, .f32⟩
  | 25 => ⟨S_, .f32⟩
  | 26 => ⟨S32, .f32⟩
  | 27 => ⟨S32, .f32⟩
  | 28 => ⟨S_, .f32⟩
  | 29 => ⟨S32, .f32⟩
  | 30 => ⟨S32, .f32⟩
  | 31 => ⟨S_, .f32⟩
  | 32 => ⟨S32, .f32⟩
  | 33 => ⟨S32, .f32⟩
  | 34 => ⟨S2x8192, .f32⟩
  | 35 => ⟨S2x8192x1, .f32⟩
  | 36 => ⟨S1x1x32, .f32⟩
  | 37 => ⟨S2x8192x32, .f32⟩
  | 38 => ⟨S2x8192x32, .f32⟩
  | 39 => ⟨S2x8192x32, .f32⟩
  | 40 => ⟨S2x8192x32, .f32⟩
  | 41 => ⟨S2x8192x32, .f32⟩
  | 42 => ⟨S2x8192x4x4x64, .f32⟩
  | 43 => ⟨S2x8192x1x1x32, .f32⟩
  | 44 => ⟨S2x8192x1x1x32, .f32⟩
  | 45 => ⟨S2x8192x4x4x32, .f32⟩
  | 46 => ⟨S2x8192x4x4x32, .f32⟩
  | 47 => ⟨S2x8192x4x4x32, .f32⟩
  | 48 => ⟨S2x8192x4x4x32, .f32⟩
  | 49 => ⟨S2x8192x4x4x32, .f32⟩
  | 50 => ⟨S2x8192x4x4x32, .f32⟩
  | 51 => ⟨S2x8192x4x4x32, .f32⟩
  | 52 => ⟨S2x8192x4x4x32, .f32⟩
  | 53 => ⟨S2x8192x4x4x32, .f32⟩
  | 54 => ⟨S2x8192x4x4x32, .f32⟩
  | 55 => ⟨S2x8192x4x4x32, .f32⟩
  | 56 => ⟨S2x8192x4x4x32, .f32⟩
  | 57 => ⟨S2x8192x4x4x64, .f32⟩
  | 58 => ⟨S2x8192x4x64, .f32⟩
  | 59 => ⟨S2x8192x1x32, .f32⟩
  | 60 => ⟨S2x8192x1x32, .f32⟩
  | 61 => ⟨S2x8192x4x32, .f32⟩
  | 62 => ⟨S2x8192x4x32, .f32⟩
  | 63 => ⟨S2x8192x4x32, .f32⟩
  | 64 => ⟨S2x8192x4x32, .f32⟩
  | 65 => ⟨S2x8192x4x32, .f32⟩
  | 66 => ⟨S2x8192x4x32, .f32⟩
  | 67 => ⟨S2x8192x4x32, .f32⟩
  | 68 => ⟨S2x8192x4x32, .f32⟩
  | 69 => ⟨S2x8192x4x32, .f32⟩
  | 70 => ⟨S2x8192x4x32, .f32⟩
  | 71 => ⟨S2x8192x4x32, .f32⟩
  | 72 => ⟨S2x8192x4x32, .f32⟩
  | 73 => ⟨S2x8192x4x64, .f32⟩
  | 74 => ⟨S2x8192x4x64, .f32⟩
  | 75 => ⟨S2x64x128x4x4x64, .f32⟩
  | 76 => ⟨S_, .f32⟩
  | 77 => ⟨S2x64x128x4x4x64, .f32⟩
  | 78 => ⟨S2x64x128x4x4x64, .f32⟩
  | 79 => ⟨S2x64x128x4x64, .f32⟩
  | 80 => ⟨S2x64x128x4x64, .f32⟩
  | 81 => ⟨S2x1x128x4x64, .f32⟩
  | 82 => ⟨S_, .f32⟩
  | 83 => ⟨S2x1x128x4x64, .f32⟩
  | 84 => ⟨S2x63x128x4x64, .f32⟩
  | 85 => ⟨S2x64x128x4x64, .f32⟩
  | 86 => ⟨S2x64x256x4x64, .f32⟩
  | 87 => ⟨S2x1x128x4x64, .f32⟩
  | 88 => ⟨S_, .f32⟩
  | 89 => ⟨S2x1x128x4x64, .f32⟩
  | 90 => ⟨S2x63x128x4x64, .f32⟩
  | 91 => ⟨S2x64x128x4x64, .f32⟩
  | 92 => ⟨S2x64x256x4x64, .f32⟩
  | 93 => ⟨S2x4x64x256x128x4, .f32⟩
  | 94 => ⟨S2x4x4x64x128x256, .f32⟩
  | 95 => ⟨S128, .i32⟩
  | 96 => ⟨S128x1, .i32⟩
  | 97 => ⟨S_, .i32⟩
  | 98 => ⟨S128x1, .i32⟩
  | 99 => ⟨S128x1, .i32⟩
  | 100 => ⟨S256, .i32⟩
  | 101 => ⟨S1x256, .i32⟩
  | 102 => ⟨S128x256, .i32⟩
  | 103 => ⟨S128x256, .i32⟩
  | 104 => ⟨S128x256, .i32⟩
  | 105 => ⟨S_, .i32⟩
  | 106 => ⟨S128x256, .i32⟩
  | 107 => ⟨S128x256, .i1⟩
  | 108 => ⟨S_, .i32⟩
  | 109 => ⟨S128x256, .i32⟩
  | 110 => ⟨S128x256, .i1⟩
  | 111 => ⟨S128x256, .i1⟩
  | 112 => ⟨S1x128x256, .i1⟩
  | 113 => ⟨S64, .i32⟩
  | 114 => ⟨S64x1x1, .i32⟩
  | 115 => ⟨S_, .i32⟩
  | 116 => ⟨S64x1x1, .i32⟩
  | 117 => ⟨S64x1x1, .i1⟩
  | 118 => ⟨S1x1x256, .i32⟩
  | 119 => ⟨S_, .i32⟩
  | 120 => ⟨S1x1x256, .i32⟩
  | 121 => ⟨S1x1x256, .i1⟩
  | 122 => ⟨S64x1x256, .i1⟩
  | 123 => ⟨S64x1x256, .i1⟩
  | 124 => ⟨S64x1x256, .i1⟩
  | 125 => ⟨S64x128x256, .i1⟩
  | 126 => ⟨S64x128x256, .i1⟩
  | 127 => ⟨S64x128x256, .i1⟩
  | _ => ⟨S16, .f32⟩

abbrev hbmTy0_1 (i : Nat) : BufTy := match i % 128 with
  | 0 => ⟨S_, .f32⟩
  | 1 => ⟨S_, .f32⟩
  | 2 => ⟨S2x4x4x64x128x256, .i1⟩
  | 3 => ⟨S2x4x4x64x128x256, .f32⟩
  | 4 => ⟨S2x4x4x64x128x256, .f32⟩
  | 5 => ⟨S4x4, .f32⟩
  | 6 => ⟨S1x4x4x1x1x1, .f32⟩
  | 7 => ⟨S_, .f32⟩
  | 8 => ⟨S2x4x4x64x128, .f32⟩
  | 9 => ⟨S2x4x4x64x128x1, .f32⟩
  | 10 => ⟨S2x4x4x64x128x1, .f32⟩
  | 11 => ⟨S2x4x4x64x128x1, .f32⟩
  | 12 => ⟨S2x4x4x64x128x256, .f32⟩
  | 13 => ⟨S2x4x4x64x128x256, .f32⟩
  | 14 => ⟨S2x4x4x64x128x256, .f32⟩
  | 15 => ⟨S_, .f32⟩
  | 16 => ⟨S2x4x4x64x128, .f32⟩
  | 17 => ⟨S2x4x4x64x128x1, .f32⟩
  | 18 => ⟨S2x4x4x64x128x1, .f32⟩
  | 19 => ⟨S2x4x4x64x128x1, .f32⟩
  | 20 => ⟨S2x4x4x64x128x1, .f32⟩
  | 21 => ⟨S2x4x4x64x128x1, .f32⟩
  | 22 => ⟨S2x4x4x64x128x256, .f32⟩
  | 23 => ⟨S2x4x4x64x128x256, .f32⟩
  | 24 => ⟨S2x64x4x64x4x128, .f32⟩
  | 25 => ⟨S2x64x128x4x4x64, .f32⟩
  | 26 => ⟨S2x8192x1024, .f32⟩
  | 27 => ⟨S2x8192x1024, .f32⟩
  | 28 => ⟨S2x8192x1024, .f32⟩
  | 29 => ⟨S2x8192x1024, .f32⟩
  | 30 => ⟨S_, .f32⟩
  | 31 => ⟨S2x8192x1024, .f32⟩
  | 32 => ⟨S2x8192x1024, .f32⟩
  | 33 => ⟨S_, .f32⟩
  | 34 => ⟨S2x8192x1024, .f32⟩
  | 35 => ⟨S2x8192x1024, .f32⟩
  | 36 => ⟨S2x8192x1024, .f32⟩
  | 37 => ⟨S2x8192x1024, .f32⟩
  | 38 => ⟨S2x8192x1024, .f32⟩
  | 39 => ⟨S_, .f32⟩
  | 40 => ⟨S2x8192x1024, .f32⟩
  | 41 => ⟨S2x8192x1024, .f32⟩
  | 42 => ⟨S_, .f32⟩
  | 43 => ⟨S2x8192x1024, .f32⟩
  | 44 => ⟨S2x8192x1024, .f32⟩
  | 45 => ⟨S2x8192x1024, .f32⟩
  | 46 => ⟨S2x8192x1024, .f32⟩
  | 47 => ⟨S2x8192x1024, .f32⟩
  | 48 => ⟨S2x8192x1024, .f32⟩
  | 49 => ⟨S_, .f32⟩
  | 50 => ⟨S2x8192, .f32⟩
  | 51 => ⟨S2x8192x1, .f32⟩
  | 52 => ⟨S_, .f32⟩
  | 53 => ⟨S2x8192x1, .f32⟩
  | 54 => ⟨S2x8192x1, .f32⟩
  | 55 => ⟨S_, .f32⟩
  | 56 => ⟨S2x8192x1, .f32⟩
  | 57 => ⟨S2x8192x1, .f32⟩
  | 58 => ⟨S2x8192x1, .f32⟩
  | 59 => ⟨S2x8192x1024, .f32⟩
  | 60 => ⟨S2x8192x1024, .f32⟩
  | 61 => ⟨S1x1x1024, .f32⟩
  | 62 => ⟨S2x8192x1024, .f32⟩
  | 63 => ⟨S2x8192x1024, .f32⟩
  | 64 => ⟨S2x8192x1024, .f32⟩
  | 65 => ⟨S16384x1024, .f32⟩
  | _ => ⟨S16, .f32⟩

abbrev hbmTy (i : Nat) : BufTy := match i / 128 with
  | 0 => hbmTy0_0 i
  | 1 => hbmTy0_1 i
  | _ => ⟨S16, .f32⟩

abbrev bufTy : (tb : Table) → Fin (tcTables nBuf tb) → BufTy
  | .hbm, ⟨i, _⟩ => hbmTy i
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_2 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_3 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_4 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_c : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_c_5 : Ref sig .tc := ⟨.hbm, 105, rfl⟩
abbrev main_v88 : Ref sig .tc := ⟨.hbm, 106, rfl⟩
abbrev main_v89 : Ref sig .tc := ⟨.hbm, 107, rfl⟩
abbrev main_c_6 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_c_7 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_c_8 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_cst_9 : Ref sig .tc := ⟨.hbm, 128, rfl⟩
abbrev main_call0_v0 : Ref sig .tc := ⟨.hbm, 129, rfl⟩
abbrev main_call0_v1 : Ref sig .tc := ⟨.hbm, 130, rfl⟩
abbrev main_call0_v2 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_cst_10 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_cst_11 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_cst_12 : Ref sig .tc := ⟨.hbm, 158, rfl⟩
abbrev main_v131 : Ref sig .tc := ⟨.hbm, 159, rfl⟩
abbrev main_v132 : Ref sig .tc := ⟨.hbm, 160, rfl⟩
abbrev main_cst_13 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_cst_14 : Ref sig .tc := ⟨.hbm, 167, rfl⟩
abbrev main_v138 : Ref sig .tc := ⟨.hbm, 168, rfl⟩
abbrev main_v139 : Ref sig .tc := ⟨.hbm, 169, rfl⟩
abbrev main_cst_15 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_cst_16 : Ref sig .tc := ⟨.hbm, 177, rfl⟩
abbrev main_v146 : Ref sig .tc := ⟨.hbm, 178, rfl⟩
abbrev main_v147 : Ref sig .tc := ⟨.hbm, 179, rfl⟩
abbrev main_cst_17 : Ref sig .tc := ⟨.hbm, 180, rfl⟩
abbrev main_v148 : Ref sig .tc := ⟨.hbm, 181, rfl⟩
abbrev main_v149 : Ref sig .tc := ⟨.hbm, 182, rfl⟩
abbrev main_cst_18 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S512x1024 : Shape := ⟨2, ![512, 1024]⟩
abbrev S8x5632 : Shape := ⟨2, ![8, 5632]⟩
abbrev S512x2816 : Shape := ⟨2, ![512, 2816]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S8x256 : Shape := ⟨2, ![8, 256]⟩
abbrev S3x256 : Shape := ⟨2, ![3, 256]⟩
abbrev S1x256 : Shape := ⟨2, ![1, 256]⟩
abbrev S264x256 : Shape := ⟨2, ![264, 256]⟩
abbrev S33x8x256 : Shape := ⟨3, ![33, 8, 256]⟩
abbrev S32x8x256 : Shape := ⟨3, ![32, 8, 256]⟩
abbrev S256x2816 : Shape := ⟨2, ![256, 2816]⟩
abbrev S2816x256 : Shape := ⟨2, ![2816, 256]⟩

abbrev nBuf : Space → Nat
  | .hbm => 13
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1x1024, .f32⟩
  | .hbm, ⟨8, _⟩ => ⟨S1024x5632, .bf16⟩
  | .hbm, ⟨9, _⟩ => ⟨S1x5632, .f32⟩
  | .hbm, ⟨10, _⟩ => ⟨S2816x1024, .bf16⟩
  | .hbm, ⟨11, _⟩ => ⟨S1x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S8x5632, .f32⟩
  | .local _ .vmem, ⟨11, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnIdeal.lean ====
variable {F : FTy → Type} [FloatOps F] [Named F]
def κ : String → Option EReal := fun
  | "gelu_a" => some ((((-2) * (6693141 / 8388608)) * (Real.log 2)⁻¹ : ℝ) : EReal)
  | "gelu_b" => some (((((-2) * (6693141 / 8388608)) * (Real.log 2)⁻¹) * (12003091 / 268435456) : ℝ) : EReal)
  | _ => none
-- ==== FfnReferenceIdeal.lean ====
abbrev S16384x1024 : Shape := ⟨2, ![16384, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8194x5632 : Shape := ⟨3, ![2, 8194, 5632]⟩
abbrev S1x5632 : Shape := ⟨2, ![1, 5632]⟩
abbrev S1x1x5632 : Shape := ⟨3, ![1, 1, 5632]⟩
abbrev S2x8192x2816 : Shape := ⟨3, ![2, 8192, 2816]⟩

abbrev nBuf : Space → Nat
  | .hbm => 93
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S2x8192x1024, .f32⟩
  | .hbm, ⟨8, _⟩ => ⟨S2x8192x1024, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S1x1x1024, .f32⟩
  | .hbm, ⟨22, _⟩ => ⟨S2x8192x1024, .f32⟩
  | .hbm, ⟨23, _⟩ => ⟨S2x8192x1024, .f32⟩
  | .hbm, ⟨24, _⟩ => ⟨S2x8192x5632, .f32⟩
  | .hbm, ⟨25, _⟩ => ⟨S_, .i32⟩
  | .hbm, ⟨26, _⟩ => ⟨S_, .f32⟩
  | .hbm, ⟨27, _⟩ => ⟨S2x8194x5632, .f32⟩
  | .hbm, ⟨28, _⟩ => ⟨S1x5632, .f32⟩
  | .hbm, ⟨29, _⟩ => ⟨S5632, .f32⟩
  | .hbm, ⟨30, _⟩ => ⟨S2x8192x5632, .f32⟩
  | .hbm, ⟨31, _⟩ => ⟨S1x1x5632, .f32⟩
  | .hbm, ⟨32, _⟩ => ⟨S2x8192x5632, .f32⟩
  | .hbm, ⟨33, _⟩ => ⟨S2x8192x5632, .f32⟩
  | .hbm, ⟨34, _⟩ => ⟨S_, .f32⟩
  | .hbm, ⟨35, _⟩ => ⟨S2x8192x5632, .f32⟩
  | .hbm, ⟨36, _⟩ => ⟨S2x8192x5632, .f32⟩
  | .hbm, ⟨37, _⟩ => ⟨S1x5632, .f32⟩
  | .hbm, ⟨38, _⟩ => ⟨S5632, .f32⟩
  | .hbm, ⟨39, _⟩ => ⟨S2x8192x5632, .f32⟩
  | .hbm, ⟨40, _⟩ => ⟨S1x1x5632, .f32⟩
  | .hbm, ⟨41, _⟩ => ⟨S2x8192x5632, .f32⟩
  | .hbm, ⟨42, _⟩ => ⟨S2x8192x5632, .f32⟩
  | .hbm, ⟨43, _⟩ => ⟨S2x8192x5632, .f32⟩
  | .hbm, ⟨44, _⟩ => ⟨S1x5632, .f32⟩
  | .hbm, ⟨45, _⟩ => ⟨S5632, .f32⟩
  | .hbm, ⟨46, _⟩ => ⟨S2x8192x5632, .f32⟩
  | .hbm, ⟨47, _⟩ => ⟨S1x1x5632, .f32⟩
  | .hbm, ⟨48, _⟩ => ⟨S2x8192x5632, .f32⟩
  | .hbm, ⟨49, _⟩ => ⟨S2x8192x5632, .f32⟩
  | .hbm, ⟨50, _⟩ => ⟨S2x8192x5632, .f32⟩
  | .hbm, ⟨51, _⟩ => ⟨S1x1x5632, .f32⟩
  | .hbm, ⟨52, _⟩ => ⟨S2x8192x5632, .f32⟩
  | .hbm, ⟨53, _⟩ => ⟨S2x8192x5632, .f32⟩
  | .hbm, ⟨54, _⟩ => ⟨S2x8192x2816, .f32⟩
  | .hbm, ⟨55, _⟩ => ⟨S2x8192x2816, .f32⟩
  | .hbm, ⟨56, _⟩ => ⟨S2x8192x2816, .f32⟩
  | .hbm, ⟨57, _⟩ => ⟨S2x8192x2816, .f32⟩
  | .hbm, ⟨58, _⟩ => ⟨S_, .f32⟩
  | .hbm, ⟨59, _⟩ => ⟨S2x8192x2816, .f32⟩
  | .hbm, ⟨60, _⟩ => ⟨S2x8192x2816, .f32⟩
  | .hbm, ⟨61, _⟩ => ⟨S2x8192x2816, .f32⟩
  | .hbm, ⟨62, _⟩ => ⟨S_, .f32⟩
  | .hbm, ⟨63, _⟩ => ⟨S2x8192x2816, .f32⟩
  | .hbm, ⟨64, _⟩ => ⟨S2x8192x2816, .f32⟩
  | .hbm, ⟨65, _⟩ => ⟨S2x8192x2816, .f32⟩
  | .hbm, ⟨66, _⟩ => ⟨S_, .f32⟩
  | .hbm, ⟨67, _⟩ => ⟨S2x8192x2816, .f32⟩
  | .hbm, ⟨68, _⟩ => ⟨S2x8192x2816, .f32⟩
  | .hbm, ⟨69, _⟩ => ⟨S_, .f32⟩
  | .hbm, ⟨70, _⟩ => ⟨S2x8192x2816, .f32⟩
  | .hbm, ⟨71, _⟩ => ⟨S2x8192x2816, .f32⟩
  | .hbm, ⟨72, _⟩ => ⟨S2x8192x2816, .f32⟩
  | .hbm, ⟨73, _⟩ => ⟨S2x8192x2816, .f32⟩
  | .hbm, ⟨74, _⟩ => ⟨S2x8192x1024, .f32⟩
  | .hbm, ⟨75, _⟩ => ⟨S2x8192x1024, .f32⟩
  | .hbm, ⟨76, _⟩ => ⟨S_, .f32⟩
  | .hbm, ⟨77, _⟩ => ⟨S2x8192, .f32⟩
  | .hbm, ⟨78, _⟩ => ⟨S2x8192x1, .f32⟩
  | .hbm, ⟨79, _⟩ => ⟨S_, .f32⟩
  | .hbm, ⟨80, _⟩ => ⟨S2x8192x1, .f32⟩
  | .hbm, ⟨81, _⟩ => ⟨S2x8192x1, .f32⟩
  | .hbm, ⟨82, _⟩ => ⟨S_, .f32⟩
  | .hbm, ⟨83, _⟩ => ⟨S2x8192x1, .f32⟩
  | .hbm, ⟨84, _⟩ => ⟨S2x8192x1, .f32⟩
  | .hbm, ⟨85, _⟩ => ⟨S2x8192x1, .f32⟩
  | .hbm, ⟨86, _⟩ => ⟨S2x8192x1024, .f32⟩
  | .hbm, ⟨87, _⟩ => ⟨S2x8192x1024, .f32⟩
  | .hbm, ⟨88, _⟩ => ⟨S1x1x1024, .f32⟩
  | .hbm, ⟨89, _⟩ => ⟨S2x8192x1024, .f32⟩
  | .hbm, ⟨90, _⟩ => ⟨S2x8192x1024, .f32⟩
  | .hbm, ⟨91, _⟩ => ⟨S2x8192x1024, .f32⟩
  | .hbm, ⟨92, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_call0_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_4 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_5 : Ref sig .tc := ⟨.hbm, 66, rfl⟩
abbrev main_v51 : Ref sig .tc := ⟨.hbm, 67, rfl⟩
abbrev main_v52 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_7 : Ref sig .tc := ⟨.hbm, 76, rfl⟩
abbrev main_v59 : Ref sig .tc := ⟨.hbm, 77, rfl⟩
abbrev main_v60 : Ref sig .tc := ⟨.hbm, 78, rfl⟩
abbrev main_cst_8 : Ref sig .tc := ⟨.hbm, 79, rfl⟩
abbrev main_v61 : Ref sig .tc := ⟨.hbm, 80, rfl⟩
abbrev main_v62 : Ref sig .tc := ⟨.hbm, 81, rfl⟩
abbrev main_cst_9 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩

abbrev nD : Nat := 1
abbrev τ : Topo := Topo.v7x

variable {F : FTy → Type} [FloatOps F]
-- ==== Proof.KernelIdeal.Offsets.lean ====
/-
  The attention scratch is double buffered: at grid point `j` the body stores into slot `j % 2` and reads the
  other slot. This module gives those offsets in closed form.
-/
module

public import proofs.«01_k».proof.Proof.Gen.KernelIdeal.Skeleton
public import proofs.«01_k».proof.Proof.Gen.KernelIdeal.Frame
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The slot word `j % 2` as the body computes it. -/
abbrev slotW (i : grid0.Coords) : BitVec 32 := Scalar.remsi (BitVec.ofNat 32 (i 0).val) 2#32

/-- The slot stored into at grid point `j`. -/
theorem store_slot : ∀ i : grid0.Coords, k0_off1 i 0 = (i 0).val % 2 := by decide +kernel
/-- The slot read at grid point `j`. -/
theorem load_slot : ∀ i : grid0.Coords, k0_off17 i 0 = 1 - (i 0).val % 2 := by decide +kernel

/-- An offset into the stored slot: block `b`, row `h`. -/
@[reducible] def inStored (i : grid0.Coords) (b h : Nat) {off : Fin 4 → Nat} (e : off = ![k0_off1 i 0, b, h, 0]) : ClosedOff off :=
  ⟨![(i 0).val % 2, b, h, 0], by rw [e, store_slot]⟩
/-- An offset into the slot read: block `b`. -/
@[reducible] def inRead (i : grid0.Coords) (b : Nat) {off : Fin 4 → Nat} (e : off = ![k0_off17 i 0, b, 0, 0]) : ClosedOff off :=
  ⟨![1 - (i 0).val % 2, b, 0, 0], by rw [e, load_slot]⟩

section Instances
variable (i : grid0.Coords)
instance : ClosedOff (k0_off1 i) := inStored i 0 0 rfl
instance : ClosedOff (k0_off2 i) := inStored i 0 64 rfl
instance : ClosedOff (k0_off3 i) := inStored i 0 128 rfl
instance : ClosedOff (k0_off4 i) := inStored i 0 192 rfl
instance : ClosedOff (k0_off5 i) := inStored i 0 256 rfl
instance : ClosedOff (k0_off6 i) := inStored i 0 320 rfl
instance : ClosedOff (k0_off7 i) := inStored i 0 384 rfl
instance : ClosedOff (k0_off8 i) := inStored i 0 448 rfl
instance : ClosedOff (k0_off9 i) := inStored i 0 512 rfl
instance : ClosedOff (k0_off10 i) := inStored i 0 576 rfl
instance : ClosedOff (k0_off11 i) := inStored i 0 640 rfl
instance : ClosedOff (k0_off12 i) := inStored i 0 704 rfl
instance : ClosedOff (k0_off13 i) := inStored i 0 768 rfl
instance : ClosedOff (k0_off14 i) := inStored i 0 832 rfl
instance : ClosedOff (k0_off15 i) := inStored i 0 896 rfl
instance : ClosedOff (k0_off16 i) := inStored i 0 960 rfl
instance : ClosedOff (k0_off17 i) := inRead i 0 rfl
instance : ClosedOff (k0_off18 i) := inRead i 1 rfl
instance : ClosedOff (k0_off19 i) := inRead i 2 rfl
instance : ClosedOff (k0_off20 i) := inRead i 3 rfl
instance : ClosedOff (k0_off21 i) := inStored i 1 0 rfl
instance : ClosedOff (k0_off22 i) := inStored i 1 64 rfl
instance : ClosedOff (k0_off23 i) := inStored i 1 128 rfl
instance : ClosedOff (k0_off24 i) := inStored i 1 192 rfl
instance : ClosedOff (k0_off25 i) := inStored i 1 256 rfl
instance : ClosedOff (k0_off26 i) := inStored i 1 320 rfl
instance : ClosedOff (k0_off27 i) := inStored i 1 384 rfl
instance : ClosedOff (k0_off28 i) := inStored i 1 448 rfl
instance : ClosedOff (k0_off29 i) := inStored i 1 512 rfl
instance : ClosedOff (k0_off30 i) := inStored i 1 576 rfl
instance : ClosedOff (k0_off31 i) := inStored i 1 640 rfl
instance : ClosedOff (k0_off32 i) := inStored i 1 704 rfl
instance : ClosedOff (k0_off33 i) := inStored i 1 768 rfl
instance : ClosedOff (k0_off34 i) := inStored i 1 832 rfl
instance : ClosedOff (k0_off35 i) := inStored i 1 896 rfl
instance : ClosedOff (k0_off36 i) := inStored i 1 960 rfl
instance : ClosedOff (k0_off37 i) := inStored i 2 0 rfl
instance : ClosedOff (k0_off38 i) := inStored i 2 64 rfl
instance : ClosedOff (k0_off39 i) := inStored i 2 128 rfl
instance : ClosedOff (k0_off40 i) := inStored i 2 192 rfl
instance : ClosedOff (k0_off41 i) := inStored i 2 256 rfl
instance : ClosedOff (k0_off42 i) := inStored i 2 320 rfl
instance : ClosedOff (k0_off43 i) := inStored i 2 384 rfl
instance : ClosedOff (k0_off44 i) := inStored i 2 448 rfl
instance : ClosedOff (k0_off45 i) := inStored i 2 512 rfl
instance : ClosedOff (k0_off46 i) := inStored i 2 576 rfl
instance : ClosedOff (k0_off47 i) := inStored i 2 640 rfl
instance : ClosedOff (k0_off48 i) := inStored i 2 704 rfl
instance : ClosedOff (k0_off49 i) := inStored i 2 768 rfl
instance : ClosedOff (k0_off50 i) := inStored i 2 832 rfl
instance : ClosedOff (k0_off51 i) := inStored i 2 896 rfl
instance : ClosedOff (k0_off52 i) := inStored i 2 960 rfl
instance : ClosedOff (k0_off53 i) := inStored i 3 0 rfl
instance : ClosedOff (k0_off54 i) := inStored i 3 64 rfl
instance : ClosedOff (k0_off55 i) := inStored i 3 128 rfl
instance : ClosedOff (k0_off56 i) := inStored i 3 192 rfl
instance : ClosedOff (k0_off57 i) := inStored i 3 256 rfl
instance : ClosedOff (k0_off58 i) := inStored i 3 320 rfl
instance : ClosedOff (k0_off59 i) := inStored i 3 384 rfl
instance : ClosedOff (k0_off60 i) := inStored i 3 448 rfl
instance : ClosedOff (k0_off61 i) := inStored i 3 512 rfl
instance : ClosedOff (k0_off62 i) := inStored i 3 576 rfl
instance : ClosedOff (k0_off63 i) := inStored i 3 640 rfl
instance : ClosedOff (k0_off64 i) := inStored i 3 704 rfl
instance : ClosedOff (k0_off65 i) := inStored i 3 768 rfl
instance : ClosedOff (k0_off66 i) := inStored i 3 832 rfl
instance : ClosedOff (k0_off67 i) := inStored i 3 896 rfl
instance : ClosedOff (k0_off68 i) := inStored i 3 960 rfl
end Instances

end Cert.KernelIdeal.Attn

end
-- ==== Proof.KernelIdeal.Run.lean ====
/-
  One run of the body at any grid point, from the sixteen buffers held whole: the first part, which clears three
  scratches at the first point, and everything after it. What the body leaves in the output window and in the
  scratches are terms over what it found, found by the run.
-/
module

public import proofs.«01_k».proof.Proof.KernelIdeal.Offsets
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The contents type of memref `M`'s buffer on core `c`. -/
abbrev Bf (c : Dev nD) {sp : Space} {S : Shape} {e : EltTy} (M : Memref sig .tc sp S e) : Type := Buf (Elt F) (M.view.loc (c : Thread nD τ))
/-- Memref `M`'s buffer held whole at `f`. -/
abbrev pt (c : Dev nD) {sp : Space} {S : Shape} {e : EltTy} (M : Memref sig .tc sp S e) (f : Bf (F := F) c M) : sProp 𝕄 :=
  M.view.loc (c : Thread nD τ) ↦{fullShare} f

/-- What the first part hands on. -/
abbrev R1 : Type := Σ' (_ : BitVec 1) (_ : BitVec 32) (_ : IVec S128x512 32) (_ : BitVec 32) (_ : IVec S128x512 32) (_ : IVec S128x512 1) (_ : IVec S128x512 1), BitVec 1

/-- The body after its first part. -/
noncomputable def restOf (i : grid0.Coords)
    (M1 : Memref sig .tc .smem S16 .f32) (h1 : M1.IsWhole)
    (M2 : Memref sig .tc .vmem S1536x512 .bf16) (h2 : M2.IsWhole)
    (M3 : Memref sig .tc .vmem S1x512 .i32) (h3 : M3.IsWhole)
    (M4 : Memref sig .tc .vmem S32x128 .f32) (h4 : M4.IsWhole)
    (M5 : Memref sig .tc .vmem S512x2048 .bf16) (h5 : M5.IsWhole)
    (M6 : Memref sig .tc .vmem S512x2048 .bf16) (h6 : M6.IsWhole)
    (M7 : Memref sig .tc .vmem S512x1024 .f32) (h7 : M7.IsWhole)
    (M8 : Memref sig .tc .vmem S2048x1024 .bf16) (h8 : M8.IsWhole)
    (M9 : Memref sig .tc .vmem S1024x1024 .bf16) (h9 : M9.IsWhole)
    (M10 : Memref sig .tc .vmem S1024x1024 .bf16) (h10 : M10.IsWhole)
    (M11 : Memref sig .tc .vmem S1x1024 .f32) (h11 : M11.IsWhole)
    (M12 : Memref sig .tc .vmem S512x1024 .f32) (h12 : M12.IsWhole)
    (M13 : Memref sig .tc .vmem S1024x128 .bf16) (h13 : M13.IsWhole)
    (M14 : Memref sig .tc .vmem S2x4x128x64 .bf16) (h14 : M14.IsWhole)
    (M15 : Memref sig .tc .vmem S2x256x128 .bf16) (h15 : M15.IsWhole)
    (M16 : Memref sig .tc .vmem S2x4x1024x128 .bf16) (h16 : M16.IsWhole)
    : { p : R1 → Prog (TpuEff nD τ sig (Elt F) Λ₀ .tc) PUnit //
        cc0_attn_mix (F := F) i M1 h1 M2 h2 M3 h3 M4 h4 M5 h5 M6 h6 M7 h7 M8 h8 M9 h9 M10 h10 M11 h11 M12 h12 M13 h13 M14 h14 M15 h15 M16 h16
          = k0_part1 (F := F) i M1 h1 M2 h2 M3 h3 M4 h4 M5 h5 M6 h6 M7 h7 M8 h8 M9 h9 M10 h10 M11 h11 M12 h12 M13 h13 M14 h14 M15 h15 M16 h16 >>= p } :=
  by
    refine ⟨?p, ?h⟩
    case h =>
      rw [cc0_attn_mix_eq_skeleton]; unfold cc0_attn_mix_skel
      rw [k0_part73_eq_skeleton]; unfold k0_part73_skel
      exact Prog.bind_assoc _ _ _

/-- A scratch as the first part leaves it: cleared at the first point, else as found. -/
def init14 (i : grid0.Coords) (c : Dev nD) (M : Memref sig .tc .vmem S2x4x128x64 .bf16) (f : Bf (F := F) c M) : Bf (F := F) c M :=
  if (i 0).val = 0 then M.view.writes (Elt F) M.view.junk [⟨Rect.unit (s := S2x4x128x64) ![0, 0, 0, 0] S2x4x128x64.size inb_S2x4x128x64_S2x4x128x64_0_0_0_0, k0_pay2 (F := F)⟩] else f
/-- As `init14`, for the values' scratch. -/
def init15 (i : grid0.Coords) (c : Dev nD) (M : Memref sig .tc .vmem S2x256x128 .bf16) (f : Bf (F := F) c M) : Bf (F := F) c M :=
  if (i 0).val = 0 then M.view.writes (Elt F) M.view.junk [⟨Rect.unit (s := S2x256x128) ![0, 0, 0] S2x256x128.size inb_S2x256x128_S2x256x128_0_0_0, k0_pay3 (F := F)⟩] else f
/-- As `init14`, for the attention scratch. -/
def init16 (i : grid0.Coords) (c : Dev nD) (M : Memref sig .tc .vmem S2x4x1024x128 .bf16) (f : Bf (F := F) c M) : Bf (F := F) c M :=
  if (i 0).val = 0 then M.view.writes (Elt F) M.view.junk [⟨Rect.unit (s := S2x4x1024x128) ![0, 0, 0, 0] S2x4x1024x128.size inb_S2x4x1024x128_S2x4x1024x128_0_0_0_0, k0_pay1 (F := F)⟩] else f

/-- The word the first part tests: one at the first point alone. -/
abbrev firstW (i : grid0.Coords) : BitVec 1 :=
  Scalar.cmpi .ne (Scalar.extui (Scalar.cmpi .eq (BitVec.ofNat 32 (i 0).val) 0#32) : BitVec 32) 0#32
theorem firstW_iff : ∀ i : grid0.Coords, firstW i = 1#1 ↔ (i 0).val = 0 := by decide +kernel

section Init
variable {i : grid0.Coords} {c : Dev nD}
theorem init14_eq {M : Memref sig .tc .vmem S2x4x128x64 .bf16} (h : M.IsWhole) (f : Bf (F := F) c M) :
    init14 i c M f = if _ : firstW i = 1#1 then M.view.writes (Elt F) f [⟨Rect.unit (s := S2x4x128x64) ![0, 0, 0, 0] S2x4x128x64.size inb_S2x4x128x64_S2x4x128x64_0_0_0_0, k0_pay2 (F := F)⟩] else f := by
  unfold init14
  split <;> rename_i e <;> [rw [dif_pos ((firstW_iff i).mpr e)]; rw [dif_neg fun h => e ((firstW_iff i).mp h)]]
  exact (Memref.writes_eq_junk_of_covChk h f _ (.leaf 0) rfl).symm
theorem init15_eq {M : Memref sig .tc .vmem S2x256x128 .bf16} (h : M.IsWhole) (f : Bf (F := F) c M) :
    init15 i c M f = if _ : firstW i = 1#1 then M.view.writes (Elt F) f [⟨Rect.unit (s := S2x256x128) ![0, 0, 0] S2x256x128.size inb_S2x256x128_S2x256x128_0_0_0, k0_pay3 (F := F)⟩] else f := by
  unfold init15
  split <;> rename_i e <;> [rw [dif_pos ((firstW_iff i).mpr e)]; rw [dif_neg fun h => e ((firstW_iff i).mp h)]]
  exact (Memref.writes_eq_junk_of_covChk h f _ (.leaf 0) rfl).symm
theorem init16_eq {M : Memref sig .tc .vmem S2x4x1024x128 .bf16} (h : M.IsWhole) (f : Bf (F := F) c M) :
    init16 i c M f = if _ : firstW i = 1#1 then M.view.writes (Elt F) f [⟨Rect.unit (s := S2x4x1024x128) ![0, 0, 0, 0] S2x4x1024x128.size inb_S2x4x1024x128_S2x4x1024x128_0_0_0_0, k0_pay1 (F := F)⟩] else f := by
  unfold init16
  split <;> rename_i e <;> [rw [dif_pos ((firstW_iff i).mpr e)]; rw [dif_neg fun h => e ((firstW_iff i).mp h)]]
  exact (Memref.writes_eq_junk_of_covChk h f _ (.leaf 0) rfl).symm
end Init

/-- The run of the first part. -/
noncomputable def part1Run (c : Dev nD) (i : grid0.Coords)
    (M1 : Memref sig .tc .smem S16 .f32) (h1 : M1.IsWhole)
    (M2 : Memref sig .tc .vmem S1536x512 .bf16) (h2 : M2.IsWhole)
    (M3 : Memref sig .tc .vmem S1x512 .i32) (h3 : M3.IsWhole)
    (M4 : Memref sig .tc .vmem S32x128 .f32) (h4 : M4.IsWhole)
    (M5 : Memref sig .tc .vmem S512x2048 .bf16) (h5 : M5.IsWhole)
    (M6 : Memref sig .tc .vmem S512x2048 .bf16) (h6 : M6.IsWhole)
    (M7 : Memref sig .tc .vmem S512x1024 .f32) (h7 : M7.IsWhole)
    (M8 : Memref sig .tc .vmem S2048x1024 .bf16) (h8 : M8.IsWhole)
    (M9 : Memref sig .tc .vmem S1024x1024 .bf16) (h9 : M9.IsWhole)
    (M10 : Memref sig .tc .vmem S1024x1024 .bf16) (h10 : M10.IsWhole)
    (M11 : Memref sig .tc .vmem S1x1024 .f32) (h11 : M11.IsWhole)
    (M12 : Memref sig .tc .vmem S512x1024 .f32) (h12 : M12.IsWhole)
    (M13 : Memref sig .tc .vmem S1024x128 .bf16) (h13 : M13.IsWhole)
    (M14 : Memref sig .tc .vmem S2x4x128x64 .bf16) (h14 : M14.IsWhole)
    (M15 : Memref sig .tc .vmem S2x256x128 .bf16) (h15 : M15.IsWhole)
    (M16 : Memref sig .tc .vmem S2x4x1024x128 .bf16) (h16 : M16.IsWhole)
    : { r : R1 // ∀ (f14 : Bf (F := F) c M14) (f15 : Bf (F := F) c M15) (f16 : Bf (F := F) c M16) (E : Set ℕ) (Q : R1 → sProp 𝕄),
        iprop(pt c M14 f14 ∗ pt c M15 f15 ∗ pt c M16 f16
          ∗ (iprop(pt c M14 (init14 i c M14 f14) ∗ pt c M15 (init15 i c M15 f15) ∗ pt c M16 (init16 i c M16 f16)) -∗ Q r))
        ⊢ wp frame (wpE (defs₀ (F := F)) Variants.none c none) E
            (k0_part1 i M1 h1 M2 h2 M3 h3 M4 h4 M5 h5 M6 h6 M7 h7 M8 h8 M9 h9 M10 h10 M11 h11 M12 h12 M13 h13 M14 h14 M15 h15 M16 h16) Q } := by
  refine ⟨?_, fun f14 f15 f16 E Q => ?run⟩
  case run =>
    rw [k0_part1_eq_skeleton]; unfold k0_part1_skel
    iintro ⟨H14, H15, H16, Hk⟩
    sl_exec!
    sl_step
    iapply Hk
    rw [init14_eq h14, init15_eq h15, init16_eq h16]
    isplitl [H14]; · iexact H14
    isplitl [H15]; · iexact H15
    iexact H16

/-- The run of everything after the first part, whatever the first part handed on. -/
noncomputable def restRun (c : Dev nD) (i : grid0.Coords)
    (M1 : Memref sig .tc .smem S16 .f32) (h1 : M1.IsWhole)
    (M2 : Memref sig .tc .vmem S1536x512 .bf16) (h2 : M2.IsWhole)
    (M3 : Memref sig .tc .vmem S1x512 .i32) (h3 : M3.IsWhole)
    (M4 : Memref sig .tc .vmem S32x128 .f32) (h4 : M4.IsWhole)
    (M5 : Memref sig .tc .vmem S512x2048 .bf16) (h5 : M5.IsWhole)
    (M6 : Memref sig .tc .vmem S512x2048 .bf16) (h6 : M6.IsWhole)
    (M7 : Memref sig .tc .vmem S512x1024 .f32) (h7 : M7.IsWhole)
    (M8 : Memref sig .tc .vmem S2048x1024 .bf16) (h8 : M8.IsWhole)
    (M9 : Memref sig .tc .vmem S1024x1024 .bf16) (h9 : M9.IsWhole)
    (M10 : Memref sig .tc .vmem S1024x1024 .bf16) (h10 : M10.IsWhole)
    (M11 : Memref sig .tc .vmem S1x1024 .f32) (h11 : M11.IsWhole)
    (M12 : Memref sig .tc .vmem S512x1024 .f32) (h12 : M12.IsWhole)
    (M13 : Memref sig .tc .vmem S1024x128 .bf16) (h13 : M13.IsWhole)
    (M14 : Memref sig .tc .vmem S2x4x128x64 .bf16) (h14 : M14.IsWhole)
    (M15 : Memref sig .tc .vmem S2x256x128 .bf16) (h15 : M15.IsWhole)
    (M16 : Memref sig .tc .vmem S2x4x1024x128 .bf16) (h16 : M16.IsWhole)
    (v11 : BitVec 1) (v24 : BitVec 32) (v25 : IVec S128x512 32) (v28 : BitVec 32) (v30 : IVec S128x512 32) (v32 v34 : IVec S128x512 1) (v35 : BitVec 1)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f14 : Bf (F := F) c M14) (f15 : Bf (F := F) c M15) (f16 : Bf (F := F) c M16) :
    { W : Bf (F := F) c M12 × Bf (F := F) c M14 × Bf (F := F) c M15 × Bf (F := F) c M16 //
      ∀ (f12 : Bf (F := F) c M12) (f13 : Bf (F := F) c M13) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16
          ∗ (iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
            ∗ pt c M12 W.1 ∗ (∃ f, pt c M13 f) ∗ pt c M14 W.2.1 ∗ pt c M15 W.2.2.1 ∗ pt c M16 W.2.2.2) -∗ Q ⟨⟩))
        ⊢ wp frame (wpE (defs₀ (F := F)) Variants.none c none) E
            ((restOf i M1 h1 M2 h2 M3 h3 M4 h4 M5 h5 M6 h6 M7 h7 M8 h8 M9 h9 M10 h10 M11 h11 M12 h12 M13 h13 M14 h14 M15 h15 M16 h16).1 ⟨v11, v24, v25, v28, v30, v32, v34, v35⟩) Q } := by
  refine ⟨⟨?_, ?_, ?_, ?_⟩, fun f12 f13 E Q => ?run⟩
  case run =>
    dsimp only [restOf]
    iintro ⟨H1, H2, H3, H4, H5, H6, H7, H8, H9, H10, H11, H12, H13, H14, H15, H16, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexact H14
    isplitl [H15]; · iexact H15
    iexact H16

end Cert.KernelIdeal.Attn

end
-- ==== Proof.KernelIdeal.Body.lean ====
/-
  The body at every grid point. What the three carried scratches hold at a point is a function of the arguments: the
  first point clears them, and each later point finds what the point before left. The region is run from this and
  from the body's one run.
-/
module

public import proofs.«01_k».proof.Proof.KernelIdeal.Run
public import proofs.«01_k».proof.Proof.Gen.KernelIdeal.Frame
public import Idealize.ShloMosaic.Lib.Pipeline.Frame

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The four scratches as memrefs. -/
abbrev scM0 : Memref sig .tc .vmem S1024x128 .bf16 := Memref.whole cc0_scratch0
abbrev scM1 : Memref sig .tc .vmem S2x4x128x64 .bf16 := Memref.whole cc0_scratch1
abbrev scM2 : Memref sig .tc .vmem S2x256x128 .bf16 := Memref.whole cc0_scratch2
abbrev scM3 : Memref sig .tc .vmem S2x4x1024x128 .bf16 := Memref.whole cc0_scratch3

/-- What the three carried scratches hold. -/
abbrev St (c : Dev nD) : Type := Bf (F := F) c scM1 × Bf (F := F) c scM2 × Bf (F := F) c scM3

theorem owns_pt (c : Dev nD) {sp : Space} {S : Shape} {e : EltTy} {M : Memref sig .tc sp S e} (h : M.IsWhole) (X : S.Idx → Elt F e) :
    (owns (c : Thread nD τ) M fullShare X : sProp 𝕄) = pt c M (h.unread X) := by
  obtain ⟨b, hsp, hsh, he, hM⟩ := id h
  subst hsp hsh he
  cases hM
  rw [owns_whole]
  have := h.read_unread (Val := Elt F) X
  exact congrArg (fun f => ((c : Thread nD τ).loc b ↦{fullShare} f : sProp 𝕄)) this.symm

/-- What the staging buffer of input 0 holds when the body runs at point `t`: the point's block. -/
def fin0 (c : Dev nD) (t : Fin cfg0.N) : Bf (F := F) c (win0_0.stage (cfg0.slots t 0)) := (hstage0_0 ((cfg0.slots t 0).cast nbuf0_0)).unread (iblk m c 0 t)
/-- What the staging buffer of input 1 holds when the body runs at point `t`: the point's block. -/
def fin1 (c : Dev nD) (t : Fin cfg0.N) : Bf (F := F) c (win0_1.stage (cfg0.slots t 1)) := (hstage0_1 ((cfg0.slots t 1).cast nbuf0_1)).unread (iblk m c 1 t)
/-- What the staging buffer of input 2 holds when the body runs at point `t`: the point's block. -/
def fin2 (c : Dev nD) (t : Fin cfg0.N) : Bf (F := F) c (win0_2.stage (cfg0.slots t 2)) := (hstage0_2 ((cfg0.slots t 2).cast nbuf0_2)).unread (iblk m c 2 t)
/-- What the staging buffer of input 3 holds when the body runs at point `t`: the point's block. -/
def fin3 (c : Dev nD) (t : Fin cfg0.N) : Bf (F := F) c (win0_3.stage (cfg0.slots t 3)) := (hstage0_3 ((cfg0.slots t 3).cast nbuf0_3)).unread (iblk m c 3 t)
/-- What the staging buffer of input 4 holds when the body runs at point `t`: the point's block. -/
def fin4 (c : Dev nD) (t : Fin cfg0.N) : Bf (F := F) c (win0_4.stage (cfg0.slots t 4)) := (hstage0_4 ((cfg0.slots t 4).cast nbuf0_4)).unread (iblk m c 4 t)
/-- What the staging buffer of input 5 holds when the body runs at point `t`: the point's block. -/
def fin5 (c : Dev nD) (t : Fin cfg0.N) : Bf (F := F) c (win0_5.stage (cfg0.slots t 5)) := (hstage0_5 ((cfg0.slots t 5).cast nbuf0_5)).unread (iblk m c 5 t)
/-- What the staging buffer of input 6 holds when the body runs at point `t`: the point's block. -/
def fin6 (c : Dev nD) (t : Fin cfg0.N) : Bf (F := F) c (win0_6.stage (cfg0.slots t 6)) := (hstage0_6 ((cfg0.slots t 6).cast nbuf0_6)).unread (iblk m c 6 t)
/-- What the staging buffer of input 7 holds when the body runs at point `t`: the point's block. -/
def fin7 (c : Dev nD) (t : Fin cfg0.N) : Bf (F := F) c (win0_7.stage (cfg0.slots t 7)) := (hstage0_7 ((cfg0.slots t 7).cast nbuf0_7)).unread (iblk m c 7 t)
/-- What the staging buffer of input 8 holds when the body runs at point `t`: the point's block. -/
def fin8 (c : Dev nD) (t : Fin cfg0.N) : Bf (F := F) c (win0_8.stage (cfg0.slots t 8)) := (hstage0_8 ((cfg0.slots t 8).cast nbuf0_8)).unread (iblk m c 8 t)
/-- What the staging buffer of input 9 holds when the body runs at point `t`: the point's block. -/
def fin9 (c : Dev nD) (t : Fin cfg0.N) : Bf (F := F) c (win0_9.stage (cfg0.slots t 9)) := (hstage0_9 ((cfg0.slots t 9).cast nbuf0_9)).unread (iblk m c 9 t)
/-- What the staging buffer of input 10 holds when the body runs at point `t`: the point's block. -/
def fin10 (c : Dev nD) (t : Fin cfg0.N) : Bf (F := F) c (win0_10.stage (cfg0.slots t 10)) := (hstage0_10 ((cfg0.slots t 10).cast nbuf0_10)).unread (iblk m c 10 t)

/-- What the first part hands on at point `t`. -/
def firstAt (c : Dev nD) (t : Fin cfg0.N) : R1 := (part1Run (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM0 (Memref.isWhole_whole _) scM1 (Memref.isWhole_whole _) scM2 (Memref.isWhole_whole _) scM3 (Memref.isWhole_whole _)).1

/-- The run of the rest of the body at point `t`, the carried scratches found at `s`. -/
def stepRun (c : Dev nD) (t : Fin cfg0.N) (s : St (F := F) c) :=
  restRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM0 (Memref.isWhole_whole _) scM1 (Memref.isWhole_whole _) scM2 (Memref.isWhole_whole _) scM3 (Memref.isWhole_whole _)
    (firstAt (F := F) c t).1 (firstAt (F := F) c t).2.1 (firstAt (F := F) c t).2.2.1 (firstAt (F := F) c t).2.2.2.1 (firstAt (F := F) c t).2.2.2.2.1 (firstAt (F := F) c t).2.2.2.2.2.1 (firstAt (F := F) c t).2.2.2.2.2.2.1 (firstAt (F := F) c t).2.2.2.2.2.2.2
    (fin0 m c t) (fin1 m c t) (fin2 m c t) (fin3 m c t) (fin4 m c t) (fin5 m c t) (fin6 m c t) (fin7 m c t) (fin8 m c t) (fin9 m c t) (fin10 m c t)
    (init14 (grid0.coords t) c scM1 s.1) (init15 (grid0.coords t) c scM2 s.2.1) (init16 (grid0.coords t) c scM3 s.2.2)

/-- What the body leaves at point `t`: the output window's buffer and the carried scratches. -/
def outAt (c : Dev nD) (t : Fin cfg0.N) (s : St (F := F) c) : Bf (F := F) c (win0_11.stage (cfg0.slots t 11)) × St (F := F) c := (stepRun m c t s).1

/-- What the carried scratches hold before point `n`: at the first point anything (it clears them). -/
def stAt (c : Dev nD) : ℕ → St (F := F) c
  | 0 => (scM1.view.junk, scM2.view.junk, scM3.view.junk)
  | n + 1 => if h : n < cfg0.N then (outAt m c ⟨n, h⟩ (stAt c n)).2 else (scM1.view.junk, scM2.view.junk, scM3.view.junk)

theorem stAt_succ (c : Dev nD) (t : Fin cfg0.N) : stAt m c (t.val + 1) = (outAt m c t (stAt m c t.val)).2 := by
  show dite _ _ _ = _
  rw [dif_pos t.isLt]

theorem coords_val : ∀ t : Fin grid0.N, ((grid0.coords t) 0).val = t.val := by decide +kernel

/-- At the first point what the scratches held is not read. -/
theorem outAt_zero (c : Dev nD) (t : Fin cfg0.N) (ht : t.val = 0) (s s' : St (F := F) c) : outAt m c t s = outAt m c t s' := by
  have h0 : ((grid0.coords t) 0).val = 0 := (coords_val t).trans ht
  have e14 : init14 (grid0.coords t) c scM1 s.1 = init14 (grid0.coords t) c scM1 s'.1 := by unfold init14; rw [if_pos h0, if_pos h0]
  have e15 : init15 (grid0.coords t) c scM2 s.2.1 = init15 (grid0.coords t) c scM2 s'.2.1 := by unfold init15; rw [if_pos h0, if_pos h0]
  have e16 : init16 (grid0.coords t) c scM3 s.2.2 = init16 (grid0.coords t) c scM3 s'.2.2 := by unfold init16; rw [if_pos h0, if_pos h0]
  unfold outAt stepRun
  rw [e14, e15, e16]

/-! ## The proof data -/

/-- What holds before point `n`: the carried scratches at their state, the fourth at anything, and the register. -/
def Phi (c : Dev nD) (n : ℕ) : sProp 𝕄 :=
  iprop(∃ s : St (F := F) c, ⌜n ≠ 0 → s = stAt m c n⌝ ∗ (∃ f, pt c scM0 f) ∗ pt c scM1 s.1 ∗ pt c scM2 s.2.1 ∗ pt c scM3 s.2.2 ∗ ∃ r, prngReg c r)

/-- The proof data on core `c`: inputs end each point at their block, the output at what the body leaves. -/
def dats (_ : Fin 1) (c : Dev nD) : Dat τ (Elt F) Unit ℕ (UR sig nD τ) ℕ cfg0 c where
  A w := V m c (Pipeline.arrRef spec0 w)
  after := fun
    | 0 => fun t => iblk m c 0 t
    | 1 => fun t => iblk m c 1 t
    | 2 => fun t => iblk m c 2 t
    | 3 => fun t => iblk m c 3 t
    | 4 => fun t => iblk m c 4 t
    | 5 => fun t => iblk m c 5 t
    | 6 => fun t => iblk m c 6 t
    | 7 => fun t => iblk m c 7 t
    | 8 => fun t => iblk m c 8 t
    | 9 => fun t => iblk m c 9 t
    | 10 => fun t => iblk m c 10 t
    | 11 => fun t => (win0_11.stage (cfg0.slots t 11)).view.read (Elt F) (outAt m c t (stAt m c t.val)).1
  Φ t := Phi m c t.val
  q _ := fullShare
  owed _ := 0

theorem A_eq (c : Dev nD) (w : Fin cfg0.W) : (dats m 0 c).A w = V m c (Pipeline.arrRef spec0 w) := by dsimp only [dats]

theorem before0 (c : Dev nD) (t : Fin cfg0.N) (d) : (dats m 0 c).before 0 t d = iblk m c 0 t := before0_0_of m (dats m 0 c) (A_eq m c 0) (fun _ => rfl) t d
theorem before1 (c : Dev nD) (t : Fin cfg0.N) (d) : (dats m 0 c).before 1 t d = iblk m c 1 t := before0_1_of m (dats m 0 c) (A_eq m c 1) (fun _ => rfl) t d
theorem before2 (c : Dev nD) (t : Fin cfg0.N) (d) : (dats m 0 c).before 2 t d = iblk m c 2 t := before0_2_of m (dats m 0 c) (A_eq m c 2) (fun _ => rfl) t d
theorem before3 (c : Dev nD) (t : Fin cfg0.N) (d) : (dats m 0 c).before 3 t d = iblk m c 3 t := before0_3_of m (dats m 0 c) (A_eq m c 3) (fun _ => rfl) t d
theorem before4 (c : Dev nD) (t : Fin cfg0.N) (d) : (dats m 0 c).before 4 t d = iblk m c 4 t := before0_4_of m (dats m 0 c) (A_eq m c 4) (fun _ => rfl) t d
theorem before5 (c : Dev nD) (t : Fin cfg0.N) (d) : (dats m 0 c).before 5 t d = iblk m c 5 t := before0_5_of m (dats m 0 c) (A_eq m c 5) (fun _ => rfl) t d
theorem before6 (c : Dev nD) (t : Fin cfg0.N) (d) : (dats m 0 c).before 6 t d = iblk m c 6 t := before0_6_of m (dats m 0 c) (A_eq m c 6) (fun _ => rfl) t d
theorem before7 (c : Dev nD) (t : Fin cfg0.N) (d) : (dats m 0 c).before 7 t d = iblk m c 7 t := before0_7_of m (dats m 0 c) (A_eq m c 7) (fun _ => rfl) t d
theorem before8 (c : Dev nD) (t : Fin cfg0.N) (d) : (dats m 0 c).before 8 t d = iblk m c 8 t := before0_8_of m (dats m 0 c) (A_eq m c 8) (fun _ => rfl) t d
theorem before9 (c : Dev nD) (t : Fin cfg0.N) (d) : (dats m 0 c).before 9 t d = iblk m c 9 t := before0_9_of m (dats m 0 c) (A_eq m c 9) (fun _ => rfl) t d
theorem before10 (c : Dev nD) (t : Fin cfg0.N) (d) : (dats m 0 c).before 10 t d = iblk m c 10 t := before0_10_of m (dats m 0 c) (A_eq m c 10) (fun _ => rfl) t d

theorem after0 (c : Dev nD) (t : Fin cfg0.N) : (dats m 0 c).after 0 t = iblk m c 0 t := rfl
theorem after1 (c : Dev nD) (t : Fin cfg0.N) : (dats m 0 c).after 1 t = iblk m c 1 t := rfl
theorem after2 (c : Dev nD) (t : Fin cfg0.N) : (dats m 0 c).after 2 t = iblk m c 2 t := rfl
theorem after3 (c : Dev nD) (t : Fin cfg0.N) : (dats m 0 c).after 3 t = iblk m c 3 t := rfl
theorem after4 (c : Dev nD) (t : Fin cfg0.N) : (dats m 0 c).after 4 t = iblk m c 4 t := rfl
theorem after5 (c : Dev nD) (t : Fin cfg0.N) : (dats m 0 c).after 5 t = iblk m c 5 t := rfl
theorem after6 (c : Dev nD) (t : Fin cfg0.N) : (dats m 0 c).after 6 t = iblk m c 6 t := rfl
theorem after7 (c : Dev nD) (t : Fin cfg0.N) : (dats m 0 c).after 7 t = iblk m c 7 t := rfl
theorem after8 (c : Dev nD) (t : Fin cfg0.N) : (dats m 0 c).after 8 t = iblk m c 8 t := rfl
theorem after9 (c : Dev nD) (t : Fin cfg0.N) : (dats m 0 c).after 9 t = iblk m c 9 t := rfl
theorem after10 (c : Dev nD) (t : Fin cfg0.N) : (dats m 0 c).after 10 t = iblk m c 10 t := rfl
theorem after11 (c : Dev nD) (t : Fin cfg0.N) : (dats m 0 c).after 11 t = (win0_11.stage (cfg0.slots t 11)).view.read (Elt F) (outAt m c t (stAt m c t.val)).1 := rfl

theorem pt_of_owns (c : Dev nD) {sp : Space} {S : Shape} {e : EltTy} {M : Memref sig .tc sp S e} (h : M.IsWhole) (X : S.Idx → Elt F e) :
    (owns (c : Thread nD τ) M fullShare X : sProp 𝕄) ⊢ pt c M (h.unread X) := by rw [owns_pt c h X]
theorem owns_unread (c : Dev nD) {sp : Space} {S : Shape} {e : EltTy} {M : Memref sig .tc sp S e} (h : M.IsWhole) (X : S.Idx → Elt F e) :
    (pt c M (h.unread X) : sProp 𝕄) ⊢ owns (c : Thread nD τ) M fullShare X := by rw [owns_pt c h X]
theorem owns_of_pt (c : Dev nD) {sp : Space} {S : Shape} {e : EltTy} {M : Memref sig .tc sp S e} (h : M.IsWhole) (f : Bf (F := F) c M) :
    (pt c M f : sProp 𝕄) ⊢ owns (c : Thread nD τ) M fullShare (M.view.read (Elt F) f) := by rw [owns_pt c h, Memref.IsWhole.unread_read]
theorem in0 (c : Dev nD) (t : Fin cfg0.N) : iprop(∃ d, owns (c : Thread nD τ) (win0_0.stage (cfg0.slots t 0)) fullShare ((dats m 0 c).before 0 t d)) ⊢ (pt c (win0_0.stage (cfg0.slots t 0)) (fin0 m c t) : sProp 𝕄) := by
  iintro ⟨%d, H⟩; rw [before0]; iapply (pt_of_owns c (hstage0_0 ((cfg0.slots t 0).cast nbuf0_0)) _); iexact H
theorem out0 (c : Dev nD) (t : Fin cfg0.N) : (pt c (win0_0.stage (cfg0.slots t 0)) (fin0 m c t) : sProp 𝕄) ⊢ owns (c : Thread nD τ) (win0_0.stage (cfg0.slots t 0)) fullShare ((dats m 0 c).after 0 t) := by
  rw [after0]; exact owns_unread c (hstage0_0 ((cfg0.slots t 0).cast nbuf0_0)) _
theorem in1 (c : Dev nD) (t : Fin cfg0.N) : iprop(∃ d, owns (c : Thread nD τ) (win0_1.stage (cfg0.slots t 1)) fullShare ((dats m 0 c).before 1 t d)) ⊢ (pt c (win0_1.stage (cfg0.slots t 1)) (fin1 m c t) : sProp 𝕄) := by
  iintro ⟨%d, H⟩; rw [before1]; iapply (pt_of_owns c (hstage0_1 ((cfg0.slots t 1).cast nbuf0_1)) _); iexact H
theorem out1 (c : Dev nD) (t : Fin cfg0.N) : (pt c (win0_1.stage (cfg0.slots t 1)) (fin1 m c t) : sProp 𝕄) ⊢ owns (c : Thread nD τ) (win0_1.stage (cfg0.slots t 1)) fullShare ((dats m 0 c).after 1 t) := by
  rw [after1]; exact owns_unread c (hstage0_1 ((cfg0.slots t 1).cast nbuf0_1)) _
theorem in2 (c : Dev nD) (t : Fin cfg0.N) : iprop(∃ d, owns (c : Thread nD τ) (win0_2.stage (cfg0.slots t 2)) fullShare ((dats m 0 c).before 2 t d)) ⊢ (pt c (win0_2.stage (cfg0.slots t 2)) (fin2 m c t) : sProp 𝕄) := by
  iintro ⟨%d, H⟩; rw [before2]; iapply (pt_of_owns c (hstage0_2 ((cfg0.slots t 2).cast nbuf0_2)) _); iexact H
theorem out2 (c : Dev nD) (t : Fin cfg0.N) : (pt c (win0_2.stage (cfg0.slots t 2)) (fin2 m c t) : sProp 𝕄) ⊢ owns (c : Thread nD τ) (win0_2.stage (cfg0.slots t 2)) fullShare ((dats m 0 c).after 2 t) := by
  rw [after2]; exact owns_unread c (hstage0_2 ((cfg0.slots t 2).cast nbuf0_2)) _
theorem in3 (c : Dev nD) (t : Fin cfg0.N) : iprop(∃ d, owns (c : Thread nD τ) (win0_3.stage (cfg0.slots t 3)) fullShare ((dats m 0 c).before 3 t d)) ⊢ (pt c (win0_3.stage (cfg0.slots t 3)) (fin3 m c t) : sProp 𝕄) := by
  iintro ⟨%d, H⟩; rw [before3]; iapply (pt_of_owns c (hstage0_3 ((cfg0.slots t 3).cast nbuf0_3)) _); iexact H
theorem out3 (c : Dev nD) (t : Fin cfg0.N) : (pt c (win0_3.stage (cfg0.slots t 3)) (fin3 m c t) : sProp 𝕄) ⊢ owns (c : Thread nD τ) (win0_3.stage (cfg0.slots t 3)) fullShare ((dats m 0 c).after 3 t) := by
  rw [after3]; exact owns_unread c (hstage0_3 ((cfg0.slots t 3).cast nbuf0_3)) _
theorem in4 (c : Dev nD) (t : Fin cfg0.N) : iprop(∃ d, owns (c : Thread nD τ) (win0_4.stage (cfg0.slots t 4)) fullShare ((dats m 0 c).before 4 t d)) ⊢ (pt c (win0_4.stage (cfg0.slots t 4)) (fin4 m c t) : sProp 𝕄) := by
  iintro ⟨%d, H⟩; rw [before4]; iapply (pt_of_owns c (hstage0_4 ((cfg0.slots t 4).cast nbuf0_4)) _); iexact H
theorem out4 (c : Dev nD) (t : Fin cfg0.N) : (pt c (win0_4.stage (cfg0.slots t 4)) (fin4 m c t) : sProp 𝕄) ⊢ owns (c : Thread nD τ) (win0_4.stage (cfg0.slots t 4)) fullShare ((dats m 0 c).after 4 t) := by
  rw [after4]; exact owns_unread c (hstage0_4 ((cfg0.slots t 4).cast nbuf0_4)) _
theorem in5 (c : Dev nD) (t : Fin cfg0.N) : iprop(∃ d, owns (c : Thread nD τ) (win0_5.stage (cfg0.slots t 5)) fullShare ((dats m 0 c).before 5 t d)) ⊢ (pt c (win0_5.stage (cfg0.slots t 5)) (fin5 m c t) : sProp 𝕄) := by
  iintro ⟨%d, H⟩; rw [before5]; iapply (pt_of_owns c (hstage0_5 ((cfg0.slots t 5).cast nbuf0_5)) _); iexact H
theorem out5 (c : Dev nD) (t : Fin cfg0.N) : (pt c (win0_5.stage (cfg0.slots t 5)) (fin5 m c t) : sProp 𝕄) ⊢ owns (c : Thread nD τ) (win0_5.stage (cfg0.slots t 5)) fullShare ((dats m 0 c).after 5 t) := by
  rw [after5]; exact owns_unread c (hstage0_5 ((cfg0.slots t 5).cast nbuf0_5)) _
theorem in6 (c : Dev nD) (t : Fin cfg0.N) : iprop(∃ d, owns (c : Thread nD τ) (win0_6.stage (cfg0.slots t 6)) fullShare ((dats m 0 c).before 6 t d)) ⊢ (pt c (win0_6.stage (cfg0.slots t 6)) (fin6 m c t) : sProp 𝕄) := by
  iintro ⟨%d, H⟩; rw [before6]; iapply (pt_of_owns c (hstage0_6 ((cfg0.slots t 6).cast nbuf0_6)) _); iexact H
theorem out6 (c : Dev nD) (t : Fin cfg0.N) : (pt c (win0_6.stage (cfg0.slots t 6)) (fin6 m c t) : sProp 𝕄) ⊢ owns (c : Thread nD τ) (win0_6.stage (cfg0.slots t 6)) fullShare ((dats m 0 c).after 6 t) := by
  rw [after6]; exact owns_unread c (hstage0_6 ((cfg0.slots t 6).cast nbuf0_6)) _
theorem in7 (c : Dev nD) (t : Fin cfg0.N) : iprop(∃ d, owns (c : Thread nD τ) (win0_7.stage (cfg0.slots t 7)) fullShare ((dats m 0 c).before 7 t d)) ⊢ (pt c (win0_7.stage (cfg0.slots t 7)) (fin7 m c t) : sProp 𝕄) := by
  iintro ⟨%d, H⟩; rw [before7]; iapply (pt_of_owns c (hstage0_7 ((cfg0.slots t 7).cast nbuf0_7)) _); iexact H
theorem out7 (c : Dev nD) (t : Fin cfg0.N) : (pt c (win0_7.stage (cfg0.slots t 7)) (fin7 m c t) : sProp 𝕄) ⊢ owns (c : Thread nD τ) (win0_7.stage (cfg0.slots t 7)) fullShare ((dats m 0 c).after 7 t) := by
  rw [after7]; exact owns_unread c (hstage0_7 ((cfg0.slots t 7).cast nbuf0_7)) _
theorem in8 (c : Dev nD) (t : Fin cfg0.N) : iprop(∃ d, owns (c : Thread nD τ) (win0_8.stage (cfg0.slots t 8)) fullShare ((dats m 0 c).before 8 t d)) ⊢ (pt c (win0_8.stage (cfg0.slots t 8)) (fin8 m c t) : sProp 𝕄) := by
  iintro ⟨%d, H⟩; rw [before8]; iapply (pt_of_owns c (hstage0_8 ((cfg0.slots t 8).cast nbuf0_8)) _); iexact H
theorem out8 (c : Dev nD) (t : Fin cfg0.N) : (pt c (win0_8.stage (cfg0.slots t 8)) (fin8 m c t) : sProp 𝕄) ⊢ owns (c : Thread nD τ) (win0_8.stage (cfg0.slots t 8)) fullShare ((dats m 0 c).after 8 t) := by
  rw [after8]; exact owns_unread c (hstage0_8 ((cfg0.slots t 8).cast nbuf0_8)) _
theorem in9 (c : Dev nD) (t : Fin cfg0.N) : iprop(∃ d, owns (c : Thread nD τ) (win0_9.stage (cfg0.slots t 9)) fullShare ((dats m 0 c).before 9 t d)) ⊢ (pt c (win0_9.stage (cfg0.slots t 9)) (fin9 m c t) : sProp 𝕄) := by
  iintro ⟨%d, H⟩; rw [before9]; iapply (pt_of_owns c (hstage0_9 ((cfg0.slots t 9).cast nbuf0_9)) _); iexact H
theorem out9 (c : Dev nD) (t : Fin cfg0.N) : (pt c (win0_9.stage (cfg0.slots t 9)) (fin9 m c t) : sProp 𝕄) ⊢ owns (c : Thread nD τ) (win0_9.stage (cfg0.slots t 9)) fullShare ((dats m 0 c).after 9 t) := by
  rw [after9]; exact owns_unread c (hstage0_9 ((cfg0.slots t 9).cast nbuf0_9)) _
theorem in10 (c : Dev nD) (t : Fin cfg0.N) : iprop(∃ d, owns (c : Thread nD τ) (win0_10.stage (cfg0.slots t 10)) fullShare ((dats m 0 c).before 10 t d)) ⊢ (pt c (win0_10.stage (cfg0.slots t 10)) (fin10 m c t) : sProp 𝕄) := by
  iintro ⟨%d, H⟩; rw [before10]; iapply (pt_of_owns c (hstage0_10 ((cfg0.slots t 10).cast nbuf0_10)) _); iexact H
theorem out10 (c : Dev nD) (t : Fin cfg0.N) : (pt c (win0_10.stage (cfg0.slots t 10)) (fin10 m c t) : sProp 𝕄) ⊢ owns (c : Thread nD τ) (win0_10.stage (cfg0.slots t 10)) fullShare ((dats m 0 c).after 10 t) := by
  rw [after10]; exact owns_unread c (hstage0_10 ((cfg0.slots t 10).cast nbuf0_10)) _
theorem out11 (c : Dev nD) (t : Fin cfg0.N) : (pt c (win0_11.stage (cfg0.slots t 11)) (outAt m c t (stAt m c t.val)).1 : sProp 𝕄) ⊢ owns (c : Thread nD τ) (win0_11.stage (cfg0.slots t 11)) fullShare ((dats m 0 c).after 11 t) := by
  rw [after11]; exact owns_of_pt c (hstage0_11 ((cfg0.slots t 11).cast nbuf0_11)) _

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t))

/-- The body at the point: the first part, then the rest. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Phi m c (t.val + 1) from rfl,
    show (dats m 0 c).owesAt () t.succ = (dats m 0 c).owesAt () t.castSucc from rfl,
    show (dats m 0 c).Φ t.castSucc = Phi m c t.val from rfl,
    (restOf (F := F) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM0 (Memref.isWhole_whole _) scM1 (Memref.isWhole_whole _) scM2 (Memref.isWhole_whole _) scM3 (Memref.isWhole_whole _)).2]
  rw [wp_bind]
  unfold Phi
  iintro ⟨⟨%s, %hs, ⟨%f0, S0⟩, S1, S2, S3, Hr⟩, HO, H0, H1, H2, H3, H4, H5, H6, H7, H8, H9, H10, ⟨%f12, H11⟩⟩
  iapply ((part1Run (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) scM0 (Memref.isWhole_whole _) scM1 (Memref.isWhole_whole _) scM2 (Memref.isWhole_whole _) scM3 (Memref.isWhole_whole _)).2 s.1 s.2.1 s.2.2 _ _)
  isplitl [S1]; · iexact S1
  isplitl [S2]; · iexact S2
  isplitl [S3]; · iexact S3
  iintro ⟨S1, S2, S3⟩
  iapply ((stepRun m c t s).2 _ f0 _ _)
  isplitl [H0]; · iapply (in0 m c t); iexact H0
  isplitl [H1]; · iapply (in1 m c t); iexact H1
  isplitl [H2]; · iapply (in2 m c t); iexact H2
  isplitl [H3]; · iapply (in3 m c t); iexact H3
  isplitl [H4]; · iapply (in4 m c t); iexact H4
  isplitl [H5]; · iapply (in5 m c t); iexact H5
  isplitl [H6]; · iapply (in6 m c t); iexact H6
  isplitl [H7]; · iapply (in7 m c t); iexact H7
  isplitl [H8]; · iapply (in8 m c t); iexact H8
  isplitl [H9]; · iapply (in9 m c t); iexact H9
  isplitl [H10]; · iapply (in10 m c t); iexact H10
  isplitl [H11]; · iapply (pt_of_owns c (hstage0_11 ((cfg0.slots t 11).cast nbuf0_11)) _); iexact H11
  isplitl [S0]; · iexact S0
  isplitl [S1]; · iexact S1
  isplitl [S2]; · iexact S2
  isplitl [S3]; · iexact S3
  iintro ⟨H0, H1, H2, H3, H4, H5, H6, H7, H8, H9, H10, H11, S0, S1, S2, S3⟩
  have hst : (stepRun m c t s).1 = (stepRun m c t (stAt m c t.val)).1 := by
    by_cases h0 : t.val = 0
    · exact outAt_zero m c t h0 _ _
    · rw [hs h0]
  isplitl [S0 S1 S2 S3 Hr]
  · iexists (outAt m c t (stAt m c t.val)).2
    isplitr; · ipureintro; exact fun _ => (stAt_succ m c t).symm
    unfold outAt
    rw [← hst]
    isplitl [S0]; · iexact S0
    isplitl [S1]; · iexact S1
    isplitl [S2]; · iexact S2
    isplitl [S3]; · iexact S3
    iexact Hr
  isplitl [HO]; · iexact HO
  isplitl [H0]; · iapply (out0 m c t); iexact H0
  isplitl [H1]; · iapply (out1 m c t); iexact H1
  isplitl [H2]; · iapply (out2 m c t); iexact H2
  isplitl [H3]; · iapply (out3 m c t); iexact H3
  isplitl [H4]; · iapply (out4 m c t); iexact H4
  isplitl [H5]; · iapply (out5 m c t); iexact H5
  isplitl [H6]; · iapply (out6 m c t); iexact H6
  isplitl [H7]; · iapply (out7 m c t); iexact H7
  isplitl [H8]; · iapply (out8 m c t); iexact H8
  isplitl [H9]; · iapply (out9 m c t); iexact H9
  isplitl [H10]; · iapply (out10 m c t); iexact H10
  iapply (out11 m c t)
  unfold outAt
  rw [← hst]
  iexact H11

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation: the triple restated. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem Phi_in (c : Dev nD) : Pipeline.ΦA spec0 c ⊢ (dats (F := F) m 0 c).Φ 0 := by
  rw [show (dats m 0 c).Φ 0 = Phi m c 0 from rfl]
  unfold Pipeline.ΦA Phi
  rw [scopedRest0_eq]
  iintro ⟨⟨S0, ⟨%f1, S1⟩, ⟨%f2, S2⟩, ⟨%f3, S3⟩⟩, Hr⟩
  iexists (f1, f2, f3)
  isplitr; · ipureintro; exact fun h => absurd rfl h
  isplitl [S0]; · iexact S0
  isplitl [S1]; · iexact S1
  isplitl [S2]; · iexact S2
  isplitl [S3]; · iexact S3
  iexact Hr

theorem Phi_out (c : Dev nD) : (dats (F := F) m 0 c).Φ (Fin.last cfg0.N) ⊢ Pipeline.ΦA spec0 c := by
  rw [show (dats m 0 c).Φ (Fin.last cfg0.N) = Phi m c cfg0.N from rfl]
  unfold Pipeline.ΦA Phi
  rw [scopedRest0_eq]
  iintro ⟨%s, -, S0, S1, S2, S3, Hr⟩
  isplitl [S0 S1 S2 S3]
  · isplitl [S0]; · iexact S0
    isplitl [S1]; · iexists _; iexact S1
    isplitl [S2]; · iexists _; iexact S2
    iexists _; iexact S3
  iexact Hr

-- The launch's implicit arguments are found by unifying its conclusion with this statement, which unifies only
-- when unification may unfold plain definitions in a metavariable's type.
set_option backward.isDefEq.respectTransparency.types false in
/-- Every weakly fair execution from any memory with zero counters terminates; every window's array ends at what its
    write-backs make of it and every other unscoped buffer as the region found it, with every counter at zero. -/
theorem run_main :
    θ_run defs (onTc (τ := τ) (main (F := F))) (s₀ m ρ)
      (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := Gen.hmain m Variants.none) (hA := A_eq m)
    (hin := Phi_in m) (hout := Phi_out m)

variable {m ρ}

/-- After the run each argument holds what it held at launch. -/
theorem args_kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).1 4).trans (((dats m 0 c).arrAt_in 4 rfl _).trans ((A_eq m c 4).trans (V_main_arg3 m c))),
    ((h c).1 5).trans (((dats m 0 c).arrAt_in 5 rfl _).trans ((A_eq m c 5).trans (V_main_arg4 m c))),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c)⟩

end Cert.KernelIdeal.Attn

end
-- ==== Proof.Soft.lean ====
/-
  The attention of one query over its window, on extended reals: what the softmax weighs, and that taking powers of
  two of scaled scores and dividing last gives the same.
-/
module

public import Idealize.ShloMosaic.PureOps.Ideal
public import Idealize.ShloMosaic.PureOps.Ideal.Laws

@[expose] public section

noncomputable section

namespace Cert.Attn

open Idealize.ShloMosaic

/-- The greatest of the scores and the sink. -/
def topOf {n : ℕ} (s : Fin n → EReal) (snk : EReal) : EReal := max ((Finset.univ : Finset (Fin n)).fold max ⊥ s) snk
/-- The sum of the exponentials, the sink's too. -/
def denOf {n : ℕ} (s : Fin n → EReal) (snk : EReal) : EReal := (∑ k, Ideal.exp (s k - topOf s snk)) + Ideal.exp (snk - topOf s snk)

/-- The scores of query `q`, a key a place: this block's key up to the query, after it the key of the block before,
    at the first block of a sequence none. -/
def bandOf (q : Fin 128) (fst : Prop) [Decidable fst] (C Pv : Fin 128 → EReal) (k : Fin 128) : EReal :=
  if k.val ≤ q.val then C k else if fst then ⊥ else Pv k

/-- The weight of the key at place `k`. -/
def wOf (q : Fin 128) (fst : Prop) [Decidable fst] (C Pv : Fin 128 → EReal) (snk : EReal) (k : Fin 128) : EReal :=
  Ideal.div (Ideal.exp (bandOf q fst C Pv k - topOf (bandOf q fst C Pv) snk)) (denOf (bandOf q fst C Pv) snk)

/-- The attention of query `q`: values of the block before, then of this block. -/
def attOf (q : Fin 128) (fst : Prop) [Decidable fst] (C Pv : Fin 128 → EReal) (snk : EReal) (vp vc : Fin 128 → EReal) : EReal :=
  (∑ k, vp k * (if k.val ≤ q.val then 0 else wOf q fst C Pv snk k)) + ∑ k, vc k * (if k.val ≤ q.val then wOf q fst C Pv snk k else 0)

theorem fold_eq_sup {n : ℕ} (s : Fin n → EReal) : (Finset.univ : Finset (Fin n)).fold max ⊥ s = Finset.univ.sup s := rfl

theorem sum_real {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem sum_mul_real {ι : Type} (S : Finset ι) (f : ι → EReal) (c : EReal) (h : 0 ≤ c) (h' : c ≠ ⊤) : (∑ i ∈ S, f i) * c = ∑ i ∈ S, f i * c := by
  classical
  induction S using Finset.induction_on with
  | empty => simp
  | insert a S ha ih => rw [Finset.sum_insert ha, Finset.sum_insert ha, EReal.right_distrib_of_nonneg_of_ne_top h h', ih]

/-- The scores of a query when they are real. -/
abbrev bandR (q : Fin 128) (fst : Prop) [Decidable fst] (C Pv : Fin 128 → ℝ) : Fin 128 → EReal :=
  bandOf q fst (fun k => ((C k : ℝ) : EReal)) (fun k => ((Pv k : ℝ) : EReal))

section Real
variable (q : Fin 128) (fst : Prop) [Decidable fst] (C Pv : Fin 128 → ℝ) (snk : EReal) (hs : snk < ⊤)

theorem band_lt (k : Fin 128) : bandR q fst C Pv k < ⊤ := by
  unfold bandR bandOf
  split_ifs
  · exact EReal.coe_lt_top _
  · exact bot_lt_top
  · exact EReal.coe_lt_top _

include hs in
/-- The greatest score is a real number: a query attends to itself, and no score is plus infinity. -/
theorem top_real : ∃ μ : ℝ, topOf (bandR q fst C Pv) snk = μ := by
  have h1 : topOf (bandR q fst C Pv) snk < ⊤ := by
    unfold topOf
    rw [fold_eq_sup]
    exact max_lt ((Finset.sup_lt_iff bot_lt_top).mpr fun k _ => band_lt q fst C Pv k) hs
  have h2 : ⊥ < topOf (bandR q fst C Pv) snk := by
    unfold topOf
    rw [fold_eq_sup]
    refine lt_of_lt_of_le ?_ (le_max_left _ _)
    refine lt_of_lt_of_le ?_ (Finset.le_sup (Finset.mem_univ (0 : Fin 128)))
    have e : bandR q fst C Pv 0 = C 0 := if_pos (Nat.zero_le _)
    rw [e]
    exact EReal.bot_lt_coe _
  exact ⟨_, (EReal.coe_toReal h1.ne h2.ne').symm⟩

theorem exp_sub_real (x : EReal) (hx : x < ⊤) (μ : ℝ) : ∃ p : ℝ, 0 ≤ p ∧ Ideal.exp (x - μ) = p := by
  induction x using EReal.rec with
  | bot => exact ⟨0, le_refl _, by simp⟩
  | top => exact absurd hx (lt_irrefl _)
  | coe r => exact ⟨Real.exp (r - μ), (Real.exp_pos _).le, by rw [← EReal.coe_sub, Ideal.exp_coe]⟩

include hs in
theorem den_real (μ : ℝ) (hμ : topOf (bandR q fst C Pv) snk = μ) : ∃ δ : ℝ, 0 < δ ∧ denOf (bandR q fst C Pv) snk = δ := by
  choose p hp hpe using fun k => exp_sub_real (bandR q fst C Pv k) (band_lt q fst C Pv k) μ
  obtain ⟨t, ht, hte⟩ := exp_sub_real snk hs μ
  refine ⟨(∑ k, p k) + t, ?_, ?_⟩
  · refine add_pos_of_pos_of_nonneg (Finset.sum_pos' (fun k _ => hp k) ⟨0, Finset.mem_univ _, ?_⟩) ht
    have h0 := hpe 0
    have e : bandR q fst C Pv 0 = C 0 := if_pos (Nat.zero_le _)
    rw [e, ← EReal.coe_sub, Ideal.exp_coe, EReal.coe_eq_coe_iff] at h0
    rw [← h0]
    exact Real.exp_pos _
  · unfold denOf
    rw [hμ, hte, EReal.coe_add, sum_real]
    simp only [hpe]

end Real

theorem exp2_scaled (x : EReal) (μ : ℝ) (hx : x < ⊤) :
    Ideal.exp2 (((Real.log 2)⁻¹ : ℝ) * x - ((Real.log 2)⁻¹ : ℝ) * (μ : EReal)) = Ideal.exp (x - μ) := by
  have hL : (0 : ℝ) < Real.log 2 := Real.log_pos one_lt_two
  induction x using EReal.rec with
  | bot =>
    rw [EReal.coe_mul_bot_of_pos (inv_pos.mpr hL)]
    simp [← EReal.coe_mul]
  | top => exact absurd hx (lt_irrefl _)
  | coe r =>
    rw [← EReal.coe_mul, ← EReal.coe_mul, ← EReal.coe_sub, ← EReal.coe_sub, Ideal.exp2_coe, Ideal.exp_coe, EReal.coe_eq_coe_iff]
    refine (Real.rpow_def_of_pos two_pos _).trans (congrArg Real.exp ?_)
    field_simp

theorem top_scaled {n : ℕ} (s : Fin n → EReal) (snk : EReal) :
    topOf (fun k => ((Real.log 2)⁻¹ : ℝ) * s k) (((Real.log 2)⁻¹ : ℝ) * snk) = ((Real.log 2)⁻¹ : ℝ) * topOf s snk := by
  have hL : (0 : ℝ) < (Real.log 2)⁻¹ := inv_pos.mpr (Real.log_pos one_lt_two)
  have hm : Monotone fun x : EReal => (((Real.log 2)⁻¹ : ℝ) : EReal) * x := fun a b h => mul_le_mul_of_nonneg_left h (EReal.coe_nonneg.mpr hL.le)
  unfold topOf
  rw [hm.map_max]
  congr 1
  have := Finset.fold_hom (op := max) (op' := max) (m := fun x : EReal => (((Real.log 2)⁻¹ : ℝ) : EReal) * x) (fun x y => hm.map_max) (s := (Finset.univ : Finset (Fin n))) (f := s) (b := ⊥)
  rw [← this]
  simp only [EReal.coe_mul_bot_of_pos hL]

theorem div_real (a δ : ℝ) (hδ : 0 < δ) : Ideal.div (a : EReal) δ = ((a * δ⁻¹ : ℝ) : EReal) := by
  unfold Ideal.div
  rw [if_neg (by exact_mod_cast hδ.ne'), ← EReal.coe_inv, EReal.coe_mul]

/-- Powers of two of scores scaled by the logarithm of e, weighed against the values and divided last: the same attention.
    At the first block of a sequence the values of a block before do not matter. -/
theorem att_scaled (q : Fin 128) (fst : Prop) [Decidable fst] (C Pv : Fin 128 → ℝ) (snk : EReal) (hs : snk < ⊤)
    (s : Fin 128 → EReal) (snk' : EReal) (vp vp' vc : Fin 128 → EReal)
    (hsc : ∀ k, s k = ((Real.log 2)⁻¹ : ℝ) * bandOf q fst (fun k => ((C k : ℝ) : EReal)) (fun k => ((Pv k : ℝ) : EReal)) k)
    (hsk : snk' = ((Real.log 2)⁻¹ : ℝ) * snk) (hv : ¬ fst → ∀ k, vp' k = vp k) :
    ((∑ k, (if k.val ≤ q.val then vc k * Ideal.exp2 (s k - topOf s snk') else 0)) + ∑ k, (if k.val ≤ q.val then 0 else vp' k * Ideal.exp2 (s k - topOf s snk')))
        * Ideal.div 1 ((∑ k, Ideal.exp2 (s k - topOf s snk')) + Ideal.exp2 (snk' - topOf s snk'))
      = attOf q fst (fun k => ((C k : ℝ) : EReal)) (fun k => ((Pv k : ℝ) : EReal)) snk vp vc := by
  obtain ⟨μ, hμ⟩ := top_real q fst C Pv snk hs
  obtain ⟨δ, hδ, hδe⟩ := den_real q fst C Pv snk hs μ hμ
  have hb := band_lt q fst C Pv
  unfold bandR at hb hμ hδe
  unfold attOf wOf
  generalize hg : bandOf q fst (fun k => ((C k : ℝ) : EReal)) (fun k => ((Pv k : ℝ) : EReal)) = σ at *
  have htop : topOf s snk' = ((Real.log 2)⁻¹ : ℝ) * (μ : EReal) := by
    rw [funext hsc, hsk, top_scaled, hμ]
  have he : ∀ k, Ideal.exp2 (s k - topOf s snk') = Ideal.exp (σ k - topOf σ snk) := fun k => by
    rw [htop, hsc, hμ, exp2_scaled _ _ (hb k)]
  have hes : Ideal.exp2 (snk' - topOf s snk') = Ideal.exp (snk - topOf σ snk) := by
    rw [htop, hsk, hμ, exp2_scaled _ _ hs]
  have hden : (∑ k, Ideal.exp2 (s k - topOf s snk')) + Ideal.exp2 (snk' - topOf s snk') = δ := by
    rw [← hδe]
    unfold denOf
    rw [hes]
    simp only [he]
  have hone : Ideal.div 1 (δ : EReal) = ((δ⁻¹ : ℝ) : EReal) := by
    have := div_real 1 δ hδ
    rwa [one_mul, EReal.coe_one] at this
  have hi : (0 : EReal) ≤ ((δ⁻¹ : ℝ) : EReal) := EReal.coe_nonneg.mpr (inv_pos.mpr hδ).le
  rw [hden, hone, EReal.right_distrib_of_nonneg_of_ne_top hi (EReal.coe_ne_top _), sum_mul_real _ _ _ hi (EReal.coe_ne_top _),
    sum_mul_real _ _ _ hi (EReal.coe_ne_top _), add_comm, hδe]
  have hw : ∀ k, Ideal.exp (σ k - topOf σ snk) * ((δ⁻¹ : ℝ) : EReal) = Ideal.div (Ideal.exp (σ k - topOf σ snk)) δ := fun k => by
    obtain ⟨p, _, hp⟩ := exp_sub_real (σ k) (hb k) μ
    rw [hμ, hp, div_real p δ hδ, EReal.coe_mul]
  refine congrArg₂ (· + ·) (Finset.sum_congr rfl fun k _ => ?_) (Finset.sum_congr rfl fun k _ => ?_)
  · by_cases hk : k.val ≤ q.val
    · rw [if_pos hk, if_pos hk, zero_mul, mul_zero]
    · rw [if_neg hk, if_neg hk, he, mul_assoc, hw]
      by_cases hf : fst
      · have : σ k = ⊥ := by rw [← hg]; unfold bandOf; rw [if_neg hk, if_pos hf]
        rw [this, hμ]
        have z : Ideal.div (Ideal.exp (⊥ - (μ : EReal))) δ = 0 := by
          have := div_real 0 δ hδ
          simpa using this
        rw [z, mul_zero, mul_zero]
      · rw [hv hf]
  · by_cases hk : k.val ≤ q.val
    · rw [if_pos hk, if_pos hk, he, mul_assoc, hw]
    · rw [if_neg hk, if_neg hk, zero_mul, mul_zero]

/-- Softmax over the two blocks of keys, the masked ones at minus infinity: the same attention. -/
theorem att_masked (q : Fin 128) (fst : Prop) [Decidable fst] (C Pv : Fin 128 → ℝ) (snk : EReal) (hs : snk < ⊤)
    (S : Fin 256 → EReal) (vp vc : Fin 128 → EReal)
    (h0 : ∀ k : Fin 128, S ⟨k.val, by omega⟩ = if k.val ≤ q.val then ⊥ else if fst then ⊥ else ((Pv k : ℝ) : EReal))
    (h1 : ∀ k : Fin 128, S ⟨128 + k.val, by omega⟩ = if k.val ≤ q.val then ((C k : ℝ) : EReal) else ⊥) :
    (∑ k : Fin 128, vp k * Ideal.div (Ideal.exp (S ⟨k.val, by omega⟩ - topOf S snk)) (denOf S snk))
        + ∑ k : Fin 128, vc k * Ideal.div (Ideal.exp (S ⟨128 + k.val, by omega⟩ - topOf S snk)) (denOf S snk)
      = attOf q fst (fun k => ((C k : ℝ) : EReal)) (fun k => ((Pv k : ℝ) : EReal)) snk vp vc := by
  obtain ⟨μ, hμ⟩ := top_real q fst C Pv snk hs
  obtain ⟨δ, hδ, hδe⟩ := den_real q fst C Pv snk hs μ hμ
  unfold bandR at hμ hδe
  unfold attOf wOf
  have c0 : ∀ k : Fin 128, ¬ k.val ≤ q.val → S ⟨k.val, by omega⟩ = bandOf q fst (fun k => ((C k : ℝ) : EReal)) (fun k => ((Pv k : ℝ) : EReal)) k := fun k hk => by
    rw [h0]; unfold bandOf; rw [if_neg hk, if_neg hk]
  have c1 : ∀ k : Fin 128, k.val ≤ q.val → S ⟨128 + k.val, by omega⟩ = bandOf q fst (fun k => ((C k : ℝ) : EReal)) (fun k => ((Pv k : ℝ) : EReal)) k := fun k hk => by
    rw [h1]; unfold bandOf; rw [if_pos hk, if_pos hk]
  have b0 : ∀ k : Fin 128, k.val ≤ q.val → S ⟨k.val, by omega⟩ = ⊥ := fun k hk => by rw [h0, if_pos hk]
  have b1 : ∀ k : Fin 128, ¬ k.val ≤ q.val → S ⟨128 + k.val, by omega⟩ = ⊥ := fun k hk => by rw [h1, if_neg hk]
  generalize hg : bandOf q fst (fun k => ((C k : ℝ) : EReal)) (fun k => ((Pv k : ℝ) : EReal)) = σ at *
  have htop : topOf S snk = topOf σ snk := by
    unfold topOf
    rw [fold_eq_sup, fold_eq_sup]
    congr 1
    refine le_antisymm (Finset.sup_le fun k _ => ?_) (Finset.sup_le fun k _ => ?_)
    · by_cases hk : k.val < 128
      · by_cases hq : k.val ≤ q.val
        · exact (b0 ⟨k.val, hk⟩ hq).le.trans bot_le
        · exact (c0 ⟨k.val, hk⟩ hq).le.trans (Finset.le_sup (f := σ) (Finset.mem_univ _))
      · obtain ⟨j, hj, e⟩ : ∃ j : ℕ, ∃ hj : j < 128, k = ⟨128 + j, by omega⟩ := ⟨k.val - 128, by omega, Fin.ext (by simp only; omega)⟩
        rw [e]
        by_cases hq : j ≤ q.val
        · exact (c1 ⟨j, hj⟩ hq).le.trans (Finset.le_sup (f := σ) (Finset.mem_univ _))
        · exact (b1 ⟨j, hj⟩ hq).le.trans bot_le
    · by_cases hq : k.val ≤ q.val
      · exact (c1 k hq).ge.trans (Finset.le_sup (f := S) (Finset.mem_univ _))
      · exact (c0 k hq).ge.trans (Finset.le_sup (f := S) (Finset.mem_univ _))
  have z : ∀ x : EReal, x = ⊥ → Ideal.exp (x - topOf σ snk) = 0 := fun x hx => by rw [hx, hμ]; simp
  have hden : denOf S snk = denOf σ snk := by
    unfold denOf
    rw [htop]
    congr 1
    have cut : ∀ f : Fin 256 → EReal, ∑ k, f k = (∑ k : Fin 128, f ⟨k.val, by omega⟩) + ∑ k : Fin 128, f ⟨128 + k.val, by omega⟩ := fun f =>
      Fin.sum_univ_add (a := 128) (b := 128) f
    rw [cut, ← Finset.sum_add_distrib]
    refine Finset.sum_congr rfl fun k _ => ?_
    by_cases hq : k.val ≤ q.val
    · rw [z _ (b0 k hq), c1 k hq, zero_add]
    · rw [z _ (b1 k hq), c0 k hq, add_zero]
  have dz : Ideal.div 0 (δ : EReal) = 0 := by
    have := div_real 0 δ hδ
    simpa using this
  rw [htop, hden, hδe]
  refine congrArg₂ (· + ·) (Finset.sum_congr rfl fun k _ => ?_) (Finset.sum_congr rfl fun k _ => ?_)
  · by_cases hk : k.val ≤ q.val
    · rw [if_pos hk, z _ (b0 k hk), dz]
    · rw [if_neg hk, c0 k hk]
  · by_cases hk : k.val ≤ q.val
    · rw [if_pos hk, c1 k hk]
    · rw [if_neg hk, z _ (b1 k hk), dz]

end Cert.Attn

end
-- ==== Proof.Spec.lean ====
/-
  The rows of the layer that the call computes, as one function of the arguments on extended reals.
-/
module

public import proofs.«01_k».proof.Proof.Soft
public import Idealize.ShloMosaic.Lib.Pointwise

@[expose] public section

noncomputable section

namespace Cert.Attn

open Idealize.ShloMosaic

/-- The arguments. -/
structure Args where
  snk : (⟨1, ![16]⟩ : Shape).Idx → EReal
  qkv : (⟨2, ![1536, 16384]⟩ : Shape).Idx → EReal
  pos : (⟨2, ![2, 8192]⟩ : Shape).Idx → BitVec 32
  yn : (⟨2, ![16384, 2048]⟩ : Shape).Idx → EReal
  gates : (⟨2, ![16384, 2048]⟩ : Shape).Idx → EReal
  x : (⟨3, ![2, 8192, 1024]⟩ : Shape).Idx → EReal
  wso : (⟨2, ![2048, 1024]⟩ : Shape).Idx → EReal
  wao : (⟨2, ![1024, 1024]⟩ : Shape).Idx → EReal
  wmix : (⟨2, ![1024, 1024]⟩ : Shape).Idx → EReal
  nw : (⟨1, ![1024]⟩ : Shape).Idx → EReal

/-- The frequency of row `d` of a head's half. -/
def invf (d : Fin 32) : EReal :=
  Ideal.pow (Ideal.ofBits FTy.f32 1176256512#32)
    (Ideal.div (-FloatOps.sitofp (F := Ideal) FTy.f32 (BitVec.ofNat 32 d.val) * Ideal.ofBits FTy.f32 1073741824#32) (Ideal.ofBits FTy.f32 1115684864#32))

/-- A head's row `d` rotated: the first half by cosine and minus sine, the second by cosine and sine. -/
def rotE (x : Fin 64 → EReal) (a : Fin 32 → EReal) (d : Fin 64) : EReal :=
  if h : d.val < 32 then x ⟨d.val, by omega⟩ * Ideal.cos (a ⟨d.val, h⟩) - x ⟨32 + d.val, by omega⟩ * Ideal.sin (a ⟨d.val, h⟩)
  else x ⟨d.val, by omega⟩ * Ideal.cos (a ⟨d.val - 32, by omega⟩) + x ⟨d.val - 32, by omega⟩ * Ideal.sin (a ⟨d.val - 32, by omega⟩)

/-- Token `q` of block `B`. -/
def tok (B : Fin 128) (q : Fin 128) : Fin 16384 := ⟨128 * B.val + q.val, by omega⟩
/-- The block before. -/
def pre (B : Fin 128) : Fin 128 := ⟨B.val - 1, by omega⟩

section Defs
variable (A : Args)

/-- The angle of row `d` at token `T`. -/
def ang (T : Fin 16384) (d : Fin 32) : EReal :=
  FloatOps.sitofp (F := Ideal) FTy.f32 (A.pos (ix2 ⟨T.val / 8192, by omega⟩ ⟨T.val % 8192, by omega⟩)) * invf d
/-- Rows `r` on, rotated, at token `T`. -/
def rot (r : ℕ) (hr : r + 64 ≤ 1536) (T : Fin 16384) (d : Fin 64) : EReal :=
  rotE (fun e => A.qkv (ix2 ⟨r + e.val, by omega⟩ T)) (ang A T) d
/-- The score of head `h`'s query `q` of block `B` and key `k` of block `B'`. -/
def sc (h : Fin 16) (B B' q k : Fin 128) : EReal :=
  ∑ d : Fin 64, rot A (1024 + 64 * (h.val / 4)) (by omega) (tok B' k) d * (rot A (64 * h.val) (by omega) (tok B q) d * Ideal.ofBits FTy.f32 1040187392#32)
/-- The value of group `g`'s row `d` at token `T`. -/
def val (g : Fin 4) (d : Fin 64) (T : Fin 16384) : EReal := A.qkv (ix2 ⟨1280 + 64 * g.val + d.val, by omega⟩ T)
/-- The values of the block before, none at the first block of a sequence. -/
def valPre (g : Fin 4) (d : Fin 64) (B k : Fin 128) : EReal := if B.val % 64 = 0 then 0 else val A g d (tok (pre B) k)
/-- Head `h`'s attention, row `d`, for query `q` of block `B`. -/
def att (h : Fin 16) (d : Fin 64) (B q : Fin 128) : EReal :=
  attOf q (B.val % 64 = 0) (sc A h B B q) (sc A h B (pre B) q) (A.snk (ix1 h)) (valPre A ⟨h.val / 4, by omega⟩ d B) (fun k => val A ⟨h.val / 4, by omega⟩ d (tok B k))
/-- The attention of token `T`, all heads' rows. -/
def attRow (T : Fin 16384) (i : Fin 1024) : EReal :=
  att A ⟨i.val / 64, by omega⟩ ⟨i.val % 64, by omega⟩ ⟨T.val / 128, by omega⟩ ⟨T.val % 128, by omega⟩

/-- The logistic function. -/
def sigm (g : EReal) : EReal := Ideal.div 1 (1 + Ideal.exp (-g))
/-- The two projections, gated and added. -/
def merged (T : Fin 16384) (k : Fin 1024) : EReal :=
  sigm (A.gates (ix2 T ⟨k.val, by omega⟩)) * (∑ i : Fin 2048, A.yn (ix2 T i) * A.wso (ix2 i k))
    + sigm (A.gates (ix2 T ⟨1024 + k.val, by omega⟩)) * (∑ i : Fin 1024, attRow A T i * A.wao (ix2 i k))
/-- The mixed rows. -/
def mixed (T : Fin 16384) (c : Fin 1024) : EReal := ∑ k : Fin 1024, merged A T k * A.wmix (ix2 k c)
/-- A row normed, weighted and added to the residual. -/
def normed (o : Fin 1024 → EReal) (x w : Fin 1024 → EReal) (c : Fin 1024) : EReal :=
  x c + o c * Ideal.rsqrt (Ideal.div (∑ k, o k * o k) (Ideal.ofBits FTy.f32 1149239296#32) + Ideal.ofBits FTy.f32 897988541#32) * w c
/-- The result at token `T`. -/
def out (T : Fin 16384) (c : Fin 1024) : EReal :=
  normed (mixed A T) (fun c => A.x (ix3 ⟨T.val / 8192, by omega⟩ ⟨T.val % 8192, by omega⟩ c)) (fun c => A.nw (ix1 c)) c

/-- Queries and keys are real numbers and no sink is plus infinity. -/
structure Good : Prop where
  qk : ∀ (r : Fin 1536) (T : Fin 16384), r.val < 1280 → ∃ ρ : ℝ, A.qkv (ix2 r T) = ρ
  snk : ∀ h, A.snk (ix1 h) < ⊤

end Defs

theorem rotE_real (x : Fin 64 → EReal) (a : Fin 32 → EReal) (d : Fin 64) (hx : ∀ e, ∃ ρ : ℝ, x e = ρ) (ha : ∀ e, ∃ ρ : ℝ, a e = ρ) : ∃ ρ : ℝ, rotE x a d = ρ := by
  choose xr hx using hx
  choose ar ha using ha
  unfold rotE
  split_ifs
  · rw [hx, hx, ha, Ideal.cos_coe, Ideal.sin_coe, ← EReal.coe_mul, ← EReal.coe_mul, ← EReal.coe_sub]
    exact ⟨_, rfl⟩
  · rw [hx, hx, ha, Ideal.cos_coe, Ideal.sin_coe, ← EReal.coe_mul, ← EReal.coe_mul, ← EReal.coe_add]
    exact ⟨_, rfl⟩

theorem bits_1e4 : Ideal.ofBits FTy.f32 1176256512#32 = ((10000 : ℝ) : EReal) := by
  simp [Ideal.ofBits, Ideal.ieee, -EReal.coe_mul]; norm_num
theorem bits_2 : Ideal.ofBits FTy.f32 1073741824#32 = ((2 : ℝ) : EReal) := by
  simp [Ideal.ofBits, Ideal.ieee, -EReal.coe_mul]; norm_num
theorem bits_64 : Ideal.ofBits FTy.f32 1115684864#32 = ((64 : ℝ) : EReal) := by
  simp [Ideal.ofBits, Ideal.ieee, -EReal.coe_mul]; norm_num
theorem bits_eighth : Ideal.ofBits FTy.f32 1040187392#32 = (((8 : ℝ)⁻¹ : ℝ) : EReal) := by
  simp [Ideal.ofBits, Ideal.ieee, -EReal.coe_mul]; norm_num
theorem bits_ninf : Ideal.ofBits FTy.f32 4286578688#32 = ⊥ := by
  simp [Ideal.ofBits, Ideal.ieee, -EReal.coe_mul]

theorem sitofp_real (b : BitVec 32) : ∃ ρ : ℝ, FloatOps.sitofp (F := Ideal) FTy.f32 b = (ρ : EReal) := ⟨_, rfl⟩

theorem invf_real (d : Fin 32) : ∃ ρ : ℝ, invf d = ρ := by
  unfold invf
  obtain ⟨s, hs⟩ := sitofp_real (BitVec.ofNat 32 d.val)
  rw [hs, bits_1e4, bits_2, bits_64, ← EReal.coe_neg, ← EReal.coe_mul, div_real _ _ (by norm_num), Ideal.pow_coe_coe]
  exact ⟨_, rfl⟩

theorem ang_real (A : Args) (T : Fin 16384) (d : Fin 32) : ∃ ρ : ℝ, ang A T d = ρ := by
  unfold ang
  obtain ⟨s, hs⟩ := sitofp_real (A.pos (ix2 ⟨T.val / 8192, by omega⟩ ⟨T.val % 8192, by omega⟩))
  obtain ⟨f, hf⟩ := invf_real d
  rw [hs, hf, ← EReal.coe_mul]
  exact ⟨_, rfl⟩

theorem rot_real {A : Args} (hA : Good A) (r : ℕ) (hr : r + 64 ≤ 1280) (T : Fin 16384) (d : Fin 64) : rot A r (by omega) T d = ((rot A r (by omega) T d).toReal : EReal) := by
  obtain ⟨ρ, h⟩ := rotE_real (fun e => A.qkv (ix2 ⟨r + e.val, by omega⟩ T)) (ang A T) d (fun e => hA.qk _ _ (by show r + e.val < 1280; omega)) (fun e => ang_real A T e)
  show rotE _ _ _ = ((rotE _ _ _).toReal : EReal)
  rw [h, EReal.toReal_coe]

/-- A score as a real number. -/
def scR (A : Args) (h : Fin 16) (B B' q k : Fin 128) : ℝ :=
  ∑ d : Fin 64, (rot A (1024 + 64 * (h.val / 4)) (by omega) (tok B' k) d).toReal * ((rot A (64 * h.val) (by omega) (tok B q) d).toReal * 8⁻¹)

theorem sc_real {A : Args} (hA : Good A) (h : Fin 16) (B B' q k : Fin 128) : sc A h B B' q k = scR A h B B' q k := by
  unfold sc scR
  rw [sum_real]
  refine Finset.sum_congr rfl fun d _ => ?_
  rw [rot_real hA _ (by omega), rot_real hA (64 * h.val) (by omega), bits_eighth, ← EReal.coe_mul, ← EReal.coe_mul]
  simp only [EReal.toReal_coe]

theorem att_eq {A : Args} (hA : Good A) (h : Fin 16) (d : Fin 64) (B q : Fin 128) :
    att A h d B q = attOf q (B.val % 64 = 0) (fun k => ((scR A h B B q k : ℝ) : EReal)) (fun k => ((scR A h B (pre B) q k : ℝ) : EReal)) (A.snk (ix1 h))
      (valPre A ⟨h.val / 4, by omega⟩ d B) (fun k => val A ⟨h.val / 4, by omega⟩ d (tok B k)) := by
  unfold att
  rw [funext (sc_real hA h B B q), funext (sc_real hA h B (pre B) q)]

end Cert.Attn

end
-- ==== Proof.Precondition.lean ====
/-
  The precondition read at the arguments: queries and keys are real numbers and no sink is plus infinity.
-/
module

public import proofs.«01_k».proof.Pre_attention_is_finite
public import proofs.«01_k».proof.Proof.Spec

@[expose] public section

noncomputable section

namespace Cert.Attn

open Idealize.ShloMosaic
open Cert.Pre_attention_is_finite

/-- The side conditions of the precondition's operations. -/
theorem pre_facts : Cert.Pre_attention_is_finite.Facts where
  slices_S1536x16384_S1280x16384_0_0 := by decide
  bitsLt_bf16_f32 := by decide
  bcast_S_S1280x16384 := by decide
  bcast_S_S16 := by decide

instance : Cert.Pre_attention_is_finite.Facts := pre_facts

/-- The word for plus infinity. -/
theorem bits_inf : Ideal.ofBits FTy.f32 0x7F800000#32 = ⊤ := by
  simp [Ideal.ofBits, Ideal.ieee, -EReal.coe_mul]

/-- A comparison's word read back. -/
theorem lt_of_word (x y : EReal) (h : BitVec.ofBool (decide (x < y)) = 1#1) : x < y := by
  by_contra hn
  rw [decide_eq_false hn] at h
  exact absurd h (by decide)

/-- A value whose magnitude is below plus infinity is a real number. -/
theorem real_of_abs (v : EReal) (h : max v (-v) < ⊤) : ∃ ρ : ℝ, v = ρ := by
  refine ⟨v.toReal, (EReal.coe_toReal ?_ ?_).symm⟩
  · rintro rfl
    exact absurd h (by simp)
  · rintro rfl
    exact absurd h (by simp)

variable (a0 : FVec Ideal S16 .f32) (a1 : FVec Ideal S1536x16384 .bf16) (a2 : IVec S2x8192 32) (a3 a4 : FVec Ideal S16384x2048 .bf16) (a5 : FVec Ideal S2x8192x1024 .f32)
  (a6 : FVec Ideal S2048x1024 .f32) (a7 a8 : FVec Ideal S1024x1024 .f32) (a9 : FVec Ideal S1024 .f32)

/-- Queries and keys are real numbers. -/
theorem pre_qk (h : (fn (F := Ideal) a0 a1 a2 a3 a4 a5 a6 a7 a8 a9).1 = fun _ => 1#1) (r : Fin 1280) (T : Fin 16384) :
    ∃ ρ : ℝ, a1 (ix2 ⟨r.val, by omega⟩ T) = ρ := by
  refine real_of_abs _ ?_
  have := congrFun h (ix2 r T)
  revert this
  pointwise [fn]
  rw [bits_inf]
  exact fun h => lt_of_word _ _ h

/-- No sink is plus infinity. -/
theorem pre_snk (h : (fn (F := Ideal) a0 a1 a2 a3 a4 a5 a6 a7 a8 a9).2 = fun _ => 1#1) (i : Fin 16) : a0 (ix1 i) < ⊤ := by
  have := congrFun h (ix1 i)
  revert this
  pointwise [fn]
  rw [bits_inf]
  exact fun h => lt_of_word _ _ h

end Cert.Attn

end
-- ==== Proof.KernelIdeal.Tiles.lean ====
/-
  What the body computes at one grid point, as functions of the blocks it reads: the rotated queries and keys, the
  attention of one group of heads over one block of queries, and the mixing of an attended tile.
-/
module

public import proofs.«01_k».proof.Proof.KernelIdeal.Offsets
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe

variable {F : FTy → Type} [FloatOps F] [Named F]

/-- Thirty-two rows of the projected tile, at block `b`'s columns. -/
def rows32 (X : Vec F S1536x512 .bf16) (r : ℕ) (hr : r + 32 ≤ 1536) (b : Fin 4) : Vec F S32x128 .bf16 :=
  View.ld X (Rect.unit (s := S1536x512) ![r, 128 * b.val] S32x128.size
    (by intro a; match a with | 0 => exact hr | 1 => exact (by omega : 128 * b.val + 128 ≤ 512)))

/-- The positions of block `b`. -/
def posB (P : Vec F S1x512 .i32) (b : Fin 4) : Vec F S1x128 .i32 :=
  View.ld P (Rect.unit (s := S1x512) ![0, 128 * b.val] S1x128.size
    (by intro a; match a with | 0 => exact Nat.le_refl 1 | 1 => exact (by omega : 128 * b.val + 128 ≤ 512)))

/-- The frequencies, whole. -/
def freqs (W : Vec F S32x128 .f32) : Vec F S32x128 .f32 :=
  View.ld W (Rect.unit (s := S32x128) ![0, 0] S32x128.size inb_S32x128_S32x128_0_0)

/-- Sixty-four rows rotated by the angles of block `b`. -/
def rotT (W : Vec F S32x128 .f32) (P : Vec F S1x512 .i32) (X : Vec F S1536x512 .bf16) (r : ℕ) (hr : r + 64 ≤ 1536) (b : Fin 4) : FVec F S64x128 .f32 :=
  let cs := k0_pay15 (freqs W) (posB P b)
  let sn := k0_pay16 (freqs W) (posB P b)
  let lo := extf .f32 (rows32 X r (by omega) b) bitsLt_bf16_f32
  let hi := extf .f32 (rows32 X (r + 32) (by omega) b) bitsLt_bf16_f32
  concatenate S64x128 0 [⟨S32x128, subf (mulf lo cs) (mulf hi sn)⟩, ⟨S32x128, addf (mulf hi cs) (mulf lo sn)⟩] concatenates_S32x128_S32x128_S64x128_d0

/-- Head `h`'s queries at block `b`: rotated and scaled. -/
def qT (W : Vec F S32x128 .f32) (P : Vec F S1x512 .i32) (X : Vec F S1536x512 .bf16) (b : Fin 4) (h : Fin 16) : FVec F S64x128 .bf16 :=
  shapeCast S64x128 (truncf .bf16 (mulf (rotT W P X (64 * h.val) (by omega) b) (broadcast S64x128 (Named.named κ "scale" 0x3E38AA3B#32))) bitsLt_bf16_f32) shapeCasts_S64x128_S64x128

/-- Group `g`'s keys at block `b`: rotated, a key a row. -/
def kT (W : Vec F S32x128 .f32) (P : Vec F S1x512 .i32) (X : Vec F S1536x512 .bf16) (b g : Fin 4) : FVec F S1x1x128x64 .bf16 :=
  shapeCast S1x1x128x64 (truncf .bf16 (transpose S128x64 [1, 0] (rotT W P X (1024 + 64 * g.val) (by omega) b) transposes_S64x128_p1_0_S128x64) bitsLt_bf16_f32) shapeCasts_S128x64_S1x1x128x64

/-- The values of block `b`, all groups. -/
def vT (X : Vec F S1536x512 .bf16) (b : Fin 4) : FVec F S1x256x128 .bf16 :=
  shapeCast S1x256x128 (View.ld X (Rect.unit (s := S1536x512) ![1280, 128 * b.val] S256x128.size
    (by intro a; match a with | 0 => exact Nat.le_refl 1536 | 1 => exact (by omega : 128 * b.val + 128 ≤ 512))) : Vec F S256x128 .bf16) shapeCasts_S256x128_S1x256x128

/-- Group `g`'s rows of a block's values. -/
def vG (v : Vec F S1x256x128 .bf16) (g : Fin 4) : Vec F S1x64x128 .bf16 :=
  View.ld v (Rect.unit (s := S1x256x128) ![0, 64 * g.val, 0] S1x64x128.size
    (by intro a; match a with | 0 => exact Nat.le_refl 1 | 1 => exact (by omega : 64 * g.val + 64 ≤ 256) | 2 => exact Nat.le_refl 128))

/-- The scores of one group: this block's key where it is not after the query, else the block before's. -/
def scoreT (msk : IVec S128x512 1) (bias : F .f32) (kc kp : FVec F S1x1x128x64 .bf16) (q0 q1 q2 q3 : FVec F S64x128 .bf16) : FVec F S128x512 .f32 :=
  let k := concatenate S256x64 0 [⟨S128x64, shapeCast S128x64 kc shapeCasts_S1x1x128x64_S128x64⟩, ⟨S128x64, shapeCast S128x64 kp shapeCasts_S1x1x128x64_S128x64⟩] concatenates_S128x64_S128x64_S256x64_d0
  let q := concatenate S64x512 1 [⟨S64x128, q0⟩, ⟨S64x128, q1⟩, ⟨S64x128, q2⟩, ⟨S64x128, q3⟩] concatenates_S64x128_S64x128_S64x128_S64x128_S64x512_d1
  let s := matmul dot_S256x64_S64x512_S256x512_1_0_0_1_n_n none k q (constant S256x512 .f32 0x00000000#32)
  select msk (extractStridedSlice S128x512 ![0, 0] s slices_S256x512_o0_0_S128x512)
    (addf (extractStridedSlice S128x512 ![128, 0] s slices_S256x512_o128_0_S128x512) (broadcast S128x512 bias))

/-- The greatest score of each query, and the sink. -/
def maxT (s : FVec F S128x512 .f32) (snk : FVec F S1x512 .f32) : FVec F S1x512 .f32 :=
  maximumf (shapeCast S1x512 (multiReduction FKind.maximumf [0] S512 s 4286578688#32 reduces_S128x512_S512 (.inl rfl) rfl) shapeCasts_S512_S1x512) snk

/-- One group's attention from its scores. -/
def attnT (msk : IVec S128x512 1) (s : FVec F S128x512 .f32) (snk : FVec F S1x512 .f32) (vc vp : FVec F S1x64x128 .bf16) : FVec F S64x512 .f32 :=
  let mx := maxT s snk
  let p := exp2 (subf s (broadcastTo S128x512 mx broadcasts_S1x512_S128x512))
  let den := addf (shapeCast S1x512 (multiReduction FKind.add [0] S512 p 0#32 reduces_S128x512_S512 (.inl rfl) rfl) shapeCasts_S512_S1x512) (exp2 (subf snk mx))
  let z : FVec F S128x512 .f32 := broadcast S128x512 (Scalar.ofBits .f32 0x00000000#32)
  let pt := truncf .bf16 (concatenate S256x512 0 [⟨S128x512, select msk p z⟩, ⟨S128x512, select msk z p⟩] concatenates_S128x512_S128x512_S256x512_d0) bitsLt_bf16_f32
  let v := concatenate S64x256 1 [⟨S64x128, shapeCast S64x128 vc shapeCasts_S1x64x128_S64x128⟩, ⟨S64x128, shapeCast S64x128 vp shapeCasts_S1x64x128_S64x128⟩] concatenates_S64x128_S64x128_S64x256_d1
  mulf (matmul dot_S64x256_S256x512_S64x512_1_0_0_1_n_n none v pt (constant S64x512 .f32 0x00000000#32))
    (broadcastTo S64x512 (divf (broadcast S1x512 (Scalar.ofBits .f32 0x3F800000#32)) den) broadcasts_S1x512_S64x512)

/-- Head `h`'s quarter of its group's attention, as stored. -/
def outT (o : FVec F S64x512 .f32) (r : Fin 4) : FVec F S1x1x64x128 .bf16 :=
  shapeCast S1x1x64x128 (truncf .bf16 (extractStridedSlice S64x128 ![0, 128 * r.val] o
    ⟨rfl, by intro a; match a with | 0 => exact Nat.le_refl 64 | 1 => exact (by omega : 128 * r.val + 128 ≤ 512)⟩) bitsLt_bf16_f32) shapeCasts_S64x128_S1x1x64x128

/-- The logistic gate of a quarter of the gates. -/
def gateT (g : Vec F S512x256 .bf16) : FVec F S512x256 .f32 :=
  divf (broadcast S512x256 (Scalar.ofBits .f32 0x3F800000#32))
    (addf (broadcast S512x256 (Scalar.ofBits .f32 0x3F800000#32)) (exp (subf (broadcast S512x256 (Scalar.ofBits .f32 0x00000000#32)) (extf .f32 g bitsLt_bf16_f32))))

/-- A quarter of the gates. -/
def gateQ (G : Vec F S512x2048 .bf16) (o : ℕ) (ho : o + 256 ≤ 2048) : Vec F S512x256 .bf16 :=
  View.ld G (Rect.unit (s := S512x2048) ![0, o] S512x256.size (by intro a; match a with | 0 => exact Nat.le_refl 512 | 1 => exact ho))

/-- The attended tile through the attention's projection, block by block. -/
def yaT (A : Fin 4 → FVec F S1x1x1024x128 .bf16) (Wa : Vec F S1024x1024 .bf16) : FVec F S512x1024 .f32 :=
  let w := shapeCast S1024x1024 (View.ld Wa (Rect.unit (s := S1024x1024) ![0, 0] S1024x1024.size inb_S1024x1024_S1024x1024_0_0) : Vec F S1024x1024 .bf16) shapeCasts_S1024x1024_S1024x1024
  let y (b : Fin 4) : FVec F S128x1024 .f32 := matmul dot_S1024x128_S1024x1024_S128x1024_0_0_1_1_n_n none (shapeCast S1024x128 (A b) shapeCasts_S1x1x1024x128_S1024x128) w (constant S128x1024 .f32 0x00000000#32)
  concatenate S512x1024 0 [⟨S128x1024, y 0⟩, ⟨S128x1024, y 1⟩, ⟨S128x1024, y 2⟩, ⟨S128x1024, y 3⟩] concatenates_S128x1024_S128x1024_S128x1024_S128x1024_S512x1024_d0

/-- A quarter of the recurrence's projection. -/
def ysT (Y : Vec F S512x2048 .bf16) (Ws : Vec F S2048x1024 .bf16) (k : Fin 4) : FVec F S512x256 .f32 :=
  matmul dot_S512x2048_S2048x256_S512x256_1_0_0_1_n_n none
    (View.ld Y (Rect.unit (s := S512x2048) ![0, 0] S512x2048.size inb_S512x2048_S512x2048_0_0) : Vec F S512x2048 .bf16)
    (shapeCast S2048x256 (View.ld Ws (Rect.unit (s := S2048x1024) ![0, 256 * k.val] S2048x256.size
      (by intro a; match a with | 0 => exact Nat.le_refl 2048 | 1 => exact (by omega : 256 * k.val + 256 ≤ 1024))) : Vec F S2048x256 .bf16) shapeCasts_S2048x256_S2048x256)
    (constant S512x256 .f32 0x00000000#32)

/-- A quarter of the two projections, gated and added. -/
def gatedT (G : Vec F S512x2048 .bf16) (ys : FVec F S512x256 .f32) (ya : FVec F S512x1024 .f32) (k : Fin 4) : FVec F S512x256 .bf16 :=
  truncf .bf16 (addf (mulf (gateT (gateQ G (256 * k.val) (by omega))) ys)
    (mulf (gateT (gateQ G (1024 + 256 * k.val) (by omega)))
      (extractStridedSlice S512x256 ![0, 256 * k.val] ya ⟨rfl, by intro a; match a with | 0 => exact Nat.le_refl 512 | 1 => exact (by omega : 256 * k.val + 256 ≤ 1024)⟩))) bitsLt_bf16_f32

/-- A quarter of the last projection. -/
def mixQ (z : FVec F S512x1024 .bf16) (Wm : Vec F S1024x1024 .bf16) (k : Fin 4) : FVec F S512x256 .f32 :=
  matmul dot_S512x1024_S1024x256_S512x256_1_0_0_1_n_n none z
    (shapeCast S1024x256 (View.ld Wm (Rect.unit (s := S1024x1024) ![0, 256 * k.val] S1024x256.size
      (by intro a; match a with | 0 => exact Nat.le_refl 1024 | 1 => exact (by omega : 256 * k.val + 256 ≤ 1024))) : Vec F S1024x256 .bf16) shapeCasts_S1024x256_S1024x256)
    (constant S512x256 .f32 0x00000000#32)

/-- The mixed rows before the norm. -/
def mixT (G : Vec F S512x2048 .bf16) (Y : Vec F S512x2048 .bf16) (Ws : Vec F S2048x1024 .bf16) (ya : FVec F S512x1024 .f32) (Wm : Vec F S1024x1024 .bf16) : FVec F S512x1024 .f32 :=
  let g (k : Fin 4) := gatedT G (ysT Y Ws k) ya k
  let z := concatenate S512x1024 1 [⟨S512x256, g 0⟩, ⟨S512x256, g 1⟩, ⟨S512x256, g 2⟩, ⟨S512x256, g 3⟩] concatenates_S512x256_S512x256_S512x256_S512x256_S512x1024_d1
  concatenate S512x1024 1 [⟨S512x256, mixQ z Wm 0⟩, ⟨S512x256, mixQ z Wm 1⟩, ⟨S512x256, mixQ z Wm 2⟩, ⟨S512x256, mixQ z Wm 3⟩] concatenates_S512x256_S512x256_S512x256_S512x256_S512x1024_d1

/-- The rows normed, weighted and added to the residual. -/
def normT (o : FVec F S512x1024 .f32) (x : Vec F S512x1024 .f32) (w : Vec F S1x1024 .f32) : FVec F S512x1024 .f32 :=
  let ms := divf (shapeCast S512x1 (multiReduction FKind.add [1] S512 (mulf o o) 0#32 reduces_S512x1024_S512 (.inl rfl) rfl) shapeCasts_S512_S512x1) (broadcast S512x1 (Scalar.ofBits .f32 0x44800000#32))
  let rs := rsqrt (addf ms (broadcast S512x1 (Scalar.ofBits .f32 0x358637BD#32)))
  addf (shapeCast S512x1024 (View.ld x (Rect.unit (s := S512x1024) ![0, 0] S512x1024.size inb_S512x1024_S512x1024_0_0) : Vec F S512x1024 .f32) shapeCasts_S512x1024_S512x1024)
    (mulf (mulf o (broadcastTo S512x1024 rs broadcasts_S512x1_S512x1024))
      (broadcastTo S512x1024 (shapeCast S1x1024 (View.ld w (Rect.unit (s := S1x1024) ![0, 0] S1x1024.size inb_S1x1024_S1x1024_0_0) : Vec F S1x1024 .f32) shapeCasts_S1x1024_S1x1024) broadcasts_S1x1024_S512x1024))

end Cert.KernelIdeal.Attn

end
-- ==== Proof.KernelIdeal.Pieces.lean ====
/-
  What the body stores at one grid point, list by list, as the tiles of `Tiles`.
-/
module

public import proofs.«01_k».proof.Proof.KernelIdeal.Tiles
public import proofs.«01_k».proof.Proof.KernelIdeal.Run

@[expose] public section

set_option maxRecDepth 16384

noncomputable section

namespace Cert.KernelIdeal.Attn

open Cert.KernelIdeal Cert.KernelIdeal.Gen
open Idealize.ShloMosaic Idealize.ShloMosaic.TcCoe

variable {F : FTy → Type} [FloatOps F] [Named F]

/-- The rows of head `h` in the queries' scratch. -/
def qRect (h : Fin 16) : Rect S1024x128 := Rect.unit (s := S1024x128) ![64 * h.val, 0] S64x128.size
  (by intro a; match a with | 0 => exact (by omega : 64 * h.val + 64 ≤ 1024) | 1 => exact Nat.le_refl 128)
/-- Slot `p`, group `g` of the keys' scratch. -/
def kRect (p : Fin 2) (g : Fin 4) : Rect S2x4x128x64 := Rect.unit (s := S2x4x128x64) ![p.val, g.val, 0, 0] S1x1x128x64.size
  (by intro a; match a with | 0 => exact (by omega : p.val + 1 ≤ 2) | 1 => exact (by omega : g.val + 1 ≤ 4) | 2 => exact Nat.le_refl 128 | 3 => exact Nat.le_refl 64)
/-- Slot `p` of the values' scratch. -/
def vRect (p : Fin 2) : Rect S2x256x128 := Rect.unit (s := S2x256x128) ![p.val, 0, 0] S1x256x128.size
  (by intro a; match a with | 0 => exact (by omega : p.val + 1 ≤ 2) | 1 => exact Nat.le_refl 256 | 2 => exact Nat.le_refl 128)
/-- Slot `p`, group `g` of the values' scratch. -/
def vRectG (p : Fin 2) (g : Fin 4) : Rect S2x256x128 := Rect.unit (s := S2x256x128) ![p.val, 64 * g.val, 0] S1x64x128.size
  (by intro a; match a with | 0 => exact (by omega : p.val + 1 ≤ 2) | 1 => exact (by omega : 64 * g.val + 64 ≤ 256) | 2 => exact Nat.le_refl 128)

/-- The heads, last first: the order a list of stores holds them in. -/
def heads : List (Fin 16) := [⟨15, by decide⟩, ⟨14, by decide⟩, ⟨13, by decide⟩, ⟨12, by decide⟩, ⟨11, by decide⟩, ⟨10, by decide⟩, ⟨9, by decide⟩, ⟨8, by decide⟩,
  ⟨7, by decide⟩, ⟨6, by decide⟩, ⟨5, by decide⟩, ⟨4, by decide⟩, ⟨3, by decide⟩, ⟨2, by decide⟩, ⟨1, by decide⟩, ⟨0, by decide⟩]
/-- The groups, last first. -/
def groups : List (Fin 4) := [⟨3, by decide⟩, ⟨2, by decide⟩, ⟨1, by decide⟩, ⟨0, by decide⟩]

section Lists
variable (W : Vec F S32x128 .f32) (P : Vec F S1x512 .i32) (X : Vec F S1536x512 .bf16)

/-- Block `b`'s stores of queries. -/
def qList (b : Fin 4) : List (View.Piece (Elt F) S1024x128 .bf16) := heads.map fun h => ⟨qRect h, qT W P X b h⟩
/-- Block `b`'s stores of keys. -/
def kList (b : Fin 4) : List (View.Piece (Elt F) S2x4x128x64 .bf16) := groups.map fun g => ⟨kRect ⟨b.val % 2, by omega⟩ g, kT W P X b g⟩
/-- Block `b`'s store of values. -/
def vPiece (b : Fin 4) : View.Piece (Elt F) S2x256x128 .bf16 := ⟨vRect ⟨b.val % 2, by omega⟩, vT X b⟩
end Lists

/-- The blocks' lists up to block `b`, last first. -/
def upTo {α : Type} (f : Fin 4 → List α) : Fin 4 → List α
  | 0 => f 0
  | 1 => f 1 ++ f 0
  | 2 => f 2 ++ (f 1 ++ f 0)
  | 3 => f 3 ++ (f 2 ++ (f 1 ++ f 0))

/-- The sinks of group `g`, each over its head's queries, in base two. -/
def sinkT (X1 : Vec F S16 .f32) (g : Fin 4) : FVec F S1x512 .f32 :=
  let one (r : Fin 4) : FVec F S1x128 .f32 := broadcast S1x128 (Scalar.mulf
    (View.ld X1 (Rect.unit (s := S16) ![4 * g.val + r.val] S1.size (by intro a; match a with | 0 => exact (by omega : 4 * g.val + r.val + 1 ≤ 16))) (Shape.Idx.first (numel1_S1 ▸ Nat.one_pos)) : F .f32)
    (Named.named κ "log2e" 0x3FB8AA3B#32))
  concatenate S1x512 1 [⟨S1x128, one 0⟩, ⟨S1x128, one 1⟩, ⟨S1x128, one 2⟩, ⟨S1x128, one 3⟩] concatenates_S1x128_S1x128_S1x128_S1x128_S1x512_d1

/-- Slot `j % 2`, block `b`, rows of head `h` of the attention's scratch. -/
def aRect (i : grid0.Coords) (b : Fin 4) (h : Fin 16) : Rect S2x4x1024x128 := Rect.unit (s := S2x4x1024x128) ![k0_off1 i 0, b.val, 64 * h.val, 0] S1x1x64x128.size
  (by intro a; match a with
      | 0 => exact (by rw [store_slot]; omega : k0_off1 i 0 + 1 ≤ 2) | 1 => exact (by omega : b.val + 1 ≤ 4)
      | 2 => exact (by omega : 64 * h.val + 64 ≤ 1024) | 3 => exact Nat.le_refl 128)
/-- The other slot, block `b`, whole. -/
def bRect (i : grid0.Coords) (b : Fin 4) : Rect S2x4x1024x128 := Rect.unit (s := S2x4x1024x128) ![k0_off17 i 0, b.val, 0, 0] S1x1x1024x128.size
  (by intro a; match a with
      | 0 => exact (by rw [load_slot]; omega : k0_off17 i 0 + 1 ≤ 2) | 1 => exact (by omega : b.val + 1 ≤ 4)
      | 2 => exact Nat.le_refl 1024 | 3 => exact Nat.le_refl 128)

/-- Block `b`'s stores of attention, from its groups' results. -/
def aList (i : grid0.Coords) (b : Fin 4) (o : Fin 4 → FVec F S64x512 .f32) : List (View.Piece (Elt F) S2x4x1024x128 .bf16) :=
  heads.map fun h => ⟨aRect i b h, outT (o ⟨h.val / 4, by omega⟩) ⟨h.val % 4, by omega⟩⟩

section Found
variable (c : Dev nD) (i : grid0.Coords)
    (M1 : Memref sig .tc .smem S16 .f32) (h1 : M1.IsWhole)
    (M2 : Memref sig .tc .vmem S1536x512 .bf16) (h2 : M2.IsWhole)
    (M3 : Memref sig .tc .vmem S1x512 .i32) (h3 : M3.IsWhole)
    (M4 : Memref sig .tc .vmem S32x128 .f32) (h4 : M4.IsWhole)
    (M5 : Memref sig .tc .vmem S512x2048 .bf16) (h5 : M5.IsWhole)
    (M6 : Memref sig .tc .vmem S512x2048 .bf16) (h6 : M6.IsWhole)
    (M7 : Memref sig .tc .vmem S512x1024 .f32) (h7 : M7.IsWhole)
    (M8 : Memref sig .tc .vmem S2048x1024 .bf16) (h8 : M8.IsWhole)
    (M9 : Memref sig .tc .vmem S1024x1024 .bf16) (h9 : M9.IsWhole)
    (M10 : Memref sig .tc .vmem S1024x1024 .bf16) (h10 : M10.IsWhole)
    (M11 : Memref sig .tc .vmem S1x1024 .f32) (h11 : M11.IsWhole)
    (M12 : Memref sig .tc .vmem S512x1024 .f32) (h12 : M12.IsWhole)
    (M13 : Memref sig .tc .vmem S1024x128 .bf16) (h13 : M13.IsWhole)
    (M14 : Memref sig .tc .vmem S2x4x128x64 .bf16) (h14 : M14.IsWhole)
    (M15 : Memref sig .tc .vmem S2x256x128 .bf16) (h15 : M15.IsWhole)
    (M16 : Memref sig .tc .vmem S2x4x1024x128 .bf16) (h16 : M16.IsWhole)
    (v11 : BitVec 1) (v24 : BitVec 32) (v25 : IVec S128x512 32) (v28 : BitVec 32) (v30 : IVec S128x512 32) (v32 v34 : IVec S128x512 1) (v35 : BitVec 1)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f14 : Bf (F := F) c M14) (f15 : Bf (F := F) c M15) (f16 : Bf (F := F) c M16)

/-- This block's keys, as loaded. -/
def kcR (W : Vec F S32x128 .f32) (P : Vec F S1x512 .i32) (X : Vec F S1536x512 .bf16) (b g : Fin 4) : FVec F S1x1x128x64 .bf16 :=
  M14.view.readCov (upTo (kList W P X) b) (kRect ⟨b.val % 2, by omega⟩ g).toLoadRect
/-- The keys of the block before, as loaded. -/
def kpR (W : Vec F S32x128 .f32) (P : Vec F S1x512 .i32) (X : Vec F S1536x512 .bf16) (b g : Fin 4) : FVec F S1x1x128x64 .bf16 :=
  match b with
  | 0 => M14.view.readAt (Elt F) (kRect 1 g).toLoadRect f14
  | b => M14.view.readCov (upTo (kList W P X) b) (kRect ⟨(b.val + 1) % 2, by omega⟩ g).toLoadRect
/-- This block's values, as loaded. -/
def vcR (X : Vec F S1536x512 .bf16) (b g : Fin 4) : FVec F S1x64x128 .bf16 :=
  M15.view.readCov (upTo (fun b => [vPiece X b]) b) (vRectG ⟨b.val % 2, by omega⟩ g).toLoadRect
/-- The values of the block before, as loaded. -/
def vpR (X : Vec F S1536x512 .bf16) (b g : Fin 4) : FVec F S1x64x128 .bf16 :=
  match b with
  | 0 => M15.view.readAt (Elt F) (vRectG 1 g).toLoadRect f15
  | b => M15.view.readCov (upTo (fun b => [vPiece X b]) b) (vRectG ⟨(b.val + 1) % 2, by omega⟩ g).toLoadRect
/-- The queries, as loaded. -/
def qR (W : Vec F S32x128 .f32) (P : Vec F S1x512 .i32) (X : Vec F S1536x512 .bf16) (b : Fin 4) (h : Fin 16) : FVec F S64x128 .bf16 :=
  M13.view.readCov (upTo (qList W P X) b) (qRect h).toLoadRect

/-- What is added to the scores of the block before: at the first block of a sequence, minus infinity. -/
def biasOf (v11 : BitVec 1) (b : Fin 4) : F .f32 :=
  match b with
  | 0 => Scalar.select v11 (Scalar.ofBits .f32 0xFF800000#32) (Scalar.ofBits .f32 0x00000000#32)
  | _ => Scalar.ofBits .f32 0x00000000#32

/-- One group's attention, as computed. -/
def oR (msk : IVec S128x512 1) (b g : Fin 4) : FVec F S64x512 .f32 :=
  let W := M4.view.read (Elt F) f4; let P := M3.view.read (Elt F) f3; let X := M2.view.read (Elt F) f2
  attnT msk (scoreT msk (biasOf v11 b) (kcR M14 W P X b g) (kpR c M14 f14 W P X b g)
    (qR M13 W P X b ⟨4 * g.val, by omega⟩) (qR M13 W P X b ⟨4 * g.val + 1, by omega⟩) (qR M13 W P X b ⟨4 * g.val + 2, by omega⟩) (qR M13 W P X b ⟨4 * g.val + 3, by omega⟩))
    (sinkT (M1.view.read (Elt F) f1) g) (vcR M15 X b g) (vpR c M15 f15 X b g)

/-- All the stores of attention. -/
def aAll (b : Fin 4) : List (View.Piece (Elt F) S2x4x1024x128 .bf16) :=
  upTo (fun b => aList i b (oR c M1 M2 M3 M4 M13 M14 M15 v11 f1 f2 f3 f4 f14 f15 (k0_pay7 v25 v28 v30 v32 v34 v35) b)) b

/-- The attended tile the body reads, a block at a time. -/
def aPrev (b : Fin 4) : FVec F S1x1x1024x128 .bf16 :=
  match b with
  | 0 => M16.view.readAt (Elt F) (bRect i 0).toLoadRect (M16.view.writes (Elt F) f16 (aAll c i M1 M2 M3 M4 M13 M14 M15 v11 v25 v28 v30 v32 v34 v35 f1 f2 f3 f4 f14 f15 0))
  | b => M16.view.readAt (Elt F) (bRect i b).toLoadRect f16

end Found

end Cert.KernelIdeal.Attn

end
-- ==== Proof.KernelIdeal.Lists.lean ====
/-
  The run of the body leaves exactly the lists of stores of `Pieces`.
-/
module

public import proofs.«01_k».proof.Proof.KernelIdeal.Pieces
public import proofs.«01_k».proof.Proof.KernelIdeal.Run

@[expose] public section

set_option maxRecDepth 16384

noncomputable section

namespace Cert.KernelIdeal.Attn

open Cert.KernelIdeal Cert.KernelIdeal.Gen
open Idealize.ShloMosaic Idealize.ShloMosaic.TcCoe

variable {F : FTy → Type} [FloatOps F] [Named F]

section Found
variable (c : Dev nD) (i : grid0.Coords)
    (M1 : Memref sig .tc .smem S16 .f32) (h1 : M1.IsWhole)
    (M2 : Memref sig .tc .vmem S1536x512 .bf16) (h2 : M2.IsWhole)
    (M3 : Memref sig .tc .vmem S1x512 .i32) (h3 : M3.IsWhole)
    (M4 : Memref sig .tc .vmem S32x128 .f32) (h4 : M4.IsWhole)
    (M5 : Memref sig .tc .vmem S512x2048 .bf16) (h5 : M5.IsWhole)
    (M6 : Memref sig .tc .vmem S512x2048 .bf16) (h6 : M6.IsWhole)
    (M7 : Memref sig .tc .vmem S512x1024 .f32) (h7 : M7.IsWhole)
    (M8 : Memref sig .tc .vmem S2048x1024 .bf16) (h8 : M8.IsWhole)
    (M9 : Memref sig .tc .vmem S1024x1024 .bf16) (h9 : M9.IsWhole)
    (M10 : Memref sig .tc .vmem S1024x1024 .bf16) (h10 : M10.IsWhole)
    (M11 : Memref sig .tc .vmem S1x1024 .f32) (h11 : M11.IsWhole)
    (M12 : Memref sig .tc .vmem S512x1024 .f32) (h12 : M12.IsWhole)
    (M13 : Memref sig .tc .vmem S1024x128 .bf16) (h13 : M13.IsWhole)
    (M14 : Memref sig .tc .vmem S2x4x128x64 .bf16) (h14 : M14.IsWhole)
    (M15 : Memref sig .tc .vmem S2x256x128 .bf16) (h15 : M15.IsWhole)
    (M16 : Memref sig .tc .vmem S2x4x1024x128 .bf16) (h16 : M16.IsWhole)
    (v11 : BitVec 1) (v24 : BitVec 32) (v25 : IVec S128x512 32) (v28 : BitVec 32) (v30 : IVec S128x512 32) (v32 v34 : IVec S128x512 1) (v35 : BitVec 1)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f14 : Bf (F := F) c M14) (f15 : Bf (F := F) c M15) (f16 : Bf (F := F) c M16)

set_option maxHeartbeats 2000000 in
/-- What the body leaves: every list of stores. -/
theorem rest_eq : (restRun c i M1 h1 M2 h2 M3 h3 M4 h4 M5 h5 M6 h6 M7 h7 M8 h8 M9 h9 M10 h10 M11 h11 M12 h12 M13 h13 M14 h14 M15 h15 M16 h16 v11 v24 v25 v28 v30 v32 v34 v35 f1 f2 f3 f4 f5 f6 f7 f8 f9 f10 f11 f14 f15 f16).1
    = (M12.view.writes (Elt F) M12.view.junk [⟨Rect.unit (s := S512x1024) ![0, 0] S512x1024.size inb_S512x1024_S512x1024_0_0,
          normT (mixT (M6.view.read (Elt F) f6) (M5.view.read (Elt F) f5) (M8.view.read (Elt F) f8)
            (yaT (aPrev c i M1 M2 M3 M4 M13 M14 M15 M16 v11 v25 v28 v30 v32 v34 v35 f1 f2 f3 f4 f14 f15 f16) (M9.view.read (Elt F) f9))
            (M10.view.read (Elt F) f10)) (M7.view.read (Elt F) f7) (M11.view.read (Elt F) f11)⟩],
       M14.view.writes (Elt F) M14.view.junk (upTo (kList (M4.view.read (Elt F) f4) (M3.view.read (Elt F) f3) (M2.view.read (Elt F) f2)) 3),
       M15.view.writes (Elt F) M15.view.junk (upTo (fun b => [vPiece (M2.view.read (Elt F) f2) b]) 3),
       M16.view.writes (Elt F) f16 (aAll c i M1 M2 M3 M4 M13 M14 M15 v11 v25 v28 v30 v32 v34 v35 f1 f2 f3 f4 f14 f15 3)) := by
  refine Prod.ext ?o (Prod.ext ?k (Prod.ext ?v ?a))
  case k => rfl
  case v => rfl
  case a => rfl
  case o => rfl
end Found

end Cert.KernelIdeal.Attn

end
-- ==== Proof.KernelIdeal.Reads.lean ====
/-
  What the body's loads of its scratches read: the tile of the store that covers them.
-/
module

public import proofs.«01_k».proof.Proof.KernelIdeal.Pieces
public import Idealize.ShloMosaic.Lib.Pipeline.FrameBody

@[expose] public section

set_option maxRecDepth 16384

noncomputable section

namespace Cert.KernelIdeal.Attn

open Cert.KernelIdeal Cert.KernelIdeal.Gen
open Idealize.ShloMosaic Idealize.ShloMosaic.TcCoe

section Family
variable {s : Shape} {e : EltTy} {Val : EltTy → Type} [∀ e, Nonempty (Val e)] {ι : Type}

/-- Stores at rectangles that keep apart, read under one of them. -/
theorem canon_fam (rs : ι → Rect s) (pay : (h : ι) → (rs h).shape.Idx → Val e) (L : List (View.Piece Val s e))
    (hdis : ∀ h h' y, y ∈ (rs h).set → y ∈ (rs h').set → h = h') (h : ι) (x : (rs h).shape.Idx) :
    ∀ hs : List ι, h ∈ hs → View.canon (hs.map (fun h => (⟨rs h, pay h⟩ : View.Piece Val s e)) ++ L) ((rs h).emb x) = pay h x
  | [], hm => absurd hm List.not_mem_nil
  | h' :: hs, hm => by
    by_cases e : h' = h
    · subst e
      exact View.canon_cons_emb _ _ _ x
    · rw [List.map_cons, List.cons_append, View.canon_cons_of_not_mem _ _ (fun hy => e (hdis h' h _ hy ((rs h).toLoadRect.idx_mem x)))]
      exact canon_fam rs pay L hdis h x hs ((List.mem_cons.mp hm).resolve_left (fun h => e h.symm))

/-- Stores that miss an index leave it as before. -/
theorem canon_skip (L : List (View.Piece Val s e)) (y : s.Idx) :
    ∀ Ps : List (View.Piece Val s e), (∀ p ∈ Ps, y ∉ p.1.set) → View.canon (Ps ++ L) y = View.canon L y
  | [], _ => rfl
  | p :: Ps, h => by
    rw [List.cons_append, View.canon_cons_of_not_mem _ _ (h p List.mem_cons_self)]
    exact canon_skip L y Ps fun q hq => h q (List.mem_cons_of_mem _ hq)
end Family

theorem mem_heads (h : Fin 16) : h ∈ heads := by revert h; decide
theorem mem_groups (g : Fin 4) : g ∈ groups := by revert g; decide

theorem upTo_self {α : Type} (f : Fin 4 → List α) (b : Fin 4) : ∃ L, upTo f b = f b ++ L := by
  match b with
  | 0 => exact ⟨[], (List.append_nil _).symm⟩
  | 1 => exact ⟨_, rfl⟩
  | 2 => exact ⟨_, rfl⟩
  | 3 => exact ⟨_, rfl⟩
theorem upTo_succ {α : Type} (f : Fin 4 → List α) (b : Fin 3) : ∃ L, upTo f b.succ = f b.succ ++ (f b.castSucc ++ L) := by
  match b with
  | 0 => exact ⟨[], by rw [List.append_nil]; rfl⟩
  | 1 => exact ⟨_, rfl⟩
  | 2 => exact ⟨_, rfl⟩

theorem mem_qRect {h : Fin 16} {y : S1024x128.Idx} (m : y ∈ (qRect h).set) : 64 * h.val ≤ (y 0).val ∧ (y 0).val < 64 * h.val + 64 := Rect.mem_set_unit.mp m 0
theorem mem_kRect {p : Fin 2} {g : Fin 4} {y : S2x4x128x64.Idx} (m : y ∈ (kRect p g).set) :
    (p.val ≤ (y 0).val ∧ (y 0).val < p.val + 1) ∧ (g.val ≤ (y 1).val ∧ (y 1).val < g.val + 1) := ⟨Rect.mem_set_unit.mp m 0, Rect.mem_set_unit.mp m 1⟩
theorem mem_vRect {p : Fin 2} {y : S2x256x128.Idx} (m : y ∈ (vRect p).set) : p.val ≤ (y 0).val ∧ (y 0).val < p.val + 1 := Rect.mem_set_unit.mp m 0
theorem mem_vRectG {p : Fin 2} {g : Fin 4} {y : S2x256x128.Idx} (m : y ∈ (vRectG p g).set) : p.val ≤ (y 0).val ∧ (y 0).val < p.val + 1 := Rect.mem_set_unit.mp m 0

theorem qRect_inj (h h' : Fin 16) (y : S1024x128.Idx) (m : y ∈ (qRect h).set) (m' : y ∈ (qRect h').set) : h = h' := by
  have a := mem_qRect m
  have b := mem_qRect m'
  exact Fin.ext (by omega)
theorem kRect_inj {p p' : Fin 2} (g g' : Fin 4) (y : S2x4x128x64.Idx) (m : y ∈ (kRect p g).set) (m' : y ∈ (kRect p' g').set) : p = p' ∧ g = g' := by
  have a := mem_kRect m
  have b := mem_kRect m'
  exact ⟨Fin.ext (by omega), Fin.ext (by omega)⟩
theorem vRect_slot {p p' : Fin 2} (g : Fin 4) (y : S2x256x128.Idx) (m : y ∈ (vRectG p g).set) (m' : y ∈ (vRect p').set) : p = p' := by
  have a := mem_vRectG m
  have b := mem_vRect m'
  exact Fin.ext (by omega)

variable {F : FTy → Type} [FloatOps F] [Named F]

section Tiles
variable (W : Vec F S32x128 .f32) (P : Vec F S1x512 .i32) (X : Vec F S1536x512 .bf16)

theorem qR_eq (M13 : Memref sig .tc .vmem S1024x128 .bf16) (b : Fin 4) (h : Fin 16) : qR M13 W P X b h = qT W P X b h := by
  obtain ⟨L, e⟩ := upTo_self (qList W P X) b
  unfold qR
  rw [e, View.readCov_eq_canon']
  funext j
  exact canon_fam qRect (qT W P X b) L qRect_inj h j heads (mem_heads h)

theorem canon_kList (p : Fin 2) (b g : Fin 4) (hp : b.val % 2 = p.val) (L : List (View.Piece (Elt F) S2x4x128x64 .bf16)) (T : FVec F S1x1x128x64 .bf16)
    (hT : kT W P X b g = T) (j : S1x1x128x64.Idx) : View.canon (kList W P X b ++ L) ((kRect p g).emb j) = T j := by
  subst hT
  have e : p = (⟨b.val % 2, Nat.mod_lt _ (by decide)⟩ : Fin 2) := Fin.ext hp.symm
  subst e
  exact canon_fam (e := .bf16) (Val := Elt F) (kRect ⟨b.val % 2, Nat.mod_lt _ (by decide)⟩) (kT W P X b) L (fun g g' y m m' => (kRect_inj g g' y m m').2) g j groups (mem_groups g)

theorem kcR_eq (M14 : Memref sig .tc .vmem S2x4x128x64 .bf16) (b g : Fin 4) : kcR M14 W P X b g = kT W P X b g := by
  obtain ⟨L, e⟩ := upTo_self (kList W P X) b
  unfold kcR
  rw [e, View.readCov_eq_canon']
  funext j
  exact canon_kList W P X _ b g rfl L _ rfl j

theorem kprev (M14 : Memref sig .tc .vmem S2x4x128x64 .bf16) (b : Fin 3) (g : Fin 4) (p : Fin 2) (hp : b.val % 2 = p.val) :
    M14.view.readCov (upTo (kList W P X) b.succ) (kRect p g).toLoadRect = kT W P X b.castSucc g := by
  obtain ⟨L, e⟩ := upTo_succ (kList W P X) b
  rw [e, View.readCov_eq_canon']
  funext j
  refine (canon_skip _ _ _ fun q hq hy => ?_).trans (canon_kList W P X p b.castSucc g hp L _ rfl j)
  obtain ⟨g', _, rfl⟩ := List.mem_map.mp hq
  have := congrArg Fin.val (kRect_inj g' g _ hy ((kRect p g).toLoadRect.idx_mem j)).1
  simp only [Fin.val_succ] at this
  omega

theorem kpR_zero (c : Dev nD) (M14 : Memref sig .tc .vmem S2x4x128x64 .bf16) (f14 : Bf (F := F) c M14) (g : Fin 4) :
    kpR c M14 f14 W P X 0 g = M14.view.readAt (Elt F) (kRect 1 g).toLoadRect f14 := rfl
theorem kpR_succ (c : Dev nD) (M14 : Memref sig .tc .vmem S2x4x128x64 .bf16) (f14 : Bf (F := F) c M14) (b : Fin 3) (g : Fin 4) :
    kpR c M14 f14 W P X b.succ g = kT W P X b.castSucc g := by
  match b with
  | 0 => exact kprev W P X M14 0 g 0 rfl
  | 1 => exact kprev W P X M14 1 g 1 rfl
  | 2 => exact kprev W P X M14 2 g 0 rfl

theorem canon_vPiece (p : Fin 2) (b g : Fin 4) (hp : b.val % 2 = p.val) (L : List (View.Piece (Elt F) S2x256x128 .bf16)) (j : (vRectG p g).shape.Idx) :
    View.canon ([vPiece X b] ++ L) ((vRectG p g).emb j) = vG (vT X b) g j := by
  obtain rfl : p = (⟨b.val % 2, Nat.mod_lt _ (by decide)⟩ : Fin 2) := Fin.ext hp.symm
  refine Eq.trans (congrArg (View.canon _) ?_) (View.canon_cons_emb (vRect ⟨b.val % 2, by omega⟩) (vT X b) L
    ((Rect.unit (s := S1x256x128) ![0, 64 * g.val, 0] S1x64x128.size (by intro a; match a with | 0 => exact Nat.le_refl 1 | 1 => exact (by omega : 64 * g.val + 64 ≤ 256) | 2 => exact Nat.le_refl 128)).emb j))
  funext a
  refine Fin.ext ?_
  match a with
  | 0 => exact (by omega : b.val % 2 + 1 * (j 0).val = b.val % 2 + 1 * (0 + 1 * (j 0).val))
  | 1 => exact (by omega : 64 * g.val + 1 * (j 1).val = 0 + 1 * (64 * g.val + 1 * (j 1).val))
  | 2 => exact (by omega : 0 + 1 * (j 2).val = 0 + 1 * (0 + 1 * (j 2).val))

theorem vcR_eq (M15 : Memref sig .tc .vmem S2x256x128 .bf16) (b g : Fin 4) : vcR M15 X b g = vG (vT X b) g := by
  obtain ⟨L, e⟩ := upTo_self (fun b => [vPiece X b]) b
  unfold vcR
  rw [e, View.readCov_eq_canon']
  funext j
  exact canon_vPiece X _ b g rfl L j

theorem vprev (M15 : Memref sig .tc .vmem S2x256x128 .bf16) (b : Fin 3) (g : Fin 4) (p : Fin 2) (hp : b.val % 2 = p.val) :
    M15.view.readCov (upTo (fun b => [vPiece X b]) b.succ) (vRectG p g).toLoadRect = vG (vT X b.castSucc) g := by
  obtain ⟨L, e⟩ := upTo_succ (fun b => [vPiece X b]) b
  rw [e, View.readCov_eq_canon']
  funext j
  refine (canon_skip _ _ _ fun q hq hy => ?_).trans (canon_vPiece X p b.castSucc g hp L j)
  obtain rfl := List.mem_singleton.mp hq
  have := congrArg Fin.val (vRect_slot g _ ((vRectG p g).toLoadRect.idx_mem j) hy)
  simp only [Fin.val_succ] at this
  omega

theorem vpR_zero (c : Dev nD) (M15 : Memref sig .tc .vmem S2x256x128 .bf16) (f15 : Bf (F := F) c M15) (g : Fin 4) :
    vpR c M15 f15 X 0 g = M15.view.readAt (Elt F) (vRectG 1 g).toLoadRect f15 := rfl
theorem vpR_succ (c : Dev nD) (M15 : Memref sig .tc .vmem S2x256x128 .bf16) (f15 : Bf (F := F) c M15) (b : Fin 3) (g : Fin 4) :
    vpR c M15 f15 X b.succ g = vG (vT X b.castSucc) g := by
  match b with
  | 0 => exact vprev X M15 0 g 0 rfl
  | 1 => exact vprev X M15 1 g 1 rfl
  | 2 => exact vprev X M15 2 g 0 rfl

/-- After a point the keys' scratch holds its last block's keys in the slot the next point reads. -/
theorem klast (M14 : Memref sig .tc .vmem S2x4x128x64 .bf16) (g : Fin 4) :
    M14.view.readCov (upTo (kList W P X) 3) (kRect 1 g).toLoadRect = kT W P X 3 g := kcR_eq W P X M14 3 g
/-- After a point the values' scratch holds its last block's values in the slot the next point reads. -/
theorem vlast (M15 : Memref sig .tc .vmem S2x256x128 .bf16) (g : Fin 4) :
    M15.view.readCov (upTo (fun b => [vPiece X b]) 3) (vRectG 1 g).toLoadRect = vG (vT X 3) g := vcR_eq X M15 3 g
end Tiles

end Cert.KernelIdeal.Attn

end
-- ==== Proof.KernelIdeal.Values.lean ====
/-
  The tiles of one grid point on extended reals: each element as a sum, a product or a rotation of the blocks read.
-/
module

public import proofs.«01_k».proof.Proof.KernelIdeal.Pieces
public import proofs.«01_k».proof.Proof.Spec

@[expose] public section

set_option maxRecDepth 16384

noncomputable section

namespace Cert.KernelIdeal.Attn

open Cert.KernelIdeal Cert.KernelIdeal.Gen Cert.Attn
open Idealize.ShloMosaic Idealize.ShloMosaic.TcCoe

theorem ladder {α : Type} (f : Fin 4 → Fin 128 → α) (r : Fin 4) (q : Fin 128) :
    (if h : 128 * r.val + q.val < 128 then f 0 ⟨128 * r.val + q.val, h⟩
      else if h' : 128 * r.val + q.val - 128 < 128 then f 1 ⟨128 * r.val + q.val - 128, h'⟩
      else if h'' : 128 * r.val + q.val - 128 - 128 < 128 then f 2 ⟨128 * r.val + q.val - 128 - 128, h''⟩
      else f 3 ⟨128 * r.val + q.val - 128 - 128 - 128, by omega⟩) = f r q := by
  have e (r' : Fin 4) (n : ℕ) (hn : n < 128) (h1 : r' = r) (h2 : n = q.val) : f r' ⟨n, hn⟩ = f r q := by
    subst h1; subst h2; rfl
  split_ifs <;> refine e _ _ _ ?_ ?_ <;> first | omega | exact Fin.ext (by simp; omega)

/-- The queries' scale in base two. -/
abbrev scaleE : EReal := (((8 : ℝ)⁻¹ * (Real.log 2)⁻¹ : ℝ) : EReal)
/-- The sinks' scale in base two. -/
abbrev log2E : EReal := (((Real.log 2)⁻¹ : ℝ) : EReal)

theorem vG_at (v : Vec Ideal S1x256x128 .bf16) (g : Fin 4) (d : Fin 64) (k : Fin 128) : vG v g (ix3 0 d k) = v (ix3 0 ⟨64 * g.val + d.val, by omega⟩ k) := by
  refine congrArg v (funext fun a => Fin.ext ?_)
  match a with
  | 0 => exact Nat.zero_add _
  | 1 => exact congrArg (64 * g.val + ·) (Nat.one_mul _)
  | 2 => exact (Nat.zero_add _).trans (Nat.one_mul _)
theorem vT_at (X : Vec Ideal S1536x512 .bf16) (b : Fin 4) (d : Fin 256) (k : Fin 128) : vT X b (ix3 0 d k) = X (ix2 ⟨1280 + d.val, by omega⟩ ⟨128 * b.val + k.val, by omega⟩) := by
  have hc (w : Vec Ideal S256x128 .bf16) : shapeCast S1x256x128 w shapeCasts_S256x128_S1x256x128 (ix3 0 d k) = w (ix2 d k) := by
    pointwise
  unfold vT
  rw [hc]
  refine congrArg X (funext fun a => Fin.ext ?_)
  match a with
  | 0 => exact congrArg (1280 + ·) (Nat.one_mul _)
  | 1 => exact congrArg (128 * b.val + ·) (Nat.one_mul _)
theorem mask_j (j : Fin 512) : (Scalar.select
        (IntOp.andi
          (IntOp.xori
            (IntOp.cmpi CmpIPredicate.slt
              (IntOp.remsi ArithUnit.vector (BitVec.ofNat 32 j.val)
                (Scalar.select (Scalar.cmpi CmpIPredicate.eq 128#32 0#32) 1#32 128#32))
              0#32)
            (Scalar.cmpi CmpIPredicate.slt 128#32 0#32))
          (IntOp.cmpi CmpIPredicate.ne
            (IntOp.remsi ArithUnit.vector (BitVec.ofNat 32 j.val)
              (Scalar.select (Scalar.cmpi CmpIPredicate.eq 128#32 0#32) 1#32 128#32))
            0#32))
        (IntOp.addi
          (IntOp.remsi ArithUnit.vector (BitVec.ofNat 32 j.val)
            (Scalar.select (Scalar.cmpi CmpIPredicate.eq 128#32 0#32) 1#32 128#32))
          128#32)
        (IntOp.remsi ArithUnit.vector (BitVec.ofNat 32 j.val)
          (Scalar.select (Scalar.cmpi CmpIPredicate.eq 128#32 0#32) 1#32 128#32))) = BitVec.ofNat 32 (j.val % 128) := by
  revert j; decide +kernel
theorem sle_at (k q : Fin 128) : IntOp.cmpi CmpIPredicate.sle (BitVec.ofNat 32 k.val) (BitVec.ofNat 32 q.val) = if k.val ≤ q.val then 1#1 else 0#1 := by
  revert k q; decide +kernel
theorem mask_at (k : Fin 128) (j : Fin 512) :
   k0_pay7 (iotaInDim S128x512 32 0) 128#32 k0_pay4 k0_pay5 k0_pay6 (Scalar.cmpi .slt 128#32 0#32) (ix2 k j) = if k.val ≤ j.val % 128 then 1#1 else 0#1 := by
  pointwise [k0_pay7, k0_pay4, k0_pay5, k0_pay6]
  rw [mask_j]
  exact sle_at k ⟨j.val % 128, by omega⟩
theorem sink_at (X1 : Vec Ideal S16 .f32) (g r : Fin 4) (q : Fin 128) :
   sinkT X1 g (ix2 0 ⟨128 * r.val + q.val, by omega⟩) = X1 (ix1 ⟨4 * g.val + r.val, by omega⟩) * log2E := by
  pointwise [sinkT]
  fin_vals r with hr <;> simp only [hr] <;> (repeat' split_ifs) <;> first | rfl | omega

theorem score_at (msk : IVec S128x512 1) (bias : EReal) (kc kp : FVec Ideal S1x1x128x64 .bf16) (qs : Fin 4 → FVec Ideal S64x128 .bf16) (k q : Fin 128) (r : Fin 4) :
    scoreT (F := Ideal) msk bias kc kp (qs 0) (qs 1) (qs 2) (qs 3) (ix2 k ⟨128 * r.val + q.val, by omega⟩) = Scalar.select (msk (ix2 k ⟨128 * r.val + q.val, by omega⟩))
      (∑ x, kc (ix4 0 0 k x) * qs r (ix2 x q)) ((∑ x, kp (ix4 0 0 k x) * qs r (ix2 x q)) + bias) := by
  pointwise [scoreT]
  have hl (x : Fin 64) := ladder (fun r q => qs r (ix2 x q)) r q
  refine congrArg₂ (Scalar.select _) (Finset.sum_congr rfl fun x _ => congrArg _ (hl x)) (congrArg (· + bias) (Finset.sum_congr rfl fun x _ => congrArg _ (hl x)))

theorem out_at (o : FVec Ideal S64x512 .f32) (r : Fin 4) (d : Fin 64) (q : Fin 128) : outT o r (ix4 0 0 d q) = o (ix2 d ⟨128 * r.val + q.val, by omega⟩) := by
  pointwise [outT]

theorem attn_at (msk : IVec S128x512 1) (s : FVec Ideal S128x512 .f32) (snk : FVec Ideal S1x512 .f32) (vc vp : FVec Ideal S1x64x128 .bf16) (d : Fin 64) (j : Fin 512) (q : Fin 128)
    (hm : ∀ k : Fin 128, msk (ix2 k j) = if k.val ≤ q.val then 1#1 else 0#1) :
    attnT msk s snk vc vp (ix2 d j) =
      ((∑ k : Fin 128, (if k.val ≤ q.val then vc (ix3 0 d k) * Ideal.exp2 (s (ix2 k j) - topOf (fun k => s (ix2 k j)) (snk (ix2 0 j))) else 0))
        + ∑ k : Fin 128, (if k.val ≤ q.val then 0 else vp (ix3 0 d k) * Ideal.exp2 (s (ix2 k j) - topOf (fun k => s (ix2 k j)) (snk (ix2 0 j)))))
      * Ideal.div 1 ((∑ k : Fin 128, Ideal.exp2 (s (ix2 k j) - topOf (fun k => s (ix2 k j)) (snk (ix2 0 j)))) + Ideal.exp2 (snk (ix2 0 j) - topOf (fun k => s (ix2 k j)) (snk (ix2 0 j)))) := by
  have hsel (k : Fin 128) (a b : EReal) : Scalar.select (msk (ix2 k j)) a b = if k.val ≤ q.val then a else b := by
    rw [hm]; unfold Scalar.select
    by_cases hk : k.val ≤ q.val
    · simp only [hk, if_true]
      rfl
    · simp only [hk, if_false]; rfl
  unfold topOf
  pointwise [attnT, maxT]
  simp only [hsel, bits_ninf]
  rfl

theorem rot_congr (A : Args) {r r' : ℕ} (h : r = r') (hr : r + 64 ≤ 1536) (T : Fin 16384) (d : Fin 64) : rot A r hr T d = rot A r' (h ▸ hr) T d := by
  subst h; rfl

theorem attn_tile {A : Args} (hA : Good A) (B : Fin 128) (g r : Fin 4) (q : Fin 128) (d : Fin 64) (msk : IVec S128x512 1) (bias : EReal)
    (kc kp : FVec Ideal S1x1x128x64 .bf16) (qs : Fin 4 → FVec Ideal S64x128 .bf16) (snk : FVec Ideal S1x512 .f32) (vc vp : FVec Ideal S1x64x128 .bf16)
    (hm : ∀ (k : Fin 128) (j : Fin 512), msk (ix2 k j) = if k.val ≤ j.val % 128 then 1#1 else 0#1)
    (hb : bias = if B.val % 64 = 0 then ⊥ else 0)
    (hkc : ∀ k x, kc (ix4 0 0 k x) = rot A (1024 + 64 * g.val) (by omega) (tok B k) x)
    (hkp : ¬ B.val % 64 = 0 → ∀ k x, kp (ix4 0 0 k x) = rot A (1024 + 64 * g.val) (by omega) (tok (pre B) k) x)
    (hq : ∀ (r : Fin 4) x q, qs r (ix2 x q) = rot A (64 * (4 * g.val + r.val)) (by omega) (tok B q) x * scaleE)
    (hs : ∀ (r : Fin 4) (q : Fin 128), snk (ix2 0 ⟨128 * r.val + q.val, by omega⟩) = A.snk (ix1 ⟨4 * g.val + r.val, by omega⟩) * log2E)
    (hvc : ∀ d k, vc (ix3 0 d k) = val A g d (tok B k))
    (hvp : ¬ B.val % 64 = 0 → ∀ d k, vp (ix3 0 d k) = val A g d (tok (pre B) k)) :
    attnT msk (scoreT (F := Ideal) msk bias kc kp (qs 0) (qs 1) (qs 2) (qs 3)) snk vc vp (ix2 d ⟨128 * r.val + q.val, by omega⟩) = att A ⟨4 * g.val + r.val, by omega⟩ d B q := by
  have hj (k : Fin 128) : msk (ix2 k ⟨128 * r.val + q.val, by omega⟩) = if k.val ≤ q.val then 1#1 else 0#1 := by
    rw [hm]
    have : (128 * r.val + q.val) % 128 = q.val := by omega
    simp only [this]
  have hh : ((⟨4 * g.val + r.val, by omega⟩ : Fin 16).val / 4) = g.val := by show (4 * g.val + r.val) / 4 = g.val; omega
  have hg : (⟨(⟨4 * g.val + r.val, by omega⟩ : Fin 16).val / 4, by omega⟩ : Fin 4) = g := Fin.ext hh
  rw [att_eq hA, attn_at msk _ snk vc vp d _ q hj]
  simp only [hvc, hg]
  have key (B' : Fin 128) (k : Fin 128) (kk : FVec Ideal S1x1x128x64 .bf16) (hk : ∀ k x, kk (ix4 0 0 k x) = rot A (1024 + 64 * g.val) (by omega) (tok B' k) x) :
      ∑ x : Fin 64, kk (ix4 0 0 k x) * qs r (ix2 x q) = (((Real.log 2)⁻¹ : ℝ) : EReal) * ((scR A ⟨4 * g.val + r.val, by omega⟩ B B' q k : ℝ) : EReal) := by
    unfold scR
    rw [← EReal.coe_mul, Finset.mul_sum, sum_real]
    refine Finset.sum_congr rfl fun x _ => ?_
    rw [hk, hq, rot_congr A (by rw [hh] : 1024 + 64 * g.val = 1024 + 64 * ((⟨4 * g.val + r.val, by omega⟩ : Fin 16).val / 4)), rot_real hA _ (by omega), rot_real hA (64 * (4 * g.val + r.val)) (by omega), ← EReal.coe_mul, ← EReal.coe_mul, EReal.coe_eq_coe_iff]
    simp only [EReal.toReal_coe]
    ring
  refine att_scaled q _ _ _ _ (hA.snk _) _ _ _ _ _ (fun k => ?_) ?_ ?_
  · rw [score_at, hj]
    unfold Scalar.select bandOf
    by_cases hk : k.val ≤ q.val
    · simp only [hk, if_true]
      exact key B k kc hkc
    · simp only [hk, if_false]
      by_cases hf : B.val % 64 = 0
      · simp only [hf, if_true] at hb ⊢
        rw [hb]
        simp only [EReal.add_bot]
        exact (EReal.coe_mul_bot_of_pos (inv_pos.2 (Real.log_pos one_lt_two))).symm
      · simp only [hf, if_false] at hb ⊢
        rw [hb, add_zero]
        exact key (pre B) k kp (hkp hf)
  · rw [hs, mul_comm]
  · intro hf k
    unfold valPre
    rw [if_neg hf, hvp hf]

/-- What a grid point reads: tile `τ`'s columns of the projections and positions, the frequencies and the sinks. -/
structure TileOf (A : Args) (τ : Fin 32) (X1 : Vec Ideal S16 .f32) (X : Vec Ideal S1536x512 .bf16) (P : Vec Ideal S1x512 .i32) (W : Vec Ideal S32x128 .f32) : Prop where
  snk : ∀ h, X1 (ix1 h) = A.snk (ix1 h)
  qkv : ∀ (r : Fin 1536) (c : Fin 512), X (ix2 r c) = A.qkv (ix2 r ⟨512 * τ.val + c.val, by omega⟩)
  pos : ∀ c : Fin 512, P (ix2 0 c) = A.pos (ix2 ⟨(512 * τ.val + c.val) / 8192, by omega⟩ ⟨(512 * τ.val + c.val) % 8192, by omega⟩)
  frq : ∀ d q, W (ix2 d q) = invf d

/-- Block `b` of tile `τ`. -/
def blk (τ : Fin 32) (b : Fin 4) : Fin 128 := ⟨4 * τ.val + b.val, by omega⟩

theorem angle_at (W : Vec Ideal S32x128 .f32) (P : Vec Ideal S1x512 .i32) (b : Fin 4) (d : Fin 32) (q : Fin 128) :
    k0_pay14 (freqs W) (posB P b) (ix2 d q) = W (ix2 d q) * FloatOps.sitofp (F := Ideal) .f32 (P (ix2 0 ⟨128 * b.val + q.val, by omega⟩)) := by
  pointwise [k0_pay14, freqs, posB]

theorem rotT_at {A : Args} {τ : Fin 32} {X1 : Vec Ideal S16 .f32} {X : Vec Ideal S1536x512 .bf16} {P : Vec Ideal S1x512 .i32} {W : Vec Ideal S32x128 .f32}
    (h : TileOf A τ X1 X P W) (r : ℕ) (hr : r + 64 ≤ 1536) (b : Fin 4) (d : Fin 64) (q : Fin 128) : rotT W P X r hr b (ix2 d q) = rot A r hr (tok (blk τ b) q) d := by
  have hT : (⟨512 * τ.val + (128 * b.val + q.val), by omega⟩ : Fin 16384) = tok (blk τ b) q := Fin.ext (by show 512 * τ.val + (128 * b.val + q.val) = 128 * (4 * τ.val + b.val) + q.val; omega)
  have ha (d : Fin 32) : k0_pay14 (freqs W) (posB P b) (ix2 d q) = ang A (tok (blk τ b) q) d := by
    rw [angle_at, h.frq, h.pos, mul_comm]
    unfold ang
    rw [← hT]
  have hx (r : Fin 1536) : X (ix2 r ⟨128 * b.val + q.val, by omega⟩) = A.qkv (ix2 r (tok (blk τ b) q)) := by
    rw [h.qkv]
    exact congrArg (fun T => A.qkv (ix2 r T)) hT
  unfold rot rotE
  simp only [← hx, ← ha]
  unfold rotT rows32 k0_pay15 k0_pay16
  pointwise
  by_cases hd : d.val < 32
  · simp only [hd, dif_pos, Nat.add_assoc]
  · simp only [hd, dif_neg, not_false_eq_true]
    have e : r + 32 + (d.val - 32) = r + d.val := by omega
    simp only [e]

theorem qT_at (W : Vec Ideal S32x128 .f32) (P : Vec Ideal S1x512 .i32) (X : Vec Ideal S1536x512 .bf16) (b : Fin 4) (h : Fin 16) (d : Fin 64) (q : Fin 128) :
    qT W P X b h (ix2 d q) = rotT W P X (64 * h.val) (by omega) b (ix2 d q) * scaleE := by
  pointwise [qT]
  rfl
theorem kT_at (W : Vec Ideal S32x128 .f32) (P : Vec Ideal S1x512 .i32) (X : Vec Ideal S1536x512 .bf16) (b g : Fin 4) (d : Fin 64) (q : Fin 128) :
    kT W P X b g (ix4 0 0 q d) = rotT W P X (1024 + 64 * g.val) (by omega) b (ix2 d q) := by
  pointwise [kT]

theorem ladder256 {α : Type} (f : Fin 4 → Fin 256 → α) (r : Fin 4) (q : Fin 256) :
    (if h : 256 * r.val + q.val < 256 then f 0 ⟨256 * r.val + q.val, h⟩
      else if h' : 256 * r.val + q.val - 256 < 256 then f 1 ⟨256 * r.val + q.val - 256, h'⟩
      else if h'' : 256 * r.val + q.val - 256 - 256 < 256 then f 2 ⟨256 * r.val + q.val - 256 - 256, h''⟩
      else f 3 ⟨256 * r.val + q.val - 256 - 256 - 256, by omega⟩) = f r q := by
  have e (r' : Fin 4) (n : ℕ) (hn : n < 256) (h1 : r' = r) (h2 : n = q.val) : f r' ⟨n, hn⟩ = f r q := by
    subst h1; subst h2; rfl
  split_ifs <;> refine e _ _ _ ?_ ?_ <;> first | omega | exact Fin.ext (by simp; omega)

theorem ya_at (Q : Fin 4 → FVec Ideal S1x1x1024x128 .bf16) (Wa : Vec Ideal S1024x1024 .bf16) (b : Fin 4) (q : Fin 128) (k : Fin 1024) :
    yaT Q Wa (ix2 ⟨128 * b.val + q.val, by omega⟩ k) = ∑ i : Fin 1024, Q b (ix4 0 0 i q) * Wa (ix2 i k) := by
  pointwise [yaT]
  exact ladder (fun b q => ∑ i : Fin 1024, Q b (ix4 0 0 i q) * Wa (ix2 i k)) b q
theorem ys_at (Y : Vec Ideal S512x2048 .bf16) (Ws : Vec Ideal S2048x1024 .bf16) (k : Fin 4) (t : Fin 512) (j : Fin 256) :
    ysT Y Ws k (ix2 t j) = ∑ i : Fin 2048, Y (ix2 t i) * Ws (ix2 i ⟨256 * k.val + j.val, by omega⟩) := by
  pointwise [ysT]
theorem gate_at (G : Vec Ideal S512x2048 .bf16) (o : ℕ) (ho : o + 256 ≤ 2048) (t : Fin 512) (j : Fin 256) :
    gateT (gateQ G o ho) (ix2 t j) = sigm (G (ix2 t ⟨o + j.val, by omega⟩)) := by
  pointwise [gateT, gateQ]
  rw [zero_sub]
  rfl
theorem gated_at (G : Vec Ideal S512x2048 .bf16) (ys : FVec Ideal S512x256 .f32) (ya : FVec Ideal S512x1024 .f32) (k : Fin 4) (t : Fin 512) (j : Fin 256) :
    gatedT G ys ya k (ix2 t j) = gateT (gateQ G (256 * k.val) (by omega)) (ix2 t j) * ys (ix2 t j) + gateT (gateQ G (1024 + 256 * k.val) (by omega)) (ix2 t j) * ya (ix2 t ⟨256 * k.val + j.val, by omega⟩) := by
  pointwise [gatedT]
theorem mixQ_at (z : FVec Ideal S512x1024 .bf16) (Wm : Vec Ideal S1024x1024 .bf16) (k : Fin 4) (t : Fin 512) (j : Fin 256) :
    mixQ z Wm k (ix2 t j) = ∑ i : Fin 1024, z (ix2 t i) * Wm (ix2 i ⟨256 * k.val + j.val, by omega⟩) := by
  pointwise [mixQ]
theorem four_at {φ : FTy} (g : Fin 4 → FVec Ideal S512x256 φ) (k : Fin 4) (t : Fin 512) (j : Fin 256) :
    concatenate S512x1024 1 [⟨S512x256, g 0⟩, ⟨S512x256, g 1⟩, ⟨S512x256, g 2⟩, ⟨S512x256, g 3⟩] concatenates_S512x256_S512x256_S512x256_S512x256_S512x1024_d1 (ix2 t ⟨256 * k.val + j.val, by omega⟩) = g k (ix2 t j) := by
  pointwise
  exact ladder256 (fun k j => g k (ix2 t j)) k j
theorem norm_at (o : FVec Ideal S512x1024 .f32) (x : Vec Ideal S512x1024 .f32) (w : Vec Ideal S1x1024 .f32) (t : Fin 512) (c : Fin 1024) :
    normT o x w (ix2 t c) = normed (fun k => o (ix2 t k)) (fun k => x (ix2 t k)) (fun k => w (ix2 0 k)) c := by
  unfold normed
  pointwise [normT]

theorem mix_at (G Y : Vec Ideal S512x2048 .bf16) (Ws : Vec Ideal S2048x1024 .bf16) (ya : FVec Ideal S512x1024 .f32) (Wm : Vec Ideal S1024x1024 .bf16) (t : Fin 512) (c : Fin 1024) :
    mixT G Y Ws ya Wm (ix2 t c) = ∑ k : Fin 1024, (sigm (G (ix2 t ⟨k.val, by omega⟩)) * (∑ i : Fin 2048, Y (ix2 t i) * Ws (ix2 i k)) + sigm (G (ix2 t ⟨1024 + k.val, by omega⟩)) * ya (ix2 t k)) * Wm (ix2 k c) := by
  have split (c : Fin 1024) : ∃ (k : Fin 4) (j : Fin 256), c = ⟨256 * k.val + j.val, by omega⟩ := ⟨⟨c.val / 256, by omega⟩, ⟨c.val % 256, by omega⟩, Fin.ext (Nat.div_add_mod _ _).symm⟩
  obtain ⟨k, j, rfl⟩ := split c
  unfold mixT
  refine (four_at (fun k => mixQ _ Wm k) k t j).trans ?_
  rw [mixQ_at]
  refine Finset.sum_congr rfl fun i _ => congrArg (· * _) ?_
  obtain ⟨k', j', rfl⟩ := split i
  refine (four_at (fun k => gatedT G (ysT Y Ws k) ya k) k' t j').trans ?_
  rw [gated_at, gate_at, gate_at, ys_at]
  simp only [Nat.add_assoc]

end Cert.KernelIdeal.Attn

end
-- ==== Proof.KernelIdeal.State.lean ====
/-
  The attention a grid point computes, from what it reads and what the point before left in the scratches.
-/
module

public import proofs.«01_k».proof.Proof.KernelIdeal.Reads
public import proofs.«01_k».proof.Proof.KernelIdeal.Values

@[expose] public section

set_option maxRecDepth 16384

noncomputable section

namespace Cert.KernelIdeal.Attn

open Cert.KernelIdeal Cert.KernelIdeal.Gen Cert.Attn
open Idealize.ShloMosaic Idealize.ShloMosaic.TcCoe

variable {A : Args} {τ : Fin 32} {X1 : Vec Ideal S16 .f32} {X : Vec Ideal S1536x512 .bf16} {P : Vec Ideal S1x512 .i32} {W : Vec Ideal S32x128 .f32}

theorem kT_tile (ht : TileOf A τ X1 X P W) (b g : Fin 4) (k : Fin 128) (x : Fin 64) :
    kT W P X b g (ix4 0 0 k x) = rot A (1024 + 64 * g.val) (by omega) (tok (blk τ b) k) x := by
  rw [kT_at, rotT_at ht]
theorem vT_tile (ht : TileOf A τ X1 X P W) (b g : Fin 4) (d : Fin 64) (k : Fin 128) :
    vG (vT X b) g (ix3 0 d k) = val A g d (tok (blk τ b) k) := by
  rw [vG_at, vT_at, ht.qkv]
  unfold val
  refine congrArg A.qkv ?_
  have e : 512 * τ.val + (128 * b.val + k.val) = 128 * (4 * τ.val + b.val) + k.val := by omega
  have e' : 1280 + (64 * g.val + d.val) = 1280 + 64 * g.val + d.val := by omega
  exact congr (congrArg ix2 (Fin.ext e')) (Fin.ext e)
theorem qT_tile (ht : TileOf A τ X1 X P W) (b : Fin 4) (h : Fin 16) (x : Fin 64) (q : Fin 128) :
    qT W P X b h (ix2 x q) = rot A (64 * h.val) (by omega) (tok (blk τ b) q) x * scaleE := by
  rw [qT_at, rotT_at ht]

theorem pre_succ (b : Fin 3) : pre (blk τ b.succ) = blk τ b.castSucc := by
  refine Fin.ext ?_
  show 4 * τ.val + (b.val + 1) - 1 = 4 * τ.val + b.val
  omega

section Group
variable (c : Dev nD)
    (M1 : Memref sig .tc .smem S16 .f32) (M2 : Memref sig .tc .vmem S1536x512 .bf16) (M3 : Memref sig .tc .vmem S1x512 .i32) (M4 : Memref sig .tc .vmem S32x128 .f32)
    (M13 : Memref sig .tc .vmem S1024x128 .bf16) (M14 : Memref sig .tc .vmem S2x4x128x64 .bf16) (M15 : Memref sig .tc .vmem S2x256x128 .bf16)
    (v11 : BitVec 1) (f1 : Bf (F := Ideal) c M1) (f2 : Bf (F := Ideal) c M2) (f3 : Bf (F := Ideal) c M3) (f4 : Bf (F := Ideal) c M4) (f14 : Bf (F := Ideal) c M14) (f15 : Bf (F := Ideal) c M15)
    (msk : IVec S128x512 1)

/-- What the keys' and values' scratches hold of the block before tile `τ`. -/
structure Before (A : Args) (τ : Fin 32) : Prop where
  k : ¬ (4 * τ.val) % 64 = 0 → ∀ (g : Fin 4) (k : Fin 128) (x : Fin 64),
    M14.view.readAt (Elt Ideal) (kRect 1 g).toLoadRect f14 (ix4 0 0 k x) = rot A (1024 + 64 * g.val) (by omega) (tok (pre (blk τ 0)) k) x
  v : ¬ (4 * τ.val) % 64 = 0 → ∀ (g : Fin 4) (d : Fin 64) (k : Fin 128),
    M15.view.readAt (Elt Ideal) (vRectG 1 g).toLoadRect f15 (ix3 0 d k) = val A g d (tok (pre (blk τ 0)) k)

theorem bias_at (hv : v11 = if (4 * τ.val) % 64 = 0 then 1#1 else 0#1) (b : Fin 4) :
    (biasOf (F := Ideal) v11 b : EReal) = if (blk τ b).val % 64 = 0 then ⊥ else 0 := by
  have z : Scalar.ofBits (F := Ideal) .f32 0x00000000#32 = (0 : EReal) := by simp [Scalar.ofBits, Ideal.ofBits, Ideal.ieee]
  have n (b : Fin 3) : ¬ (blk τ b.succ).val % 64 = 0 := by
    have : (blk τ b.succ).val = 4 * τ.val + (b.val + 1) := rfl
    omega
  match b with
  | 0 =>
    have e : (blk τ 0).val = 4 * τ.val := rfl
    rw [e]
    subst hv
    unfold biasOf Scalar.select
    by_cases h : (4 * τ.val) % 64 = 0
    · simp only [h, if_true]
      exact bits_ninf
    · simp only [h, if_false]
      exact z
  | 1 => exact z.trans (if_neg (n 0)).symm
  | 2 => exact z.trans (if_neg (n 1)).symm
  | 3 => exact z.trans (if_neg (n 2)).symm

theorem oR_at (hA : Good A) (ht : TileOf A τ (M1.view.read (Elt Ideal) f1) (M2.view.read (Elt Ideal) f2) (M3.view.read (Elt Ideal) f3) (M4.view.read (Elt Ideal) f4))
    (hB : Before c M14 M15 f14 f15 A τ) (hv : v11 = if (4 * τ.val) % 64 = 0 then 1#1 else 0#1)
    (hm : ∀ (k : Fin 128) (j : Fin 512), msk (ix2 k j) = if k.val ≤ j.val % 128 then 1#1 else 0#1) (b g r : Fin 4) (d : Fin 64) (q : Fin 128) :
    oR c M1 M2 M3 M4 M13 M14 M15 v11 f1 f2 f3 f4 f14 f15 msk b g (ix2 d ⟨128 * r.val + q.val, by omega⟩) = att A ⟨4 * g.val + r.val, by omega⟩ d (blk τ b) q := by
  unfold oR
  simp only [qR_eq, kcR_eq, vcR_eq]
  refine attn_tile hA (blk τ b) g r q d msk _ _ _ (fun r => qT _ _ _ b ⟨4 * g.val + r.val, by omega⟩) _ _ _ hm (bias_at v11 hv b) (kT_tile ht b g) ?_
    (fun r x q => qT_tile ht b ⟨4 * g.val + r.val, by omega⟩ x q) (fun r q => ?_) (vT_tile ht b g) ?_
  · intro hf k x
    match b with
    | 0 => rw [kpR_zero]; exact hB.k hf g k x
    | 1 => exact (congrFun (kpR_succ _ _ _ c M14 f14 0 g) _).trans ((kT_tile ht 0 g k x).trans (by rw [show pre (blk τ 1) = blk τ 0 from pre_succ 0]))
    | 2 => exact (congrFun (kpR_succ _ _ _ c M14 f14 1 g) _).trans ((kT_tile ht 1 g k x).trans (by rw [show pre (blk τ 2) = blk τ 1 from pre_succ 1]))
    | 3 => exact (congrFun (kpR_succ _ _ _ c M14 f14 2 g) _).trans ((kT_tile ht 2 g k x).trans (by rw [show pre (blk τ 3) = blk τ 2 from pre_succ 2]))
  · rw [sink_at, ht.snk]
  · intro hf d k
    match b with
    | 0 => rw [vpR_zero]; exact hB.v hf g d k
    | 1 => exact (congrFun (vpR_succ _ c M15 f15 0 g) _).trans ((vT_tile ht 0 g d k).trans (by rw [show pre (blk τ 1) = blk τ 0 from pre_succ 0]))
    | 2 => exact (congrFun (vpR_succ _ c M15 f15 1 g) _).trans ((vT_tile ht 1 g d k).trans (by rw [show pre (blk τ 2) = blk τ 1 from pre_succ 1]))
    | 3 => exact (congrFun (vpR_succ _ c M15 f15 2 g) _).trans ((vT_tile ht 2 g d k).trans (by rw [show pre (blk τ 3) = blk τ 2 from pre_succ 2]))
end Group

end Cert.KernelIdeal.Attn

end
-- ==== Proof.KernelIdeal.Attended.lean ====
/-
  What the attention's scratch holds after a point's stores, and what the point loads of the slot it does not store.
-/
module

public import proofs.«01_k».proof.Proof.KernelIdeal.State

@[expose] public section

set_option maxRecDepth 16384

noncomputable section

namespace Cert.KernelIdeal.Attn

open Cert.KernelIdeal Cert.KernelIdeal.Gen Cert.Attn
open Idealize.ShloMosaic Idealize.ShloMosaic.TcCoe

theorem mem_aRect {i : grid0.Coords} {b : Fin 4} {h : Fin 16} {y : S2x4x1024x128.Idx} (m : y ∈ (aRect i b h).set) :
    (k0_off1 i 0 ≤ (y 0).val ∧ (y 0).val < k0_off1 i 0 + 1) ∧ (b.val ≤ (y 1).val ∧ (y 1).val < b.val + 1) ∧ (64 * h.val ≤ (y 2).val ∧ (y 2).val < 64 * h.val + 64) :=
  ⟨Rect.mem_set_unit.mp m 0, Rect.mem_set_unit.mp m 1, Rect.mem_set_unit.mp m 2⟩

theorem canon_aSame (i : grid0.Coords) (b : Fin 4) (o : Fin 4 → FVec Ideal S64x512 .f32) (L : List (View.Piece (Elt Ideal) S2x4x1024x128 .bf16)) (h : Fin 16) (j : (aRect i b h).shape.Idx) :
    View.canon (aList i b o ++ L) ((aRect i b h).emb j) = outT (o ⟨h.val / 4, by omega⟩) ⟨h.val % 4, by omega⟩ j :=
  canon_fam (e := .bf16) (Val := Elt Ideal) (aRect i b) (fun h => outT (o ⟨h.val / 4, by omega⟩) ⟨h.val % 4, by omega⟩) L
    (fun h h' y m m' => Fin.ext (by have a := (mem_aRect m).2.2; have b := (mem_aRect m').2.2; omega)) h j heads (mem_heads h)

theorem canon_aSkip (i : grid0.Coords) (b b' : Fin 4) (hb : b.val ≠ b'.val) (o : Fin 4 → FVec Ideal S64x512 .f32) (L : List (View.Piece (Elt Ideal) S2x4x1024x128 .bf16)) (h : Fin 16) (j : (aRect i b h).shape.Idx) :
    View.canon (aList i b' o ++ L) ((aRect i b h).emb j) = View.canon L ((aRect i b h).emb j) := by
  refine canon_skip _ _ _ fun q hq hy => ?_
  obtain ⟨h', _, rfl⟩ := List.mem_map.mp hq
  obtain ⟨l, u⟩ := (mem_aRect hy).2.1
  obtain ⟨l', u'⟩ := (mem_aRect ((aRect i b h).toLoadRect.idx_mem j)).2.1
  exact hb (Nat.le_antisymm (Nat.le_of_lt_succ (Nat.lt_of_le_of_lt l' u)) (Nat.le_of_lt_succ (Nat.lt_of_le_of_lt l u')))

theorem canon_aAll (i : grid0.Coords) (f : Fin 4 → Fin 4 → FVec Ideal S64x512 .f32) (b : Fin 4) (h : Fin 16) (j : (aRect i b h).shape.Idx) :
    View.canon (upTo (fun b => aList i b (f b)) 3) ((aRect i b h).emb j) = outT (f b ⟨h.val / 4, by omega⟩) ⟨h.val % 4, by omega⟩ j := by
  unfold upTo
  match b with
  | 3 => exact canon_aSame i 3 (f 3) _ h j
  | 2 => exact (canon_aSkip i 2 3 (by decide) _ _ h j).trans (canon_aSame i 2 (f 2) _ h j)
  | 1 => exact (canon_aSkip i 1 3 (by decide) _ _ h j).trans ((canon_aSkip i 1 2 (by decide) _ _ h j).trans (canon_aSame i 1 (f 1) _ h j))
  | 0 =>
    refine (canon_aSkip i 0 3 (by decide) _ _ h j).trans ((canon_aSkip i 0 2 (by decide) _ _ h j).trans ((canon_aSkip i 0 1 (by decide) _ _ h j).trans ?_))
    have e := canon_aSame i 0 (f 0) [] h j
    rwa [List.append_nil] at e

theorem mem_aAll (i : grid0.Coords) (f : Fin 4 → Fin 4 → FVec Ideal S64x512 .f32) (b : Fin 4) (p : View.Piece (Elt Ideal) S2x4x1024x128 .bf16)
    (hp : p ∈ aList i b (f b)) : p ∈ upTo (fun b => aList i b (f b)) 3 := by
  unfold upTo
  match b with
  | 3 => exact List.mem_append_left _ hp
  | 2 => exact List.mem_append_right _ (List.mem_append_left _ hp)
  | 1 => exact List.mem_append_right _ (List.mem_append_right _ (List.mem_append_left _ hp))
  | 0 => exact List.mem_append_right _ (List.mem_append_right _ (List.mem_append_right _ hp))

/-- The stored slot after all stores. -/
theorem stored (M16 : Memref sig .tc .vmem S2x4x1024x128 .bf16) (f16 : M16.view.ty.Contents (Elt Ideal)) (i : grid0.Coords) (f : Fin 4 → Fin 4 → FVec Ideal S64x512 .f32)
    (p : Fin 2) (hp : p.val = (i 0).val % 2) (b : Fin 4) (e : Fin 1024) (q : Fin 128) :
    M16.view.read (Elt Ideal) (M16.view.writes (Elt Ideal) f16 (upTo (fun b => aList i b (f b)) 3)) (ix4 p b e q)
      = f b ⟨e.val / 64 / 4, by omega⟩ (ix2 ⟨e.val % 64, by omega⟩ ⟨128 * (e.val / 64 % 4) + q.val, by omega⟩) := by
  have he : ix4 p b e q = (aRect i b ⟨e.val / 64, by omega⟩).emb (ix4 0 0 ⟨e.val % 64, by omega⟩ q : S1x1x64x128.Idx) := by
    funext a
    refine Fin.ext ?_
    match a with
    | 0 => exact (by rw [store_slot, hp]; rfl : p.val = k0_off1 i 0 + 1 * 0)
    | 1 => exact (by omega : b.val = b.val + 1 * 0)
    | 2 => exact (by omega : e.val = 64 * (e.val / 64) + 1 * (e.val % 64))
    | 3 => exact (by omega : q.val = 0 + 1 * q.val)
  refine (View.read_writes_apply_eq_canon _ _ _ _ ⟨_, mem_aAll i f b _ (List.mem_map.mpr ⟨⟨e.val / 64, by omega⟩, mem_heads _, rfl⟩), ?_⟩).trans ?_
  · rw [he]
    exact (aRect i b ⟨e.val / 64, by omega⟩).toLoadRect.idx_mem _
  · exact (congrArg (View.canon _) he).trans ((canon_aAll i f b ⟨e.val / 64, by omega⟩ _).trans (out_at _ _ _ _))

/-- The other slot after the first block's stores. -/
theorem kept (M16 : Memref sig .tc .vmem S2x4x1024x128 .bf16) (f16 : M16.view.ty.Contents (Elt Ideal)) (i : grid0.Coords) (o : Fin 4 → FVec Ideal S64x512 .f32)
    (y : S2x4x1024x128.Idx) (hy : (y 0).val ≠ (i 0).val % 2) :
    M16.view.read (Elt Ideal) (M16.view.writes (Elt Ideal) f16 (aList i 0 o)) y = M16.view.read (Elt Ideal) f16 y := by
  refine View.read_writes_apply_of_forall_not_mem _ _ _ _ fun p hp hm => ?_
  obtain ⟨h, _, rfl⟩ := List.mem_map.mp hp
  have := (mem_aRect hm).1
  rw [store_slot] at this
  omega

theorem bRect_emb (i : grid0.Coords) (p : Fin 2) (hp : p.val = 1 - (i 0).val % 2) (b : Fin 4) (e : Fin 1024) (q : Fin 128) :
    (bRect i b).toLoadRect.idx (ix4 0 0 e q : S1x1x1024x128.Idx) = ix4 p b e q := by
  funext a
  refine Fin.ext ?_
  match a with
  | 0 => exact (by rw [load_slot, hp]; rfl : k0_off17 i 0 + 1 * 0 = p.val)
  | 1 => exact (by omega : b.val + 1 * 0 = b.val)
  | 2 => exact (by omega : 0 + 1 * e.val = e.val)
  | 3 => exact (by omega : 0 + 1 * q.val = q.val)

section Prev
variable (c : Dev nD) (i : grid0.Coords)
    (M1 : Memref sig .tc .smem S16 .f32) (M2 : Memref sig .tc .vmem S1536x512 .bf16) (M3 : Memref sig .tc .vmem S1x512 .i32) (M4 : Memref sig .tc .vmem S32x128 .f32)
    (M13 : Memref sig .tc .vmem S1024x128 .bf16) (M14 : Memref sig .tc .vmem S2x4x128x64 .bf16) (M15 : Memref sig .tc .vmem S2x256x128 .bf16) (M16 : Memref sig .tc .vmem S2x4x1024x128 .bf16)
    (v11 : BitVec 1) (v25 : IVec S128x512 32) (v28 : BitVec 32) (v30 : IVec S128x512 32) (v32 v34 : IVec S128x512 1) (v35 : BitVec 1)
    (f1 : Bf (F := Ideal) c M1) (f2 : Bf (F := Ideal) c M2) (f3 : Bf (F := Ideal) c M3) (f4 : Bf (F := Ideal) c M4) (f14 : Bf (F := Ideal) c M14) (f15 : Bf (F := Ideal) c M15) (f16 : Bf (F := Ideal) c M16)

/-- What a point loads of the other slot: what the point before left there. -/
theorem aPrev_at (p : Fin 2) (hp : p.val = 1 - (i 0).val % 2) (b : Fin 4) (e : Fin 1024) (q : Fin 128) :
    aPrev c i M1 M2 M3 M4 M13 M14 M15 M16 v11 v25 v28 v30 v32 v34 v35 f1 f2 f3 f4 f14 f15 f16 b (ix4 0 0 e q) = M16.view.read (Elt Ideal) f16 (ix4 p b e q) := by
  match b with
  | 0 =>
    refine Eq.trans (congrArg (M16.view.read (Elt Ideal) (M16.view.writes (Elt Ideal) f16 (aAll c i M1 M2 M3 M4 M13 M14 M15 v11 v25 v28 v30 v32 v34 v35 f1 f2 f3 f4 f14 f15 0))) (bRect_emb i p hp 0 e q)) (kept M16 f16 i _ _ ?_)
    show p.val ≠ _
    omega
  | 1 => exact congrArg (M16.view.read (Elt Ideal) f16) (bRect_emb i p hp 1 e q)
  | 2 => exact congrArg (M16.view.read (Elt Ideal) f16) (bRect_emb i p hp 2 e q)
  | 3 => exact congrArg (M16.view.read (Elt Ideal) f16) (bRect_emb i p hp 3 e q)
end Prev

end Cert.KernelIdeal.Attn

end
-- ==== Proof.KernelIdeal.Windows.lean ====
/-
  The blocks the windows hand the body, as entries of the arguments.
-/
module

public import proofs.«01_k».proof.Proof.KernelIdeal.Body
public import proofs.«01_k».proof.Proof.KernelIdeal.Values
public import Idealize.ShloMosaic.Lib.Pipeline.ValueKit
public import Idealize.ShloMosaic.Lib.Claim

@[expose] public section

set_option maxRecDepth 16384

noncomputable section

namespace Cert.KernelIdeal.Attn

open Cert.KernelIdeal Cert.KernelIdeal.Gen Cert.Attn
open Idealize.ShloMosaic Idealize.ShloMosaic.TcCoe

variable (m : (ℓ : Loc nD τ sig) → Buf (Elt Ideal) ℓ) (c : Dev nD)

/-- The call's arguments. -/
def argsK : Args where
  snk := m ((c : Thread nD τ).loc main_arg0)
  qkv := m ((c : Thread nD τ).loc main_arg1)
  pos := m ((c : Thread nD τ).loc main_arg2)
  yn := m ((c : Thread nD τ).loc main_arg3)
  gates := m ((c : Thread nD τ).loc main_arg4)
  x := m ((c : Thread nD τ).loc main_arg5)
  wso := m ((c : Thread nD τ).loc main_arg6)
  wao := m ((c : Thread nD τ).loc main_arg7)
  wmix := m ((c : Thread nD τ).loc main_arg8)
  nw := m ((c : Thread nD τ).loc main_arg9)

/-- Which block of its array each window shows at a point. -/
theorem idx : ∀ t : Fin cfg0.N, win0_0.index t = ![0] ∧ win0_1.index t = ![0, min t.val 31] ∧ win0_2.index t = ![0, min t.val 31] ∧ win0_3.index t = ![0, 0]
    ∧ win0_4.index t = ![t.val - 1, 0] ∧ win0_5.index t = ![t.val - 1, 0] ∧ win0_6.index t = ![t.val - 1, 0] ∧ win0_7.index t = ![0, 0] ∧ win0_8.index t = ![0, 0]
    ∧ win0_9.index t = ![0, 0] ∧ win0_10.index t = ![0, 0] ∧ win0_11.index t = ![t.val - 1, 0] :=
  (by decide +kernel : ∀ t : Fin grid0.N, _)

/-! The buffers the host fills before the call. -/

theorem host0 (a : Fin 16384) (b : Fin 1024) : V m c main_v0 (ix2 a b) = m ((c : Thread nD τ).loc main_arg5) (ix3 ⟨a.val / 8192, by omega⟩ ⟨a.val % 8192, by omega⟩ b) := by
  entry_read; pointwise
theorem host1 (b : Fin 16384) : V m c main_v1 (ix2 0 b) = m ((c : Thread nD τ).loc main_arg2) (ix2 ⟨b.val / 8192, by omega⟩ ⟨b.val % 8192, by omega⟩) := by
  entry_read; pointwise
theorem host11 (a : Fin 32) (b : Fin 128) : V m c main_v11 (ix2 a b) = invf a := by
  entry_read; pointwise; rfl
theorem host12 (a : Fin 2048) (b : Fin 1024) : V m c main_v12 (ix2 a b) = m ((c : Thread nD τ).loc main_arg6) (ix2 a b) := by
  entry_read; pointwise
theorem host13 (a : Fin 1024) (b : Fin 1024) : V m c main_v13 (ix2 a b) = m ((c : Thread nD τ).loc main_arg7) (ix2 a b) := by
  entry_read; pointwise
theorem host14 (a : Fin 1024) (b : Fin 1024) : V m c main_v14 (ix2 a b) = m ((c : Thread nD τ).loc main_arg8) (ix2 a b) := by
  entry_read; pointwise
theorem host15 (b : Fin 1024) : V m c main_v15 (ix2 0 b) = m ((c : Thread nD τ).loc main_arg9) (ix1 b) := by
  entry_read; pointwise

/-! The windows' blocks. -/

theorem rowB (t : Fin cfg0.N) (r : Fin 512) : 512 * (t.val - 1) + r.val < 16384 := by
  have h : t.val < 33 := t.isLt
  omega

variable (t : Fin cfg0.N)

theorem blk0 (h : Fin 16) : iblk m c 0 t (ix1 h) = (argsK m c).snk (ix1 h) := by
  have e := (idx t).1
  unfold argsK
  blk_ext [iblk, V, e]

theorem blk1 (r : Fin 1536) (k : Fin 512) : iblk m c 1 t (ix2 r k) = (argsK m c).qkv (ix2 r ⟨512 * min t.val 31 + k.val, by omega⟩) := by
  have e := (idx t).2.1
  unfold argsK
  blk_ext [iblk, V, e]

theorem blk4 (r : Fin 512) (k : Fin 2048) : iblk m c 4 t (ix2 r k) = (argsK m c).yn (ix2 ⟨512 * (t.val - 1) + r.val, rowB t r⟩ k) := by
  have e := (idx t).2.2.2.2.1
  unfold argsK
  blk_ext [iblk, V, e]

theorem blk5 (r : Fin 512) (k : Fin 2048) : iblk m c 5 t (ix2 r k) = (argsK m c).gates (ix2 ⟨512 * (t.val - 1) + r.val, rowB t r⟩ k) := by
  have e := (idx t).2.2.2.2.2.1
  unfold argsK
  blk_ext [iblk, V, e]

theorem blk2 (k : Fin 512) : iblk m c 2 t (ix2 0 k) = (argsK m c).pos (ix2 ⟨(512 * min t.val 31 + k.val) / 8192, by omega⟩ ⟨(512 * min t.val 31 + k.val) % 8192, by omega⟩) := by
  have e := (idx t).2.2.1
  refine Eq.trans ?_ (host1 m c ⟨512 * min t.val 31 + k.val, by omega⟩)
  blk_ext [iblk, e]

theorem blk3 (d : Fin 32) (q : Fin 128) : iblk m c 3 t (ix2 d q) = invf d := by
  have e := (idx t).2.2.2.1
  refine Eq.trans ?_ (host11 m c d q)
  blk_ext [iblk, e]

theorem blk6 (r : Fin 512) (k : Fin 1024) : iblk m c 6 t (ix2 r k)
    = (argsK m c).x (ix3 ⟨(512 * (t.val - 1) + r.val) / 8192, by have := rowB t r; omega⟩ ⟨(512 * (t.val - 1) + r.val) % 8192, by omega⟩ k) := by
  have e := (idx t).2.2.2.2.2.2.1
  refine Eq.trans ?_ (host0 m c ⟨512 * (t.val - 1) + r.val, rowB t r⟩ k)
  blk_ext [iblk, e]

theorem blk7 (a : Fin 2048) (b : Fin 1024) : iblk m c 7 t (ix2 a b) = (argsK m c).wso (ix2 a b) := by
  have e := (idx t).2.2.2.2.2.2.2.1
  refine Eq.trans ?_ (host12 m c a b)
  blk_ext [iblk, e]

theorem blk8 (a b : Fin 1024) : iblk m c 8 t (ix2 a b) = (argsK m c).wao (ix2 a b) := by
  have e := (idx t).2.2.2.2.2.2.2.2.1
  refine Eq.trans ?_ (host13 m c a b)
  blk_ext [iblk, e]

theorem blk9 (a b : Fin 1024) : iblk m c 9 t (ix2 a b) = (argsK m c).wmix (ix2 a b) := by
  have e := (idx t).2.2.2.2.2.2.2.2.2.1
  refine Eq.trans ?_ (host14 m c a b)
  blk_ext [iblk, e]

theorem blk10 (b : Fin 1024) : iblk m c 10 t (ix2 0 b) = (argsK m c).nw (ix1 b) := by
  have e := (idx t).2.2.2.2.2.2.2.2.2.2.1
  refine Eq.trans ?_ (host15 m c b)
  blk_ext [iblk, e]

/-- The tile whose attention a point computes. -/
def tile : Fin 32 := ⟨min t.val 31, by omega⟩

/-- What a point's attention reads. -/
theorem tileOf : TileOf (argsK m c) (tile t) (iblk m c 0 t) (iblk m c 1 t) (iblk m c 2 t) (iblk m c 3 t) :=
  ⟨blk0 m c t, blk1 m c t, blk2 m c t, blk3 m c t⟩

end Cert.KernelIdeal.Attn

end
-- ==== Proof.KernelIdeal.First.lean ====
/-
  The mask and the first-tile flag a point computes.
-/
module

public import proofs.«01_k».proof.Proof.KernelIdeal.Windows

@[expose] public section

set_option maxRecDepth 16384

noncomputable section

namespace Cert.KernelIdeal.Attn

open Cert.KernelIdeal Cert.KernelIdeal.Gen Cert.Attn
open Idealize.ShloMosaic Idealize.ShloMosaic.TcCoe

variable (c : Dev nD) (t : Fin cfg0.N)

theorem rows_at : (iota .tc S128x512 32 [0] iota_S128x512_d0_w32 : IVec S128x512 32) = iotaInDim S128x512 32 0 := by
  funext y
  first | rfl | (simp [iota, iotaInDim]; done) | (pointwise; done)

theorem first_rows : (firstAt (F := Ideal) c t).2.2.1 = iota .tc S128x512 32 [0] iota_S128x512_d0_w32 := rfl

/-- A key is kept where it isn't after its query. -/
theorem first_mask (k : Fin 128) (j : Fin 512) :
    k0_pay7 (firstAt (F := Ideal) c t).2.2.1 (firstAt (F := Ideal) c t).2.2.2.1 (firstAt (F := Ideal) c t).2.2.2.2.1 (firstAt (F := Ideal) c t).2.2.2.2.2.1 (firstAt (F := Ideal) c t).2.2.2.2.2.2.1
      (firstAt (F := Ideal) c t).2.2.2.2.2.2.2 (ix2 k j) = if k.val ≤ j.val % 128 then 1#1 else 0#1 := by
  rw [first_rows, rows_at]
  exact mask_at k j

/-- The flag of a sequence's first tile at grid coordinate `n`. -/
def flag (n : ℕ) : BitVec 1 :=
  let two := Scalar.select (Scalar.cmpi .eq 16#32 0#32) 1#32 16#32
  let rem := Scalar.remsi (Scalar.minsi (BitVec.ofNat 32 n) 31#32) two
  Scalar.cmpi .eq (Scalar.select (Scalar.andi (Scalar.xori (Scalar.cmpi .slt rem 0#32) (Scalar.cmpi .slt two 0#32)) (Scalar.cmpi .ne rem 0#32)) (Scalar.addi rem two) rem) 0#32

theorem first_flag : (firstAt (F := Ideal) c t).1 = flag (grid0.coords t 0).val := rfl

theorem flag_at : ∀ n : Fin 33, flag n.val = if (4 * min n.val 31) % 64 = 0 then 1#1 else 0#1 := by decide +kernel

/-- A point's flag is set where its tile is the first of a sequence. -/
theorem first_at : (firstAt (F := Ideal) c t).1 = if (4 * (tile t).val) % 64 = 0 then 1#1 else 0#1 := by
  rw [first_flag, coords_val]
  exact flag_at t

end Cert.KernelIdeal.Attn

end
-- ==== Proof.KernelIdeal.Carried.lean ====
/-
  What the carried scratches hold before each point, and the rows each point writes.
-/
module

public import proofs.«01_k».proof.Proof.KernelIdeal.Lists
public import proofs.«01_k».proof.Proof.KernelIdeal.Attended
public import proofs.«01_k».proof.Proof.KernelIdeal.First

@[expose] public section

set_option maxRecDepth 16384

noncomputable section

namespace Cert.KernelIdeal.Attn

open Cert.KernelIdeal Cert.KernelIdeal.Gen Cert.Attn
open Idealize.ShloMosaic Idealize.ShloMosaic.TcCoe

/-- A row of the result from what it is made of. -/
theorem row_at {A : Args} (T : Fin 16384) (r : Fin 512) (G Y : Vec Ideal S512x2048 .bf16) (Ws : Vec Ideal S2048x1024 .bf16) (Q : Fin 4 → FVec Ideal S1x1x1024x128 .bf16)
    (Wa Wm : Vec Ideal S1024x1024 .bf16) (x : Vec Ideal S512x1024 .f32) (w : Vec Ideal S1x1024 .f32)
    (hG : ∀ k, G (ix2 r k) = A.gates (ix2 T k)) (hY : ∀ k, Y (ix2 r k) = A.yn (ix2 T k)) (hWs : ∀ a b, Ws (ix2 a b) = A.wso (ix2 a b))
    (hQ : ∀ e, Q ⟨r.val / 128, by omega⟩ (ix4 0 0 e ⟨r.val % 128, by omega⟩) = attRow A T e) (hWa : ∀ a b, Wa (ix2 a b) = A.wao (ix2 a b)) (hWm : ∀ a b, Wm (ix2 a b) = A.wmix (ix2 a b))
    (hx : ∀ k, x (ix2 r k) = A.x (ix3 ⟨T.val / 8192, by omega⟩ ⟨T.val % 8192, by omega⟩ k)) (hw : ∀ k, w (ix2 0 k) = A.nw (ix1 k)) (k : Fin 1024) :
    normT (mixT G Y Ws (yaT Q Wa) Wm) x w (ix2 r k) = out A T k := by
  have hr : r = ⟨128 * (r.val / 128) + r.val % 128, by omega⟩ := Fin.ext (Nat.div_add_mod _ _).symm
  have hya (j : Fin 1024) : yaT Q Wa (ix2 r j) = ∑ i : Fin 1024, attRow A T i * A.wao (ix2 i j) := by
    refine (congrArg (fun s => yaT Q Wa (ix2 s j)) hr).trans ((ya_at Q Wa ⟨r.val / 128, by omega⟩ ⟨r.val % 128, by omega⟩ j).trans ?_)
    exact Finset.sum_congr rfl fun i _ => congr (congrArg HMul.hMul (hQ i)) (hWa i j)
  rw [norm_at]
  unfold out
  refine congrFun (congr (congr (congrArg normed (funext fun j => ?_)) (funext hx)) (funext hw)) k
  rw [mix_at]
  unfold mixed merged
  simp only [hG, hY, hWs, hWm, hya]

/-- A block stored whole is what was stored. -/
theorem whole_at (M : Memref sig .tc .vmem S512x1024 .f32) (w : FVec Ideal S512x1024 .f32) (r : Fin 512) (k : Fin 1024) :
    M.view.read (Elt Ideal) (M.view.writes (Elt Ideal) M.view.junk [⟨Rect.unit (s := S512x1024) ![0, 0] S512x1024.size inb_S512x1024_S512x1024_0_0, w⟩]) (ix2 r k) = w (ix2 r k) := by
  have e : (Rect.unit (s := S512x1024) ![0, 0] S512x1024.size inb_S512x1024_S512x1024_0_0).emb (ix2 r k : S512x1024.Idx) = ix2 r k := by
    funext a
    refine Fin.ext ?_
    match a with
    | 0 => exact (by omega : 0 + 1 * r.val = r.val)
    | 1 => exact (by omega : 0 + 1 * k.val = k.val)
  refine (View.read_writes_apply_eq_canon _ _ _ _ ⟨_, List.mem_singleton.mpr rfl, ?_⟩).trans
    ((congrArg (View.canon (Val := Elt Ideal) (e := .f32) [⟨Rect.unit (s := S512x1024) ![0, 0] S512x1024.size inb_S512x1024_S512x1024_0_0, w⟩]) e.symm).trans
      (View.canon_cons_emb (Val := Elt Ideal) (e := .f32) (Rect.unit (s := S512x1024) ![0, 0] S512x1024.size inb_S512x1024_S512x1024_0_0) w [] (ix2 r k : S512x1024.Idx)))
  rw [← e]
  exact (Rect.unit (s := S512x1024) ![0, 0] S512x1024.size inb_S512x1024_S512x1024_0_0).toLoadRect.idx_mem _

variable (m : (ℓ : Loc nD τ sig) → Buf (Elt Ideal) ℓ) (c : Dev nD) (t : Fin cfg0.N) (s : St (F := Ideal) c)

theorem read0 : (win0_0.stage (cfg0.slots t 0)).view.read (Elt Ideal) (fin0 m c t) = iblk m c 0 t := (hstage0_0 ((cfg0.slots t 0).cast nbuf0_0)).read_unread _
theorem read1 : (win0_1.stage (cfg0.slots t 1)).view.read (Elt Ideal) (fin1 m c t) = iblk m c 1 t := (hstage0_1 ((cfg0.slots t 1).cast nbuf0_1)).read_unread _
theorem read2 : (win0_2.stage (cfg0.slots t 2)).view.read (Elt Ideal) (fin2 m c t) = iblk m c 2 t := (hstage0_2 ((cfg0.slots t 2).cast nbuf0_2)).read_unread _
theorem read3 : (win0_3.stage (cfg0.slots t 3)).view.read (Elt Ideal) (fin3 m c t) = iblk m c 3 t := (hstage0_3 ((cfg0.slots t 3).cast nbuf0_3)).read_unread _
theorem read4 : (win0_4.stage (cfg0.slots t 4)).view.read (Elt Ideal) (fin4 m c t) = iblk m c 4 t := (hstage0_4 ((cfg0.slots t 4).cast nbuf0_4)).read_unread _
theorem read5 : (win0_5.stage (cfg0.slots t 5)).view.read (Elt Ideal) (fin5 m c t) = iblk m c 5 t := (hstage0_5 ((cfg0.slots t 5).cast nbuf0_5)).read_unread _
theorem read6 : (win0_6.stage (cfg0.slots t 6)).view.read (Elt Ideal) (fin6 m c t) = iblk m c 6 t := (hstage0_6 ((cfg0.slots t 6).cast nbuf0_6)).read_unread _
theorem read7 : (win0_7.stage (cfg0.slots t 7)).view.read (Elt Ideal) (fin7 m c t) = iblk m c 7 t := (hstage0_7 ((cfg0.slots t 7).cast nbuf0_7)).read_unread _
theorem read8 : (win0_8.stage (cfg0.slots t 8)).view.read (Elt Ideal) (fin8 m c t) = iblk m c 8 t := (hstage0_8 ((cfg0.slots t 8).cast nbuf0_8)).read_unread _
theorem read9 : (win0_9.stage (cfg0.slots t 9)).view.read (Elt Ideal) (fin9 m c t) = iblk m c 9 t := (hstage0_9 ((cfg0.slots t 9).cast nbuf0_9)).read_unread _
theorem read10 : (win0_10.stage (cfg0.slots t 10)).view.read (Elt Ideal) (fin10 m c t) = iblk m c 10 t := (hstage0_10 ((cfg0.slots t 10).cast nbuf0_10)).read_unread _

theorem tileRead : TileOf (argsK m c) (tile t) ((win0_0.stage (cfg0.slots t 0)).view.read (Elt Ideal) (fin0 m c t)) ((win0_1.stage (cfg0.slots t 1)).view.read (Elt Ideal) (fin1 m c t))
    ((win0_2.stage (cfg0.slots t 2)).view.read (Elt Ideal) (fin2 m c t)) ((win0_3.stage (cfg0.slots t 3)).view.read (Elt Ideal) (fin3 m c t)) := by
  rw [read0, read1, read2, read3]
  exact tileOf m c t

/-- The keys' scratch after a point. -/
theorem step_k : (outAt m c t s).2.1 = scM1.view.writes (Elt Ideal) scM1.view.junk (upTo (kList (iblk m c 3 t) (iblk m c 2 t) (iblk m c 1 t)) 3) := by
  unfold outAt stepRun
  rw [rest_eq]
  dsimp only
  rw [read1, read2, read3]
/-- The values' scratch after a point. -/
theorem step_v : (outAt m c t s).2.2.1 = scM2.view.writes (Elt Ideal) scM2.view.junk (upTo (fun b => [vPiece (iblk m c 1 t) b]) 3) := by
  unfold outAt stepRun
  rw [rest_eq]
  dsimp only
  rw [read1]

/-- The attention's scratch after a point: the tile's attention in the point's slot. -/
theorem step_a (hA : Good (argsK m c)) (hB : Before c scM1 scM2 (init14 (grid0.coords t) c scM1 s.1) (init15 (grid0.coords t) c scM2 s.2.1) (argsK m c) (tile t))
    (p : Fin 2) (hp : p.val = t.val % 2) (b : Fin 4) (e : Fin 1024) (q : Fin 128) :
    scM3.view.read (Elt Ideal) (outAt m c t s).2.2.2 (ix4 p b e q) = att (argsK m c) ⟨e.val / 64, by omega⟩ ⟨e.val % 64, by omega⟩ (blk (tile t) b) q := by
  unfold outAt stepRun
  rw [rest_eq]
  dsimp only
  refine (stored scM3 _ (grid0.coords t) _ p (by rw [coords_val]; exact hp) b e q).trans ?_
  refine (oR_at c _ _ _ _ _ _ _ _ _ _ _ _ _ _ _ hA (tileRead m c t) hB (first_at c t) (first_mask c t) b ⟨e.val / 64 / 4, by omega⟩ ⟨e.val / 64 % 4, by omega⟩ _ q).trans ?_
  exact congrArg (fun h => att (argsK m c) h _ _ _) (Fin.ext (Nat.div_add_mod _ _))

/-- The rows a point writes: the tile before's, once its attention is in the other slot. -/
theorem step_o (h0 : t.val ≠ 0) (p : Fin 2) (hp : p.val = 1 - t.val % 2)
    (ha : ∀ (b : Fin 4) (e : Fin 1024) (q : Fin 128), scM3.view.read (Elt Ideal) s.2.2 (ix4 p b e q)
      = attRow (argsK m c) ⟨512 * (t.val - 1) + (128 * b.val + q.val), rowB t ⟨128 * b.val + q.val, by omega⟩⟩ e)
    (r : Fin 512) (k : Fin 1024) :
    (win0_11.stage (cfg0.slots t 11)).view.read (Elt Ideal) (outAt m c t s).1 (ix2 r k) = out (argsK m c) ⟨512 * (t.val - 1) + r.val, rowB t r⟩ k := by
  unfold outAt stepRun
  rw [rest_eq]
  dsimp only
  refine (whole_at _ _ r k).trans ?_
  rw [read4, read5, read6, read7, read8, read9, read10]
  refine row_at ⟨512 * (t.val - 1) + r.val, rowB t r⟩ r _ _ _ _ _ _ _ _ (blk5 m c t r) (blk4 m c t r) (blk7 m c t) (fun e => ?_) (blk8 m c t) (blk9 m c t) (blk6 m c t r) (blk10 m c t) k
  refine (aPrev_at c (grid0.coords t) _ _ _ _ _ _ _ _ _ _ _ _ _ _ _ _ _ _ _ _ _ _ p (by rw [coords_val]; exact hp) _ e _).trans ?_
  have hi : init16 (grid0.coords t) c scM3 s.2.2 = s.2.2 := by
    unfold init16
    exact if_neg (by rw [coords_val]; exact h0)
  rw [hi, ha]
  refine congrArg (fun T => attRow (argsK m c) T e) (Fin.ext ?_)
  show 512 * (t.val - 1) + (128 * (r.val / 128) + r.val % 128) = _
  rw [Nat.div_add_mod]

/-- What the scratches hold after point `t`, up to the last tile's. -/
structure After : Prop where
  k : ∀ (g : Fin 4) (k : Fin 128) (x : Fin 64),
    scM1.view.readAt (Elt Ideal) (kRect 1 g).toLoadRect s.1 (ix4 0 0 k x) = rot (argsK m c) (1024 + 64 * g.val) (by omega) (tok (blk (tile t) 3) k) x
  v : ∀ (g : Fin 4) (d : Fin 64) (k : Fin 128),
    scM2.view.readAt (Elt Ideal) (vRectG 1 g).toLoadRect s.2.1 (ix3 0 d k) = val (argsK m c) g d (tok (blk (tile t) 3) k)
  a : ∀ (p : Fin 2), p.val = t.val % 2 → ∀ (b : Fin 4) (e : Fin 1024) (q : Fin 128),
    scM3.view.read (Elt Ideal) s.2.2 (ix4 p b e q) = att (argsK m c) ⟨e.val / 64, by omega⟩ ⟨e.val % 64, by omega⟩ (blk (tile t) b) q

theorem after_step (hA : Good (argsK m c)) (hB : Before c scM1 scM2 (init14 (grid0.coords t) c scM1 s.1) (init15 (grid0.coords t) c scM2 s.2.1) (argsK m c) (tile t)) :
    After m c t (outAt m c t s).2 where
  k g k x := by
    rw [step_k]
    exact (congrFun (klast _ _ _ scM1 g) _).trans (kT_tile (tileOf m c t) 3 g k x)
  v g d k := by
    rw [step_v]
    exact (congrFun (vlast _ scM2 g) _).trans (vT_tile (tileOf m c t) 3 g d k)
  a p hp b e q := step_a m c t s hA hB p hp b e q

theorem tile_val (h : t.val < 32) : (tile t).val = t.val := by
  show min t.val 31 = t.val
  omega

/-- What a point finds is what the point before left. -/
theorem before_of (t' : Fin cfg0.N) (h : t.val = t'.val + 1) (ht : t.val < 32) (hs : After m c t' s) :
    Before c scM1 scM2 (init14 (grid0.coords t) c scM1 s.1) (init15 (grid0.coords t) c scM2 s.2.1) (argsK m c) (tile t) := by
  have n0 : ¬ ((grid0.coords t) 0).val = 0 := by rw [coords_val]; omega
  have e14 : init14 (grid0.coords t) c scM1 s.1 = s.1 := if_neg n0
  have e15 : init15 (grid0.coords t) c scM2 s.2.1 = s.2.1 := if_neg n0
  have hb : pre (blk (tile t) 0) = blk (tile t') 3 := by
    refine Fin.ext ?_
    show 4 * (tile t).val + 0 - 1 = 4 * (tile t').val + 3
    rw [tile_val t ht, tile_val t' (by omega)]
    omega
  rw [e14, e15]
  exact ⟨fun _ g k x => by rw [hb]; exact hs.k g k x, fun _ g d k => by rw [hb]; exact hs.v g d k⟩

/-- Every point up to the last tile's leaves its tile's attention and its last block's keys and values. -/
theorem carried (hA : Good (argsK m c)) : ∀ (n : ℕ) (h : n < 32), After m c ⟨n, Nat.lt_succ_of_lt h⟩ (stAt m c (n + 1))
  | 0, h => by
    rw [stAt_succ m c ⟨0, Nat.lt_succ_of_lt h⟩]
    exact after_step m c _ _ hA ⟨fun hf => absurd rfl hf, fun hf => absurd rfl hf⟩
  | n + 1, h => by
    rw [stAt_succ m c ⟨n + 1, Nat.lt_succ_of_lt h⟩]
    exact after_step m c _ _ hA (before_of m c _ _ ⟨n, by show n < 33; omega⟩ rfl h (carried hA n (by omega)))

/-- What the output window's buffer holds after a point that writes it back. -/
theorem rows_after (hA : Good (argsK m c)) (h0 : t.val ≠ 0) (r : Fin 512) (k : Fin 1024) :
    (dats (F := Ideal) m 0 c).after 11 t (ix2 r k) = out (argsK m c) ⟨512 * (t.val - 1) + r.val, rowB t r⟩ k := by
  have hlt : t.val < 33 := t.isLt
  have hc := carried m c hA (t.val - 1) (by omega)
  have hn : t.val - 1 + 1 = t.val := by omega
  rw [hn] at hc
  have hp : (⟨1 - t.val % 2, by omega⟩ : Fin 2).val = (t.val - 1) % 2 := by show 1 - t.val % 2 = _; omega
  refine step_o m c t (stAt m c t.val) h0 ⟨1 - t.val % 2, by omega⟩ rfl (fun b e q => ?_) r k
  rw [hc.a _ hp b e q]
  unfold attRow
  have hv : (tile ⟨t.val - 1, by show _ < 33; omega⟩).val = t.val - 1 := tile_val _ (by show t.val - 1 < 32; omega)
  refine congr (congrArg (att (argsK m c) _ _) (Fin.ext ?_)) (Fin.ext ?_)
  · show 4 * (tile _).val + b.val = (512 * (t.val - 1) + (128 * b.val + q.val)) / 128
    rw [hv]
    omega
  · show q.val = (512 * (t.val - 1) + (128 * b.val + q.val)) % 128
    omega

end Cert.KernelIdeal.Attn

end
-- ==== Proof.KernelIdeal.Result.lean ====
/-
  The result array after the run, row by row.
-/
module

public import proofs.«01_k».proof.Proof.KernelIdeal.Carried

@[expose] public section

set_option maxRecDepth 16384

noncomputable section

namespace Cert.KernelIdeal.Attn

open Cert.KernelIdeal Cert.KernelIdeal.Gen Cert.Attn
open Idealize.ShloMosaic Idealize.ShloMosaic.TcCoe

variable (m : (ℓ : Loc nD τ sig) → Buf (Elt Ideal) ℓ) (c : Dev nD)

/-- The rows of the result. -/
def rowsOf (A : Args) : S16384x1024.Idx → EReal := fun y => out A ⟨(y 0).val, (y 0).isLt⟩ ⟨(y 1).val, (y 1).isLt⟩

/-- The first point isn't written back. -/
theorem flush_ne : ∀ t : Fin cfg0.N, (cfg0.win 11).flush t = true → t.val ≠ 0 :=
  (by decide +kernel : ∀ t : Fin grid0.N, _)

/-- The result array at the end holds the layer's rows. -/
theorem final (hA : Good (argsK m c)) : (dats (F := Ideal) m 0 c).arrAt 11 (cfgs 0).N = rowsOf (argsK m c) := by
  refine (dats (F := Ideal) m 0 c).arrAt_eq_of_covers 11 _ (by decide +kernel) fun t hf y => ?_
  have e := (idx t).2.2.2.2.2.2.2.2.2.2.2
  have h := rows_after m c t hA (flush_ne t hf) (y 0) (y 1)
  have hy : (y : S512x1024.Idx) = ix2 (y 0) (y 1) := funext fun a => match a with | 0 => rfl | 1 => rfl
  blk_simp
  refine ((congrArg ((dats (F := Ideal) m 0 c).after 11 t) hy).trans h).trans ?_
  unfold rowsOf
  refine congr (congrArg (out (argsK m c)) (Fin.ext ?_)) (Fin.ext ?_)
  · blk_simp [e]
    exact congrArg (· + (y 0).val) (Nat.mul_comm _ _)
  · blk_simp [e]

end Cert.KernelIdeal.Attn

end
-- ==== Proof.ReferenceIdeal.Rank6.lean ====
/-
  Reductions of the last of six axes, read at an index.
-/
module

public import Idealize.ShloMosaic.Lib.Pointwise

@[expose] public section

namespace Cert.ReferenceIdeal.Attn

open Idealize.ShloMosaic

variable {n0 n1 n2 n3 n4 n5 : Nat}

/-- The indices that drop to `(a, b, c, d, e)` are those with these first coordinates. -/
theorem fiber6 (h : (⟨6, ![n0, n1, n2, n3, n4, n5]⟩ : Shape).ReducesTo [5] ⟨5, ![n0, n1, n2, n3, n4]⟩)
    (a : Fin n0) (b : Fin n1) (c : Fin n2) (d : Fin n3) (e : Fin n4) (i : (⟨6, ![n0, n1, n2, n3, n4, n5]⟩ : Shape).Idx) :
    h.drop i = ix5 a b c d e ↔ ∃ k : Fin n5, ix6 a b c d e k = i := by
  constructor
  · intro w
    refine ⟨i 5, ?_⟩
    funext x; apply Fin.ext
    match x with
    | ⟨0, _⟩ => exact (congrArg Fin.val (congrFun w ⟨0, (by decide : 0 < 5)⟩)).symm
    | ⟨1, _⟩ => exact (congrArg Fin.val (congrFun w ⟨1, (by decide : 1 < 5)⟩)).symm
    | ⟨2, _⟩ => exact (congrArg Fin.val (congrFun w ⟨2, (by decide : 2 < 5)⟩)).symm
    | ⟨3, _⟩ => exact (congrArg Fin.val (congrFun w ⟨3, (by decide : 3 < 5)⟩)).symm
    | ⟨4, _⟩ => exact (congrArg Fin.val (congrFun w ⟨4, (by decide : 4 < 5)⟩)).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

theorem sum6 (h : (⟨6, ![n0, n1, n2, n3, n4, n5]⟩ : Shape).ReducesTo [5] ⟨5, ![n0, n1, n2, n3, n4]⟩)
    (a : Fin n0) (b : Fin n1) (c : Fin n2) (d : Fin n3) (e : Fin n4) (x : (⟨6, ![n0, n1, n2, n3, n4, n5]⟩ : Shape).Idx → EReal) (z : EReal) :
    Ideal.hostReduceAdd h x z (ix5 a b c d e) = z + ∑ k : Fin n5, x (ix6 a b c d e k) :=
  congrArg (z + ·) (Finset.sum_filter_eq_sum_of_fiber _ (fun k : Fin n5 => ix6 a b c d e k) (fun _ _ w => congrFun w 5) (fiber6 h a b c d e) x)

theorem max6 {u : Shape} (h : (⟨6, ![n0, n1, n2, n3, n4, n5]⟩ : Shape).ReducesTo [5] ⟨5, ![n0, n1, n2, n3, n4]⟩)
    (a : Fin n0) (b : Fin n1) (c : Fin n2) (d : Fin n3) (e : Fin n4) (x : FVec Ideal ⟨6, ![n0, n1, n2, n3, n4, n5]⟩ .f32) (init : FVec Ideal u .f32) (hu : 0 < u.numel) :
    Host.reduce (FloatOps.maximumf (F := Ideal) (φ := .f32)) x init h hu (ix5 a b c d e)
      = (Finset.univ : Finset (Fin n5)).fold max (init (Shape.Idx.first hu)) (fun k => x (ix6 a b c d e k)) := by
  refine Eq.trans ?_ (Finset.fold_filter_eq_fold_of_fiber max _ (fun k : Fin n5 => ix6 a b c d e k) (fun _ _ w => congrFun w 5) (fiber6 h a b c d e) _ x)
  pointwise

end Cert.ReferenceIdeal.Attn
-- ==== Proof.ReferenceIdeal.Points.lean ====
/-
  The reference's rotated queries and keys, its values, its mask and its gates, element by element.
-/
module

public import proofs.«01_k».proof.Proof.Gen.ReferenceIdeal.Run
public import proofs.«01_k».proof.Proof.ReferenceIdeal.Rank6
public import proofs.«01_k».proof.Proof.Spec
public import Idealize.ShloMosaic.Lib.Tactic.CleanTypes

@[expose] public section

set_option maxRecDepth 16384

noncomputable section

namespace Cert.ReferenceIdeal.Attn

open Cert.ReferenceIdeal Cert.ReferenceIdeal.Gen Cert.ReferenceIdeal.Value Cert.Attn
open Idealize.ShloMosaic Idealize.ShloMosaic.TcCoe Idealize.SL.Sem

/-- The reference's arguments. -/
def argsOf (V0 : Valuation τ sig (Elt Ideal)) : Args where
  snk := V0 (Proc.devRef .tc main_arg0)
  qkv := V0 (Proc.devRef .tc main_arg1)
  pos := V0 (Proc.devRef .tc main_arg2)
  yn := V0 (Proc.devRef .tc main_arg3)
  gates := V0 (Proc.devRef .tc main_arg4)
  x := V0 (Proc.devRef .tc main_arg5)
  wso := V0 (Proc.devRef .tc main_arg6)
  wao := V0 (Proc.devRef .tc main_arg7)
  wmix := V0 (Proc.devRef .tc main_arg8)
  nw := V0 (Proc.devRef .tc main_arg9)

variable (V0 : Valuation τ sig (Elt Ideal))

/-- Block `n` of sequence `β`. -/
def blkS (β : Fin 2) (n : Fin 64) : Fin 128 := ⟨64 * β.val + n.val, by omega⟩

theorem v26_at (β : Fin 2) (s : Fin 8192) (d : Fin 32) : res_main_v26 V0 (ix3 β s d) = ang (argsOf V0) ⟨β.val * 8192 + s.val, by omega⟩ d := by
  have e1 : (β.val * 8192 + s.val) / 8192 = β.val := by omega
  have e2 : (β.val * 8192 + s.val) % 8192 = s.val := by omega
  unfold ang invf argsOf
  simp only [e1, e2]
  unfold res_main_v26
  clean_types
  pointwise

theorem v30_at (β : Fin 2) (s : Fin 8192) (d : Fin 32) : res_main_v30 V0 (ix5 β s 0 0 d) = Ideal.cos (ang (argsOf V0) ⟨β.val * 8192 + s.val, by omega⟩ d) := by
  rw [← v26_at]
  unfold res_main_v30
  clean_types
  pointwise [res_main_v27]
theorem v31_at (β : Fin 2) (s : Fin 8192) (d : Fin 32) : res_main_v31 V0 (ix5 β s 0 0 d) = Ideal.sin (ang (argsOf V0) ⟨β.val * 8192 + s.val, by omega⟩ d) := by
  rw [← v26_at]
  unfold res_main_v31
  clean_types
  pointwise [res_main_v28]
theorem v46_at (β : Fin 2) (s : Fin 8192) (d : Fin 32) : res_main_v46 V0 (ix4 β s 0 d) = Ideal.cos (ang (argsOf V0) ⟨β.val * 8192 + s.val, by omega⟩ d) := by
  rw [← v26_at]
  unfold res_main_v46
  clean_types
  pointwise [res_main_v27]
theorem v47_at (β : Fin 2) (s : Fin 8192) (d : Fin 32) : res_main_v47 V0 (ix4 β s 0 d) = Ideal.sin (ang (argsOf V0) ⟨β.val * 8192 + s.val, by omega⟩ d) := by
  rw [← v26_at]
  unfold res_main_v47
  clean_types
  pointwise [res_main_v28]

theorem tok_eq (β : Fin 2) (n : Fin 64) (q : Fin 128) : (⟨β.val * 8192 + (n.val * 128 + q.val), by omega⟩ : Fin 16384) = tok (blkS β n) q :=
  Fin.ext (by show β.val * 8192 + (n.val * 128 + q.val) = 128 * (64 * β.val + n.val) + q.val; omega)

theorem v32_at (β : Fin 2) (s : Fin 8192) (g r : Fin 4) (d : Fin 32) : res_main_v32 V0 (ix5 β s g r d) = (argsOf V0).qkv (ix2 ⟨64 * (4 * g.val + r.val) + d.val, by omega⟩ ⟨β.val * 8192 + s.val, by omega⟩) := by
  have e : 64 * (4 * g.val + r.val) + d.val = g.val * 256 + r.val * 64 + d.val := by omega
  unfold argsOf
  simp only [e]
  unfold res_main_v32
  clean_types
  pointwise [res_main_v29, res_main_v2]
theorem v33_at (β : Fin 2) (s : Fin 8192) (g r : Fin 4) (d : Fin 32) : res_main_v33 V0 (ix5 β s g r d) = (argsOf V0).qkv (ix2 ⟨64 * (4 * g.val + r.val) + (32 + d.val), by omega⟩ ⟨β.val * 8192 + s.val, by omega⟩) := by
  have e : 64 * (4 * g.val + r.val) + (32 + d.val) = g.val * 256 + r.val * 64 + (32 + d.val) := by omega
  unfold argsOf
  simp only [e]
  unfold res_main_v33
  clean_types
  pointwise [res_main_v29, res_main_v2]
theorem v48_at (β : Fin 2) (s : Fin 8192) (g : Fin 4) (d : Fin 32) : res_main_v48 V0 (ix4 β s g d) = (argsOf V0).qkv (ix2 ⟨1024 + 64 * g.val + d.val, by omega⟩ ⟨β.val * 8192 + s.val, by omega⟩) := by
  have e : 1024 + 64 * g.val + d.val = 1024 + (g.val * 64 + d.val) := by omega
  unfold argsOf
  simp only [e]
  unfold res_main_v48
  clean_types
  pointwise [res_main_v45, res_main_v2]
theorem v49_at (β : Fin 2) (s : Fin 8192) (g : Fin 4) (d : Fin 32) : res_main_v49 V0 (ix4 β s g d) = (argsOf V0).qkv (ix2 ⟨1024 + 64 * g.val + (32 + d.val), by omega⟩ ⟨β.val * 8192 + s.val, by omega⟩) := by
  have e : 1024 + 64 * g.val + (32 + d.val) = 1024 + (g.val * 64 + (32 + d.val)) := by omega
  unfold argsOf
  simp only [e]
  unfold res_main_v49
  clean_types
  pointwise [res_main_v45, res_main_v2]
theorem v66_at (β : Fin 2) (n : Fin 64) (k : Fin 128) (g : Fin 4) (d : Fin 64) : res_main_v66 V0 (ix5 β n k g d) = val (argsOf V0) g d (tok (blkS β n) k) := by
  have e : 1280 + 64 * g.val + d.val = 1280 + (g.val * 64 + d.val) := by omega
  unfold val argsOf
  simp only [← tok_eq, e]
  unfold res_main_v66
  clean_types
  pointwise [res_main_v2]
theorem v109_at (g r : Fin 4) : res_main_v109 V0 (ix6 0 g r 0 0 0) = (argsOf V0).snk (ix1 ⟨4 * g.val + r.val, by omega⟩) := by
  have e : 4 * g.val + r.val = g.val * 4 + r.val := by omega
  unfold argsOf
  simp only [e]
  unfold res_main_v109
  clean_types
  pointwise
theorem v7_at (β : Fin 2) (s : Fin 8192) (k : Fin 2048) : res_main_v7 V0 (ix3 β s k) = (argsOf V0).gates (ix2 ⟨β.val * 8192 + s.val, by omega⟩ k) := by
  unfold argsOf res_main_v7
  clean_types
  pointwise

/-- A rotation spelled by halves. -/
theorem rot_halves (A : Args) (r : ℕ) (hr : r + 64 ≤ 1536) (T : Fin 16384) (lo hi cs sn : Fin 32 → EReal)
    (hlo : ∀ d : Fin 32, lo d = A.qkv (ix2 ⟨r + d.val, by omega⟩ T)) (hhi : ∀ d : Fin 32, hi d = A.qkv (ix2 ⟨r + (32 + d.val), by omega⟩ T))
    (hcs : ∀ d, cs d = Ideal.cos (ang A T d)) (hsn : ∀ d, sn d = Ideal.sin (ang A T d)) (d : Fin 64) :
    (if h : d.val < 32 then lo ⟨d.val, h⟩ * cs ⟨d.val, h⟩ - hi ⟨d.val, h⟩ * sn ⟨d.val, h⟩
      else hi ⟨d.val - 32, by omega⟩ * cs ⟨d.val - 32, by omega⟩ + lo ⟨d.val - 32, by omega⟩ * sn ⟨d.val - 32, by omega⟩) = rot A r hr T d := by
  unfold rot rotE
  by_cases h : d.val < 32
  · simp only [h, dif_pos, hlo, hhi, hcs, hsn]
  · have e : 32 + (d.val - 32) = d.val := by omega
    simp only [h, dif_neg, not_false_eq_true, hlo, hhi, hcs, hsn, e]

theorem v65_at (β : Fin 2) (n : Fin 64) (k : Fin 128) (g : Fin 4) (d : Fin 64) : res_main_v65 V0 (ix5 β n k g d) = rot (argsOf V0) (1024 + 64 * g.val) (by omega) (tok (blkS β n) k) d := by
  have h := rot_halves (argsOf V0) (1024 + 64 * g.val) (by omega) ⟨β.val * 8192 + (n.val * 128 + k.val), by omega⟩ _ _ _ _
    (v48_at V0 β ⟨n.val * 128 + k.val, by omega⟩ g) (v49_at V0 β ⟨n.val * 128 + k.val, by omega⟩ g) (v46_at V0 β ⟨n.val * 128 + k.val, by omega⟩) (v47_at V0 β ⟨n.val * 128 + k.val, by omega⟩) d
  rw [← tok_eq, ← h]
  unfold res_main_v65
  clean_types
  pointwise

theorem halves_at (c s : FVec Ideal S2x8192x1x1x32 .f32) (lo hi : FVec Ideal S2x8192x4x4x32 .f32) (β : Fin 2) (t : Fin 8192) (g r : Fin 4) (d : Fin 64) :
    (concatenate S2x8192x4x4x64 4 [⟨S2x8192x4x4x32, (subf (mulf lo (broadcastInDim S2x8192x4x4x32 ![0, 1, 2, 3, 4] bcast_S2x8192x1x1x32_S2x8192x4x4x32_0_1_2_3_4 c)) (mulf hi (broadcastInDim S2x8192x4x4x32 ![0, 1, 2, 3, 4] bcast_S2x8192x1x1x32_S2x8192x4x4x32_0_1_2_3_4 s)))⟩, ⟨S2x8192x4x4x32, (addf (mulf hi (broadcastInDim S2x8192x4x4x32 ![0, 1, 2, 3, 4] bcast_S2x8192x1x1x32_S2x8192x4x4x32_0_1_2_3_4 c)) (mulf lo (broadcastInDim S2x8192x4x4x32 ![0, 1, 2, 3, 4] bcast_S2x8192x1x1x32_S2x8192x4x4x32_0_1_2_3_4 s)))⟩] concatenates_S2x8192x4x4x32_S2x8192x4x4x32_S2x8192x4x4x64_d4) (ix5 β t g r d)
      = (if h : d.val < 32 then lo (ix5 β t g r ⟨d.val, h⟩) * c (ix5 β t 0 0 ⟨d.val, h⟩) - hi (ix5 β t g r ⟨d.val, h⟩) * s (ix5 β t 0 0 ⟨d.val, h⟩)
        else hi (ix5 β t g r ⟨d.val - 32, by omega⟩) * c (ix5 β t 0 0 ⟨d.val - 32, by omega⟩) + lo (ix5 β t g r ⟨d.val - 32, by omega⟩) * s (ix5 β t 0 0 ⟨d.val - 32, by omega⟩)) := by
  pointwise

theorem scaled_at (y : FVec Ideal S2x8192x4x4x64 .f32) (z : FVec Ideal S_ .f32) (β : Fin 2) (n : Fin 64) (q : Fin 128) (g r : Fin 4) (d : Fin 64) :
    (mulf (shapeCast S2x64x128x4x4x64 y shapeCasts_S2x8192x4x4x64_S2x64x128x4x4x64) (broadcastInDim S2x64x128x4x4x64 ![] bcast_S_S2x64x128x4x4x64 z)) (ix6 β n q g r d)
      = y (ix5 β ⟨n.val * 128 + q.val, by omega⟩ g r d) * z ix0 := by
  pointwise

theorem window_at (v : FVec Ideal S2x64x128x4x64 .f32) (z : FVec Ideal S_ .f32) (β : Fin 2) (n : Fin 64) (k : Fin 256) (g : Fin 4) (d : Fin 64) :
    (concatenate S2x64x256x4x64 2 [⟨S2x64x128x4x64, (concatenate S2x64x128x4x64 1 [⟨S2x1x128x4x64, (broadcastInDim S2x1x128x4x64 ![] bcast_S_S2x1x128x4x64 z)⟩, ⟨S2x63x128x4x64, (extractStridedSlice S2x63x128x4x64 ![0, 0, 0, 0, 0] v slices_S2x64x128x4x64_S2x63x128x4x64_0_0_0_0_0)⟩] concatenates_S2x1x128x4x64_S2x63x128x4x64_S2x64x128x4x64_d1)⟩, ⟨S2x64x128x4x64, v⟩] concatenates_S2x64x128x4x64_S2x64x128x4x64_S2x64x256x4x64_d2) (ix5 β n k g d)
      = if h : k.val < 128 then (if h' : n.val < 1 then z ix0 else v (ix5 β ⟨n.val - 1, by omega⟩ ⟨k.val, h⟩ g d)) else v (ix5 β n ⟨k.val - 128, by omega⟩ g d) := by
  pointwise

theorem v84_at (k : Fin 256) : (res_main_v84 V0 : IVec S1x256 32) (ix2 0 k) = BitVec.ofNat 32 k.val := by
  unfold res_main_v84
  clean_types
  pointwise
theorem v87_at (q : Fin 128) (k : Fin 256) : (res_main_v87 V0 : IVec S128x256 32) (ix2 q k) = IntOp.subi (IntOp.addi (BitVec.ofNat 32 q.val) 128#32) (BitVec.ofNat 32 k.val) := by
  unfold res_main_v87
  clean_types
  pointwise [res_main_v84]

theorem mask_at (a : IVec S128x256 32) (b : IVec S1x256 32) (n : Fin 64) (q : Fin 128) (k : Fin 256) :
    (andi (broadcastInDim S64x128x256 ![0, 1, 2] bcast_S1x128x256_S64x128x256_0_1_2 (broadcastInDim S1x128x256 ![1, 2] bcast_S128x256_S1x128x256_1_2 (andi (cmpi .sge a (broadcastInDim S128x256 ![] bcast_S_S128x256 (constantI S_ 32 0#32))) (cmpi .slt a (broadcastInDim S128x256 ![] bcast_S_S128x256 (constantI S_ 32 128#32)))))) (broadcastInDim S64x128x256 ![0, 1, 2] bcast_S64x1x256_S64x128x256_0_1_2 (ori (broadcastInDim S64x1x256 ![0, 1, 2] bcast_S64x1x1_S64x1x256_0_1_2 (cmpi .sgt (broadcastInDim S64x1x1 ![0] bcast_S64_S64x1x1_0 (iotaInDim S64 32 0)) (broadcastInDim S64x1x1 ![] bcast_S_S64x1x1 (constantI S_ 32 0#32)))) (broadcastInDim S64x1x256 ![0, 1, 2] bcast_S1x1x256_S64x1x256_0_1_2 (cmpi .sge (broadcastInDim S1x1x256 ![1, 2] bcast_S1x256_S1x1x256_1_2 b) (broadcastInDim S1x1x256 ![] bcast_S_S1x1x256 (constantI S_ 32 128#32))))))) (ix3 n q k)
      = IntOp.andi (IntOp.andi (IntOp.cmpi .sge (a (ix2 q k)) 0#32) (IntOp.cmpi .slt (a (ix2 q k)) 128#32)) (IntOp.ori (IntOp.cmpi .sgt (BitVec.ofNat 32 n.val) 0#32) (IntOp.cmpi .sge (b (ix2 0 k)) 128#32)) := by
  pointwise

theorem dot_at (K : FVec Ideal S2x64x256x4x64 .f32) (Q : FVec Ideal S2x64x128x4x4x64 .f32) (β : Fin 2) (g r : Fin 4) (n : Fin 64) (q : Fin 128) (k : Fin 256) :
    transpose S2x4x4x64x128x256 [0, 1, 5, 2, 4, 3] (Host.dotGeneral (F := Ideal) dot_S2x64x256x4x64_S2x64x128x4x4x64_S2x4x64x256x128x4_4_5_2_24_031_031 none K Q) transposes_S2x4x64x256x128x4_S2x4x4x64x128x256_0_1_5_2_4_3 (ix6 β g r n q k)
      = ∑ d : Fin 64, K (ix5 β n k g d) * Q (ix6 β n q g r d) := by
  pointwise

theorem sel_at (M : IVec S64x128x256 1) (D : FVec Ideal S2x4x4x64x128x256 .f32) (z : FVec Ideal S_ .f32) (β : Fin 2) (g r : Fin 4) (n : Fin 64) (q : Fin 128) (k : Fin 256) :
    select (broadcastInDim S2x4x4x64x128x256 ![3, 4, 5] bcast_S64x128x256_S2x4x4x64x128x256_3_4_5 M) D (broadcastInDim S2x4x4x64x128x256 ![] bcast_S_S2x4x4x64x128x256 z) (ix6 β g r n q k)
      = Scalar.select (M (ix3 n q k)) (D (ix6 β g r n q k)) (z ix0) := by
  pointwise

end Cert.ReferenceIdeal.Attn

end
-- ==== Proof.ReferenceIdeal.Bits.lean ====
/-
  The reference's mask on its places: which keys a query sees.
-/
module

public import Idealize.ShloMosaic.PureOps.Ideal

@[expose] public section

namespace Cert.ReferenceIdeal.Attn

open Idealize.ShloMosaic

/-- Masked: before the query's block, a key is seen after the query's place and not at the first block. -/
theorem bits_prev (q k : Fin 128) : IntOp.andi (IntOp.cmpi .sge (IntOp.subi (IntOp.addi (BitVec.ofNat 32 q.val) 128#32) (BitVec.ofNat 32 k.val)) 0#32) (IntOp.cmpi .slt (IntOp.subi (IntOp.addi (BitVec.ofNat 32 q.val) 128#32) (BitVec.ofNat 32 k.val)) 128#32) = if k.val ≤ q.val then 0#1 else 1#1 := by
  revert q k; decide +kernel
theorem bits_cur (q k : Fin 128) : IntOp.andi (IntOp.cmpi .sge (IntOp.subi (IntOp.addi (BitVec.ofNat 32 q.val) 128#32) (BitVec.ofNat 32 (128 + k.val))) 0#32) (IntOp.cmpi .slt (IntOp.subi (IntOp.addi (BitVec.ofNat 32 q.val) 128#32) (BitVec.ofNat 32 (128 + k.val))) 128#32) = if k.val ≤ q.val then 1#1 else 0#1 := by
  revert q k; decide +kernel
theorem bits_first (n : Fin 64) : IntOp.cmpi .sgt (BitVec.ofNat 32 n.val) 0#32 = if n.val = 0 then 0#1 else 1#1 := by
  revert n; decide +kernel
theorem bits_lo (k : Fin 128) : IntOp.cmpi .sge (BitVec.ofNat 32 k.val) 128#32 = 0#1 := by
  revert k; decide +kernel
theorem bits_hi (k : Fin 128) : IntOp.cmpi .sge (BitVec.ofNat 32 (128 + k.val)) 128#32 = 1#1 := by
  revert k; decide +kernel

end Cert.ReferenceIdeal.Attn
-- ==== Proof.ReferenceIdeal.Scores.lean ====
/-
  The reference's scores and attention: each query's attention is the shared one.
-/
module

public import proofs.«01_k».proof.Proof.Gen.ReferenceIdeal.Run
public import proofs.«01_k».proof.Proof.ReferenceIdeal.Rank6
public import proofs.«01_k».proof.Proof.Spec
public import proofs.«01_k».proof.Proof.ReferenceIdeal.Points
public import proofs.«01_k».proof.Proof.ReferenceIdeal.Bits
public import Idealize.ShloMosaic.Lib.Tactic.CleanTypes

@[expose] public section

set_option maxRecDepth 16384

noncomputable section

namespace Cert.ReferenceIdeal.Attn

open Cert.ReferenceIdeal Cert.ReferenceIdeal.Gen Cert.ReferenceIdeal.Value Cert.Attn
open Idealize.ShloMosaic Idealize.ShloMosaic.TcCoe Idealize.SL.Sem

variable (V0 : Valuation τ sig (Elt Ideal))

/-- The reference's masked scores, as numbers. -/
def raw : (⟨6, ![2, 4, 4, 64, 128, 256]⟩ : Shape).Idx → EReal := res_main_v107 V0
/-- The reference's greatest scores, as numbers. -/
def tops : (⟨6, ![2, 4, 4, 64, 128, 1]⟩ : Shape).Idx → EReal := res_main_v113 V0
/-- The reference's exponentials, as numbers. -/
def exps : (⟨6, ![2, 4, 4, 64, 128, 256]⟩ : Shape).Idx → EReal := res_main_v116 V0
/-- The reference's values, as numbers. -/
def vals : (⟨5, ![2, 64, 128, 4, 64]⟩ : Shape).Idx → EReal := res_main_v66 V0

theorem sel_one (a b : EReal) : Scalar.select (1#1) a b = a := rfl
theorem sel_zero (a b : EReal) : Scalar.select (0#1) a b = b := rfl
theorem andi_one : IntOp.andi (1#1) (1#1) = 1#1 := by decide +kernel
theorem ori_one_zero : IntOp.ori (1#1) (0#1) = 1#1 := by decide +kernel
theorem andi_zero (x : BitVec 1) : IntOp.andi (0#1) x = 0#1 := by revert x; decide +kernel
theorem andi_one_zero : IntOp.andi (1#1) (IntOp.ori (0#1) (0#1)) = 0#1 := by decide +kernel

/-- A masked score as the reference has it. -/
theorem v107_at (β : Fin 2) (g r : Fin 4) (n : Fin 64) (q : Fin 128) (k : Fin 256) : raw V0 (ix6 β g r n q k) =
    Scalar.select (IntOp.andi (IntOp.andi (IntOp.cmpi .sge (IntOp.subi (IntOp.addi (BitVec.ofNat 32 q.val) 128#32) (BitVec.ofNat 32 k.val)) 0#32) (IntOp.cmpi .slt (IntOp.subi (IntOp.addi (BitVec.ofNat 32 q.val) 128#32) (BitVec.ofNat 32 k.val)) 128#32)) (IntOp.ori (IntOp.cmpi .sgt (BitVec.ofNat 32 n.val) 0#32) (IntOp.cmpi .sge (BitVec.ofNat 32 k.val) 128#32)))
      (∑ d : Fin 64, (if h : k.val < 128 then (if h' : n.val < 1 then Ideal.ofBits .f32 0x00000000#32 else (res_main_v65 V0 : FVec Ideal S2x64x128x4x64 .f32) (ix5 β ⟨n.val - 1, by omega⟩ ⟨k.val, h⟩ g d)) else (res_main_v65 V0 : FVec Ideal S2x64x128x4x64 .f32) (ix5 β n ⟨k.val - 128, by omega⟩ g d))
        * (rot (argsOf V0) (64 * (4 * g.val + r.val)) (by omega) (tok (blkS β n) q) d * Ideal.ofBits .f32 0x3E000000#32))
      (Ideal.ofBits .f32 0xFF800000#32) := by
  unfold raw res_main_v107
  refine (sel_at _ _ _ β g r n q k).trans ?_
  rw [mask_at, dot_at, v84_at, v87_at]
  refine congrArg₂ (Scalar.select _) (Finset.sum_congr rfl fun d _ => congrArg₂ (· * ·) (window_at _ _ β n k g d) ?_) rfl
  refine (scaled_at _ _ β n q g r d).trans (congrArg (· * _) ?_)
  rw [← tok_eq]
  refine (halves_at _ _ _ _ β _ g r d).trans ?_
  exact rot_halves (argsOf V0) (64 * (4 * g.val + r.val)) (by omega) ⟨β.val * 8192 + (n.val * 128 + q.val), by omega⟩ _ _ _ _
    (v32_at V0 β ⟨n.val * 128 + q.val, by omega⟩ g r) (v33_at V0 β ⟨n.val * 128 + q.val, by omega⟩ g r) (v30_at V0 β ⟨n.val * 128 + q.val, by omega⟩) (v31_at V0 β ⟨n.val * 128 + q.val, by omega⟩) d

/-- Head `4 g + r`. -/
def hd (g r : Fin 4) : Fin 16 := ⟨4 * g.val + r.val, by omega⟩
theorem hd_div (g r : Fin 4) : (hd g r).val / 4 = g.val := by show (4 * g.val + r.val) / 4 = g.val; omega

theorem rot_congr (A : Args) {r r' : ℕ} (h : r = r') (hr : r + 64 ≤ 1536) (T : Fin 16384) (d : Fin 64) : rot A r hr T d = rot A r' (h ▸ hr) T d := by
  subst h; rfl

theorem score_prev (hA : Good (argsOf V0)) (β : Fin 2) (g r : Fin 4) (n : Fin 64) (q k : Fin 128) : raw V0 (ix6 β g r n q ⟨k.val, by omega⟩) =
    if k.val ≤ q.val then ⊥ else if (blkS β n).val % 64 = 0 then ⊥ else ((scR (argsOf V0) (hd g r) (blkS β n) (pre (blkS β n)) q k : ℝ) : EReal) := by
  have hn : (blkS β n).val % 64 = n.val := by show (64 * β.val + n.val) % 64 = n.val; omega
  rw [v107_at, hn]
  simp only [bits_prev, bits_first, bits_lo, bits_ninf, andi_zero]
  by_cases h1 : k.val ≤ q.val
  · simp only [h1, if_true]
    by_cases h2 : n.val = 0
    · simp only [h2, if_true]; rfl
    · simp only [h2, if_false]; rfl
  · by_cases h2 : n.val = 0
    · simp only [h1, h2, if_true, if_false, andi_one_zero]; rfl
    · simp only [h1, h2, if_false, ori_one_zero, andi_one]
      rw [← sc_real hA]
      unfold sc
      rw [sel_one]
      refine (Finset.sum_congr rfl fun d _ => congrArg (· * _) ?_)
      rw [dif_pos (show (⟨k.val, by omega⟩ : Fin 256).val < 128 from k.isLt), dif_neg (by omega), v65_at, rot_congr _ (by rw [hd_div] : 1024 + 64 * g.val = 1024 + 64 * ((hd g r).val / 4))]
      refine congrArg (fun B => rot (argsOf V0) _ _ (tok B k) d) (Fin.ext ?_)
      show 64 * β.val + (n.val - 1) = 64 * β.val + n.val - 1
      omega

theorem score_cur (hA : Good (argsOf V0)) (β : Fin 2) (g r : Fin 4) (n : Fin 64) (q k : Fin 128) : raw V0 (ix6 β g r n q ⟨128 + k.val, by omega⟩) =
    if k.val ≤ q.val then ((scR (argsOf V0) (hd g r) (blkS β n) (blkS β n) q k : ℝ) : EReal) else ⊥ := by
  have hor (x : BitVec 1) : IntOp.ori x 1#1 = 1#1 := by revert x; decide
  rw [v107_at]
  simp only [bits_cur, bits_hi, bits_ninf, hor]
  by_cases h1 : k.val ≤ q.val
  · simp only [h1, if_true, andi_one]
    rw [← sc_real hA]
    unfold sc
    rw [sel_one]
    refine (Finset.sum_congr rfl fun d _ => congrArg (· * _) ?_)
    rw [dif_neg (show ¬ (⟨128 + k.val, by omega⟩ : Fin 256).val < 128 from by show ¬ 128 + k.val < 128; omega), v65_at, rot_congr _ (by rw [hd_div] : 1024 + 64 * g.val = 1024 + 64 * ((hd g r).val / 4))]
    refine congrArg (fun k => rot (argsOf V0) _ _ (tok (blkS β n) k) d) (Fin.ext ?_)
    show 128 + k.val - 128 = k.val
    omega
  · simp only [h1, if_false, andi_zero]; rfl

/-- The reference's greatest score. -/
theorem v113_at (β : Fin 2) (g r : Fin 4) (n : Fin 64) (q : Fin 128) : tops V0 (ix6 β g r n q 0) =
    topOf (fun k : Fin 256 => raw V0 (ix6 β g r n q k)) ((argsOf V0).snk (ix1 (hd g r))) := by
  have hb (X : FVec Ideal S2x4x4x64x128 .f32) (Y : FVec Ideal S1x4x4x1x1x1 .f32) : (maximumf (broadcastInDim S2x4x4x64x128x1 ![0, 1, 2, 3, 4] bcast_S2x4x4x64x128_S2x4x4x64x128x1_0_1_2_3_4 X) (broadcastInDim S2x4x4x64x128x1 ![0, 1, 2, 3, 4, 5] bcast_S1x4x4x1x1x1_S2x4x4x64x128x1_0_1_2_3_4_5 Y)) (ix6 β g r n q 0)
      = max (X (ix5 β g r n q)) (Y (ix6 0 g r 0 0 0)) := by
    pointwise
  unfold tops res_main_v113
  refine (hb _ _).trans ?_
  rw [v109_at]
  have hc (i : S_.Idx) : (constant S_ .f32 0xFF800000#32 : FVec Ideal S_ .f32) i = ⊥ := bits_ninf
  have hf (X : FVec Ideal S2x4x4x64x128x256 .f32) : Host.reduce FloatOps.maximumf X (constant S_ .f32 0xFF800000#32) reducesTo_S2x4x4x64x128x256_S2x4x4x64x128_d5 h_S_ (ix5 β g r n q)
      = (Finset.univ : Finset (Fin 256)).fold max ⊥ (fun k => X (ix6 β g r n q k)) := by
    have hm := max6 reducesTo_S2x4x4x64x128x256_S2x4x4x64x128_d5 β g r n q X (constant S_ .f32 0xFF800000#32) h_S_
    exact hm.trans (congrArg (fun z => (Finset.univ : Finset (Fin 256)).fold max z (fun k => X (ix6 β g r n q k))) (hc _))
  rw [hf]
  unfold topOf raw
  rfl

theorem v116_at (β : Fin 2) (g r : Fin 4) (n : Fin 64) (q : Fin 128) (k : Fin 256) : exps V0 (ix6 β g r n q k) =
    Ideal.exp (raw V0 (ix6 β g r n q k) - tops V0 (ix6 β g r n q 0)) := by
  have hb (X : FVec Ideal S2x4x4x64x128x256 .f32) (Y : FVec Ideal S2x4x4x64x128x1 .f32) : (Host.exp (subf X (broadcastInDim S2x4x4x64x128x256 ![0, 1, 2, 3, 4, 5] bcast_S2x4x4x64x128x1_S2x4x4x64x128x256_0_1_2_3_4_5 Y))) (ix6 β g r n q k)
      = Ideal.exp (X (ix6 β g r n q k) - Y (ix6 β g r n q 0)) := by
    pointwise
  exact hb _ _

/-- The reference's attention weight, times its value, summed: the shared attention. -/
theorem att_ref (hA : Good (argsOf V0)) (β : Fin 2) (g r : Fin 4) (n : Fin 64) (q : Fin 128) (d : Fin 64) (den : EReal)
    (hden : den = denOf (fun k : Fin 256 => raw V0 (ix6 β g r n q k)) ((argsOf V0).snk (ix1 (hd g r)))) :
    (∑ k : Fin 128, (if h' : n.val < 1 then 0 else vals V0 (ix5 β ⟨n.val - 1, by omega⟩ k g d)) * Ideal.div (exps V0 (ix6 β g r n q ⟨k.val, by omega⟩)) den)
      + ∑ k : Fin 128, vals V0 (ix5 β n k g d) * Ideal.div (exps V0 (ix6 β g r n q ⟨128 + k.val, by omega⟩)) den
      = att (argsOf V0) (hd g r) d (blkS β n) q := by
  have hn : (blkS β n).val % 64 = n.val := by show (64 * β.val + n.val) % 64 = n.val; omega
  have hg : (⟨(hd g r).val / 4, by omega⟩ : Fin 4) = g := Fin.ext (hd_div g r)
  have hv (n : Fin 64) (k : Fin 128) : vals V0 (ix5 β n k g d) = val (argsOf V0) g d (tok (blkS β n) k) := v66_at V0 β n k g d
  rw [att_eq hA, ← att_masked q _ _ _ _ (hA.snk _) (fun k => raw V0 (ix6 β g r n q k)) _ _ (score_prev V0 hA β g r n q) (score_cur V0 hA β g r n q), hden]
  simp only [v116_at, v113_at, hv, hg]
  refine congrArg₂ (· + ·) (Finset.sum_congr rfl fun k _ => congrArg (· * _) ?_) rfl
  unfold valPre
  rw [hn]
  by_cases h : n.val = 0
  · rw [dif_pos (by omega), if_pos h]
  · rw [dif_neg (by omega), if_neg h]
    refine congrArg (fun B => val (argsOf V0) g d (tok B k)) (Fin.ext ?_)
    show 64 * β.val + (n.val - 1) = 64 * β.val + n.val - 1
    omega

end Cert.ReferenceIdeal.Attn

end
-- ==== Proof.ReferenceIdeal.Result.lean ====
/-
  The reference's result: the shared rows.
-/
module

public import proofs.«01_k».proof.Proof.Gen.ReferenceIdeal.Run
public import proofs.«01_k».proof.Proof.ReferenceIdeal.Rank6
public import proofs.«01_k».proof.Proof.Spec
public import proofs.«01_k».proof.Proof.ReferenceIdeal.Scores
public import Idealize.ShloMosaic.Lib.Tactic.CleanTypes

@[expose] public section

set_option maxRecDepth 16384

noncomputable section

namespace Cert.ReferenceIdeal.Attn

open Cert.ReferenceIdeal Cert.ReferenceIdeal.Gen Cert.ReferenceIdeal.Value Cert.Attn
open Idealize.ShloMosaic Idealize.ShloMosaic.TcCoe Idealize.SL.Sem

variable (V0 : Valuation τ sig (Elt Ideal))

/-- The reference's attention, token by token, from its values, its exponentials and its denominators. -/
theorem heads_at (v : FVec Ideal S2x64x128x4x64 .f32) (e : FVec Ideal S2x4x4x64x128x256 .f32) (dn : FVec Ideal S2x4x4x64x128x1 .f32) (z : FVec Ideal S_ .f32)
    (β : Fin 2) (g r : Fin 4) (n : Fin 64) (q : Fin 128) (d : Fin 64) :
    (transpose S2x64x128x4x4x64 [0, 1, 5, 2, 4, 3] (Host.dotGeneral (F := Ideal) dot_S2x64x256x4x64_S2x4x4x64x128x256_S2x64x4x64x4x128_2_5_4_24_013_031 none (concatenate S2x64x256x4x64 2 [⟨S2x64x128x4x64, (concatenate S2x64x128x4x64 1 [⟨S2x1x128x4x64, (broadcastInDim S2x1x128x4x64 ![] bcast_S_S2x1x128x4x64 z)⟩, ⟨S2x63x128x4x64, (extractStridedSlice S2x63x128x4x64 ![0, 0, 0, 0, 0] v slices_S2x64x128x4x64_S2x63x128x4x64_0_0_0_0_0)⟩] concatenates_S2x1x128x4x64_S2x63x128x4x64_S2x64x128x4x64_d1)⟩, ⟨S2x64x128x4x64, v⟩] concatenates_S2x64x128x4x64_S2x64x128x4x64_S2x64x256x4x64_d2)
      (Host.divf e (broadcastInDim S2x4x4x64x128x256 ![0, 1, 2, 3, 4, 5] bcast_S2x4x4x64x128x1_S2x4x4x64x128x256_0_1_2_3_4_5 dn))) transposes_S2x64x4x64x4x128_S2x64x128x4x4x64_0_1_5_2_4_3) (ix6 β n q g r d)
      = (∑ k : Fin 128, (if h' : n.val < 1 then z ix0 else v (ix5 β ⟨n.val - 1, by omega⟩ k g d)) * Ideal.div (e (ix6 β g r n q ⟨k.val, by omega⟩)) (dn (ix6 β g r n q 0)))
        + ∑ k : Fin 128, v (ix5 β n k g d) * Ideal.div (e (ix6 β g r n q ⟨128 + k.val, by omega⟩)) (dn (ix6 β g r n q 0)) := by
  pointwise

theorem den_at (e : FVec Ideal S2x4x4x64x128x256 .f32) (s : FVec Ideal S1x4x4x1x1x1 .f32) (t : FVec Ideal S2x4x4x64x128x1 .f32) (β : Fin 2) (g r : Fin 4) (n : Fin 64) (q : Fin 128) :
    (addf (broadcastInDim S2x4x4x64x128x1 ![0, 1, 2, 3, 4] bcast_S2x4x4x64x128_S2x4x4x64x128x1_0_1_2_3_4 (Host.reduceAdd e (constant S_ .f32 0x00000000#32) reducesTo_S2x4x4x64x128x256_S2x4x4x64x128_d5 h_S_)) (Host.exp (subf (broadcastInDim S2x4x4x64x128x1 ![0, 1, 2, 3, 4, 5] bcast_S1x4x4x1x1x1_S2x4x4x64x128x1_0_1_2_3_4_5 s) t))) (ix6 β g r n q 0)
      = (∑ k : Fin 256, e (ix6 β g r n q k)) + Ideal.exp (s (ix6 0 g r 0 0 0) - t (ix6 β g r n q 0)) := by
  pointwise
  rw [sum6, zero_add]

theorem flat_at (y : FVec Ideal S2x64x128x4x4x64 .f32) (β : Fin 2) (s : Fin 8192) (i : Fin 1024) :
    shapeCast S2x8192x1024 y shapeCasts_S2x64x128x4x4x64_S2x8192x1024 (ix3 β s i) = y (ix6 β ⟨s.val / 128, by omega⟩ ⟨s.val % 128, by omega⟩ ⟨i.val / 256, by omega⟩ ⟨i.val / 64 % 4, by omega⟩ ⟨i.val % 64, by omega⟩) := by
  pointwise

theorem sig_at (G : FVec Ideal S2x8192x2048 .f32) (β : Fin 2) (s : Fin 8192) (k : Fin 1024) :
   (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (extractStridedSlice S2x8192x1024 ![0, 0, 0] G slices_S2x8192x2048_S2x8192x1024_0_0_0))))) (ix3 β s k) = sigm (G (ix3 β s ⟨k.val, by omega⟩)) := by
  unfold sigm
  pointwise
theorem sig_at' (G : FVec Ideal S2x8192x2048 .f32) (β : Fin 2) (s : Fin 8192) (k : Fin 1024) :
   (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (extractStridedSlice S2x8192x1024 ![0, 0, 1024] G slices_S2x8192x2048_S2x8192x1024_0_0_1024))))) (ix3 β s k) = sigm (G (ix3 β s ⟨1024 + k.val, by omega⟩)) := by
  unfold sigm
  pointwise
theorem ssd_at (y : FVec Ideal S16384x2048 .bf16) (w : FVec Ideal S2048x1024 .f32) (β : Fin 2) (s : Fin 8192) (k : Fin 1024) :
   (Host.dotGeneral dot_S2x8192x2048_S2048x1024_S2x8192x1024_2_0_01_1_n_n none (shapeCast S2x8192x2048 (extf .f32 y bitsLt_bf16_f32) shapeCasts_S16384x2048_S2x8192x2048) w) (ix3 β s k) = ∑ i : Fin 2048, y (ix2 ⟨β.val * 8192 + s.val, by omega⟩ i) * w (ix2 i k) := by
  pointwise
theorem prod_at (y : FVec Ideal S2x8192x1024 .f32) (w : FVec Ideal S1024x1024 .f32) (β : Fin 2) (s : Fin 8192) (k : Fin 1024) :
   (Host.dotGeneral dot_S2x8192x1024_S1024x1024_S2x8192x1024_2_0_01_1_n_n none y w) (ix3 β s k) = ∑ i : Fin 1024, y (ix3 β s i) * w (ix2 i k) := by
  pointwise
theorem last_at (x o : FVec Ideal S2x8192x1024 .f32) (w : FVec Ideal S1024 .f32) (T : Fin 16384) (c : Fin 1024) :
  shapeCast S16384x1024 (addf x (mulf (mulf o (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf o o) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 w)))) shapeCasts_S2x8192x1024_S16384x1024 (ix2 T c)
   = normed (fun c => o (ix3 ⟨T.val / 8192, by omega⟩ ⟨T.val % 8192, by omega⟩ c)) (fun c => x (ix3 ⟨T.val / 8192, by omega⟩ ⟨T.val % 8192, by omega⟩ c)) (fun c => w (ix1 c)) c := by
  unfold normed
  pointwise

/-- Token `s` of sequence `β`. -/
def tokS (β : Fin 2) (s : Fin 8192) : Fin 16384 := ⟨β.val * 8192 + s.val, by omega⟩

theorem attRow_ref (hA : Good (argsOf V0)) (β : Fin 2) (s : Fin 8192) (i : Fin 1024) (den : EReal)
    (hden : den = denOf (fun k : Fin 256 => raw V0 (ix6 β ⟨i.val / 256, by omega⟩ ⟨i.val / 64 % 4, by omega⟩ ⟨s.val / 128, by omega⟩ ⟨s.val % 128, by omega⟩ k)) ((argsOf V0).snk (ix1 (hd ⟨i.val / 256, by omega⟩ ⟨i.val / 64 % 4, by omega⟩)))) :
    (∑ k : Fin 128, (if h' : s.val / 128 < 1 then 0 else vals V0 (ix5 β ⟨s.val / 128 - 1, by omega⟩ k ⟨i.val / 256, by omega⟩ ⟨i.val % 64, by omega⟩)) * Ideal.div (exps V0 (ix6 β ⟨i.val / 256, by omega⟩ ⟨i.val / 64 % 4, by omega⟩ ⟨s.val / 128, by omega⟩ ⟨s.val % 128, by omega⟩ ⟨k.val, by omega⟩)) den)
      + ∑ k : Fin 128, vals V0 (ix5 β ⟨s.val / 128, by omega⟩ k ⟨i.val / 256, by omega⟩ ⟨i.val % 64, by omega⟩) * Ideal.div (exps V0 (ix6 β ⟨i.val / 256, by omega⟩ ⟨i.val / 64 % 4, by omega⟩ ⟨s.val / 128, by omega⟩ ⟨s.val % 128, by omega⟩ ⟨128 + k.val, by omega⟩)) den
      = attRow (argsOf V0) (tokS β s) i := by
  refine (att_ref V0 hA β _ _ _ _ _ den hden).trans ?_
  have e1 : hd ⟨i.val / 256, by omega⟩ ⟨i.val / 64 % 4, by omega⟩ = ⟨i.val / 64, by omega⟩ := Fin.ext (by show 4 * (i.val / 256) + i.val / 64 % 4 = i.val / 64; omega)
  have e2 : blkS β ⟨s.val / 128, by omega⟩ = ⟨(tokS β s).val / 128, by omega⟩ := Fin.ext (by show 64 * β.val + s.val / 128 = (β.val * 8192 + s.val) / 128; omega)
  have e3 : (⟨s.val % 128, by omega⟩ : Fin 128) = ⟨(tokS β s).val % 128, by omega⟩ := Fin.ext (by show s.val % 128 = (β.val * 8192 + s.val) % 128; omega)
  unfold attRow
  rw [e1, e2, e3]

theorem den_ref (β : Fin 2) (g r : Fin 4) (n : Fin 64) (q : Fin 128) :
    (∑ k : Fin 256, exps V0 (ix6 β g r n q k)) + Ideal.exp ((argsOf V0).snk (ix1 (hd g r)) - tops V0 (ix6 β g r n q 0))
      = denOf (fun k : Fin 256 => raw V0 (ix6 β g r n q k)) ((argsOf V0).snk (ix1 (hd g r))) := by
  simp only [v116_at, v113_at]
  rfl

/-- The reference's attention at a token. -/
theorem attn_at (hA : Good (argsOf V0)) (β : Fin 2) (s : Fin 8192) (i : Fin 1024) :
    (shapeCast S2x8192x1024 (transpose S2x64x128x4x4x64 [0, 1, 5, 2, 4, 3] (Host.dotGeneral dot_S2x64x256x4x64_S2x4x4x64x128x256_S2x64x4x64x4x128_2_5_4_24_013_031 none (concatenate S2x64x256x4x64 2 [⟨S2x64x128x4x64, (concatenate S2x64x128x4x64 1 [⟨S2x1x128x4x64, (broadcastInDim S2x1x128x4x64 ![] bcast_S_S2x1x128x4x64 (constant S_ .f32 0x00000000#32))⟩, ⟨S2x63x128x4x64, (extractStridedSlice S2x63x128x4x64 ![0, 0, 0, 0, 0] (res_main_v66 V0) slices_S2x64x128x4x64_S2x63x128x4x64_0_0_0_0_0)⟩] concatenates_S2x1x128x4x64_S2x63x128x4x64_S2x64x128x4x64_d1)⟩, ⟨S2x64x128x4x64, (res_main_v66 V0)⟩] concatenates_S2x64x128x4x64_S2x64x128x4x64_S2x64x256x4x64_d2) (Host.divf (res_main_v116 V0) (broadcastInDim S2x4x4x64x128x256 ![0, 1, 2, 3, 4, 5] bcast_S2x4x4x64x128x1_S2x4x4x64x128x256_0_1_2_3_4_5 (addf (broadcastInDim S2x4x4x64x128x1 ![0, 1, 2, 3, 4] bcast_S2x4x4x64x128_S2x4x4x64x128x1_0_1_2_3_4 (Host.reduceAdd (res_main_v116 V0) (constant S_ .f32 0x00000000#32) reducesTo_S2x4x4x64x128x256_S2x4x4x64x128_d5 h_S_)) (Host.exp (subf (broadcastInDim S2x4x4x64x128x1 ![0, 1, 2, 3, 4, 5] bcast_S1x4x4x1x1x1_S2x4x4x64x128x1_0_1_2_3_4_5 (res_main_v109 V0)) (res_main_v113 V0))))))) transposes_S2x64x4x64x4x128_S2x64x128x4x4x64_0_1_5_2_4_3) shapeCasts_S2x64x128x4x4x64_S2x8192x1024 : FVec Ideal S2x8192x1024 .f32) (ix3 β s i)
      = attRow (argsOf V0) (tokS β s) i := by
  have hz : (constant S_ .f32 0x00000000#32 : FVec Ideal S_ .f32) ix0 = (0 : EReal) := by pointwise
  refine (flat_at _ β s i).trans ((heads_at _ _ _ _ β _ _ _ _ _).trans ?_)
  rw [hz, den_at, v109_at]
  exact attRow_ref V0 hA β s i _ (den_ref V0 β _ _ _ _)

/-- The gated sum of the two projections, projected. -/
theorem mixed_at (G : FVec Ideal S2x8192x2048 .f32) (y : FVec Ideal S16384x2048 .bf16) (a : FVec Ideal S2x8192x1024 .f32) (ws : FVec Ideal S2048x1024 .f32) (wa wm : FVec Ideal S1024x1024 .f32) (β : Fin 2) (s : Fin 8192) (c : Fin 1024) :
    (Host.dotGeneral dot_S2x8192x1024_S1024x1024_S2x8192x1024_2_0_01_1_n_n none (addf (mulf (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (extractStridedSlice S2x8192x1024 ![0, 0, 0] G slices_S2x8192x2048_S2x8192x1024_0_0_0))))) (Host.dotGeneral dot_S2x8192x2048_S2048x1024_S2x8192x1024_2_0_01_1_n_n none (shapeCast S2x8192x2048 (extf .f32 y bitsLt_bf16_f32) shapeCasts_S16384x2048_S2x8192x2048) ws)) (mulf (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (extractStridedSlice S2x8192x1024 ![0, 0, 1024] G slices_S2x8192x2048_S2x8192x1024_0_0_1024))))) (Host.dotGeneral dot_S2x8192x1024_S1024x1024_S2x8192x1024_2_0_01_1_n_n none a wa))) wm : FVec Ideal S2x8192x1024 .f32) (ix3 β s c)
      = ∑ k : Fin 1024, (sigm (G (ix3 β s ⟨k.val, by omega⟩)) * (∑ i : Fin 2048, y (ix2 ⟨β.val * 8192 + s.val, by omega⟩ i) * ws (ix2 i k)) + sigm (G (ix3 β s ⟨1024 + k.val, by omega⟩)) * ∑ i : Fin 1024, a (ix3 β s i) * wa (ix2 i k)) * wm (ix2 k c) := by
  refine (prod_at _ _ β s c).trans (Finset.sum_congr rfl fun k _ => congrArg (· * _) ?_)
  have hadd (a b a' b' : FVec Ideal S2x8192x1024 .f32) : (addf (mulf a b) (mulf a' b')) (ix3 β s k) = a (ix3 β s k) * b (ix3 β s k) + a' (ix3 β s k) * b' (ix3 β s k) := by
    pointwise
  rw [hadd, sig_at, sig_at', ssd_at, prod_at]

/-- The reference's rows before the norm. -/
theorem v144_at (hA : Good (argsOf V0)) (β : Fin 2) (s : Fin 8192) (c : Fin 1024) : (res_main_v144 V0 : FVec Ideal S2x8192x1024 .f32) (ix3 β s c) = mixed (argsOf V0) (tokS β s) c := by
  unfold res_main_v144
  refine (mixed_at _ _ _ _ _ _ β s c).trans ?_
  unfold mixed merged
  refine Finset.sum_congr rfl fun k _ => ?_
  rw [v7_at, v7_at, Finset.sum_congr rfl fun i _ => congrArg (· * _) (attn_at V0 hA β s i)]
  rfl

/-- The reference's result at a token. -/
theorem result_at (hA : Good (argsOf V0)) (T : Fin 16384) (c : Fin 1024) :
    (shapeCast S16384x1024 (addf (V0 (Proc.devRef .tc main_arg5)) (mulf (mulf (res_main_v144 V0) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (res_main_v144 V0) (res_main_v144 V0)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (V0 (Proc.devRef .tc main_arg9)))))) shapeCasts_S2x8192x1024_S16384x1024 : FVec Ideal S16384x1024 .f32) (ix2 T c)
      = out (argsOf V0) T c := by
  refine (last_at _ _ _ T c).trans ?_
  have hT : tokS ⟨T.val / 8192, by omega⟩ ⟨T.val % 8192, by omega⟩ = T := Fin.ext (by show T.val / 8192 * 8192 + T.val % 8192 = T.val; omega)
  unfold out
  refine congrArg (fun o => normed o _ _ c) (funext fun k => ?_)
  rw [v144_at V0 hA, hT]

end Cert.ReferenceIdeal.Attn

end
-- ==== Proof.Algebraic.lean ====
/-
  The two runs' results are equal: each is the layer's rows, read off the same arguments.
-/
module

public import proofs.«01_k».proof.Defs
public import proofs.«01_k».proof.Proof.Precondition
public import proofs.«01_k».proof.Proof.KernelIdeal.Result
public import proofs.«01_k».proof.Proof.ReferenceIdeal.Result

@[expose] public section

set_option maxRecDepth 16384

noncomputable section

namespace Cert.Proof

open Idealize.ShloMosaic Idealize.ShloMosaic.TcCoe Idealize.SL.Sem Cert.Attn

/-- Under the precondition the kernel's arguments are good on every device. -/
theorem good_of_pre (m : (ℓ : Loc Cert.KernelIdeal.nD Cert.KernelIdeal.τ Cert.KernelIdeal.sig) → Buf (Elt Ideal) ℓ)
    (h : @Cert.Pre_KernelIdeal_attention_is_finite pre_facts m) (c : Dev Cert.KernelIdeal.nD) : Good (Cert.KernelIdeal.Attn.argsK m c) where
  qk r T hr := pre_qk _ _ _ _ _ _ _ _ _ _ (h c).1 ⟨r.val, hr⟩ T
  snk i := pre_snk _ _ _ _ _ _ _ _ _ _ (h c).2 i

/-- The reference's result array holds the layer's rows. -/
theorem reference_rows (V0 : Valuation Cert.ReferenceIdeal.τ Cert.ReferenceIdeal.sig (Elt Ideal)) (A : Args) (e : Cert.ReferenceIdeal.Attn.argsOf V0 = A) (hA : Good A)
    (f : FVec Ideal Cert.ReferenceIdeal.S16384x1024 .f32) (hf : Good (Cert.ReferenceIdeal.Attn.argsOf V0) → ∀ T k, f (ix2 T k) = out (Cert.ReferenceIdeal.Attn.argsOf V0) T k) :
    f = Cert.KernelIdeal.Attn.rowsOf A := by
  subst e
  funext y
  have hy : y = ix2 ⟨(y 0).val, (y 0).isLt⟩ ⟨(y 1).val, (y 1).isLt⟩ := funext fun a => match a with | 0 => rfl | 1 => rfl
  exact (congrArg f hy).trans (hf hA _ _)

/-- From equal arguments under the precondition both programs run to equal results. -/
theorem algebraic :
    @Cert.algebraic_KernelIdeal_ReferenceIdeal_pre_attention_is_finite Cert.KernelIdeal.Gen.facts Cert.ReferenceIdeal.Gen.facts pre_facts := by
  intro m ρ m' ρ' hpre hagree
  have hA := good_of_pre m hpre
  have he : ∀ c, Cert.ReferenceIdeal.Attn.argsOf (StableHlo.launchContents m' c) = Cert.KernelIdeal.Attn.argsK m c := fun c => by
    obtain ⟨h0, h1, h2, h3, h4, h5, h6, h7, h8, h9⟩ := hagree c
    unfold Cert.ReferenceIdeal.Attn.argsOf Cert.KernelIdeal.Attn.argsK
    exact congr (congr (congr (congr (congr (congr (congr (congr (congr (congrArg Args.mk h0) h1) h2) h3) h4) h5) h6) h7) h8) h9
  refine ⟨fun c => Cert.KernelIdeal.Attn.rowsOf (Cert.KernelIdeal.Attn.argsK m c), ?_, ?_⟩
  · refine (θ_run Cert.KernelIdeal.defs _ _).mono (fun r h c => ⟨?_, Cert.KernelIdeal.Attn.args_kept h.1 c⟩) (Cert.KernelIdeal.Attn.run_main m ρ)
    exact ((h.1 c).1 11).trans (Cert.KernelIdeal.Attn.final m c (hA c))
  · refine (θ_run Cert.ReferenceIdeal.defs _ _).mono (fun r h c => ⟨(h c).1.trans ?_, (h c).2⟩) (Cert.ReferenceIdeal.Value.run (F := Ideal) m' ρ')
    exact reference_rows _ _ (he c) (hA c) _ fun hg T k => Cert.ReferenceIdeal.Attn.result_at _ hg T k

end Cert.Proof

end
-- ==== Proof.FfnIdeal.Tiles.lean ====
/-
  What the body computes for one half of its rows, as functions of the blocks it reads: the normed rows, a chunk of their
  projection, its causal convolution over the rows before, the gated activation, and the projection back with its norm.
-/
module

public import proofs.«01_k».proof.Proof.Gen.FfnIdeal.Launch
public import proofs.«01_k».proof.Proof.Gen.FfnIdeal.Skeleton
public import Idealize.ShloMosaic.Lib.Tactic
public import Idealize.ShloMosaic.Lib.Pipeline.FrameBody

@[expose] public section

set_option maxRecDepth 16384

noncomputable section

namespace Cert.FfnIdeal.Rows

open Cert.FfnIdeal Cert.FfnIdeal.Gen
open Idealize.ShloMosaic Idealize.ShloMosaic.TcCoe

variable {F : FTy → Type} [FloatOps F] [Named F]

/-- Half `s` of the block's rows. -/
def xRect (s : Fin 2) : Rect S512x1024 := Rect.unit (s := S512x1024) ![256 * s.val, 0] S256x1024.size
  (by intro a; match a with | 0 => exact (by omega : 256 * s.val + 256 ≤ 512) | 1 => exact Nat.le_refl 1024)
/-- Chunk `e` of the projection's columns, in the weights. -/
def wRect (e : Fin 22) : Rect S1024x5632 := Rect.unit (s := S1024x5632) ![0, 256 * e.val] S1024x256.size
  (by intro a; match a with | 0 => exact Nat.le_refl 1024 | 1 => exact (by omega : 256 * e.val + 256 ≤ 5632))
/-- Chunk `e` of the columns, in the convolution's weights. -/
def kRect (e : Fin 22) : Rect S3x5632 := Rect.unit (s := S3x5632) ![0, 256 * e.val] S3x256.size
  (by intro a; match a with | 0 => exact Nat.le_refl 3 | 1 => exact (by omega : 256 * e.val + 256 ≤ 5632))
/-- Chunk `e` of the columns, in the convolution's bias. -/
def bRect (e : Fin 22) : Rect S1x5632 := Rect.unit (s := S1x5632) ![0, 256 * e.val] S1x256.size
  (by intro a; match a with | 0 => exact Nat.le_refl 1 | 1 => exact (by omega : 256 * e.val + 256 ≤ 5632))
/-- Chunk `e` of the columns, in the rows carried. -/
def cRect (e : Fin 22) : Rect S8x5632 := Rect.unit (s := S8x5632) ![0, 256 * e.val] S8x256.size
  (by intro a; match a with | 0 => exact Nat.le_refl 8 | 1 => exact (by omega : 256 * e.val + 256 ≤ 5632))
/-- Half `s` of the rows and chunk `j` of the columns, in the activations. -/
def aRect (s : Fin 2) (j : Fin 11) : Rect S512x2816 := Rect.unit (s := S512x2816) ![256 * s.val, 256 * j.val] S256x256.size
  (by intro a; match a with | 0 => exact (by omega : 256 * s.val + 256 ≤ 512) | 1 => exact (by omega : 256 * j.val + 256 ≤ 2816))
/-- Half `s` of the rows, in the activations. -/
def hRect (s : Fin 2) : Rect S512x2816 := Rect.unit (s := S512x2816) ![256 * s.val, 0] S256x2816.size
  (by intro a; match a with | 0 => exact (by omega : 256 * s.val + 256 ≤ 512) | 1 => exact Nat.le_refl 2816)
/-- Quarter `k` of the projection back. -/
def dRect (k : Fin 4) : Rect S2816x1024 := Rect.unit (s := S2816x1024) ![0, 256 * k.val] S2816x256.size
  (by intro a; match a with | 0 => exact Nat.le_refl 2816 | 1 => exact (by omega : 256 * k.val + 256 ≤ 1024))
/-- A row of weights, whole. -/
def rRect : Rect S1x1024 := Rect.unit (s := S1x1024) ![0, 0] S1x1024.size inb_S1x1024_S1x1024_0_0

/-- Half `s`'s rows normed. -/
def hidT (X : Vec F S512x1024 .f32) (N : Vec F S1x1024 .f32) (s : Fin 2) : FVec F S256x1024 .bf16 :=
  k0_pay3 (View.ld X (xRect s) : Vec F S256x1024 .f32) (View.ld N rRect : Vec F S1x1024 .f32)
/-- Chunk `e` of their projection. -/
def upT (X : Vec F S512x1024 .f32) (N : Vec F S1x1024 .f32) (W : Vec F S1024x5632 .bf16) (s : Fin 2) (e : Fin 22) : FVec F S256x256 .f32 :=
  k0_pay6 (hidT X N s) (View.ld W (wRect e) : Vec F S1024x256 .bf16)
/-- A chunk convolved over the eight rows before it. -/
def convT (u : FVec F S256x256 .f32) (h : Vec F S8x256 .f32) (K : Vec F S3x5632 .f32) (B : Vec F S1x5632 .f32) (e : Fin 22) : FVec F S256x256 .f32 :=
  k0_pay8 u h (View.ld K (kRect e) : Vec F S3x256 .f32) (View.ld B (bRect e) : Vec F S1x256 .f32)
/-- The gated activation of two chunks. -/
def actT (g v : FVec F S256x256 .f32) : FVec F S256x256 .bf16 :=
  k0_pay15 (k0_pay10 g) (k0_pay10 v) (k0_pay13 g) k0_pay14
/-- A quarter of the activations' projection back. -/
def downT (a : Vec F S256x2816 .bf16) (D : Vec F S2816x1024 .bf16) (k : Fin 4) : FVec F S256x256 .f32 :=
  k0_pay250 a (View.ld D (dRect k) : Vec F S2816x256 .bf16)
/-- Half `s`'s rows of the result. -/
def outT (X : Vec F S512x1024 .f32) (a : Vec F S256x2816 .bf16) (D : Vec F S2816x1024 .bf16) (P : Vec F S1x1024 .f32) (s : Fin 2) : FVec F S256x1024 .f32 :=
  k0_pay1 a (downT a D 0) (View.ld D (dRect 1) : Vec F S2816x256 .bf16) (View.ld D (dRect 2) : Vec F S2816x256 .bf16) (View.ld D (dRect 3) : Vec F S2816x256 .bf16)
    (View.ld X (xRect s) : Vec F S256x1024 .f32) (View.ld P rRect : Vec F S1x1024 .f32)

end Cert.FfnIdeal.Rows

end
-- ==== Proof.FfnIdeal.Pieces.lean ====
/-
  The stores one grid point makes, as lists over the chunks: the rows carried, the activations, the two halves' results.
-/
module

public import proofs.«01_k».proof.Proof.FfnIdeal.Tiles

@[expose] public section

set_option maxRecDepth 16384

noncomputable section

namespace Cert.FfnIdeal.Rows

open Cert.FfnIdeal Cert.FfnIdeal.Gen
open Idealize.ShloMosaic Idealize.ShloMosaic.TcCoe

variable {F : FTy → Type} [FloatOps F] [Named F]

/-- The chunks in the order of the stores, last first: each gate chunk goes with its value chunk. -/
def ords : List (Fin 22) := [21, 10, 20, 9, 19, 8, 18, 7, 17, 6, 16, 5, 15, 4, 14, 3, 13, 2, 12, 1, 11, 0]
/-- The chunks of the activations, last first. -/
def chunks : List (Fin 11) := [10, 9, 8, 7, 6, 5, 4, 3, 2, 1, 0]
/-- How many chunks come before chunk `e`. -/
def pos (e : Fin 22) : ℕ := if e.val < 11 then 2 * e.val else 2 * (e.val - 11) + 1
/-- The gate's chunk and the value's chunk of activation `j`. -/
def eG (j : Fin 11) : Fin 22 := ⟨j.val, by omega⟩
@[inherit_doc eG] def eV (j : Fin 11) : Fin 22 := ⟨11 + j.val, by omega⟩

section Point
variable (X : Vec F S512x1024 .f32) (N : Vec F S1x1024 .f32) (W : Vec F S1024x5632 .bf16) (K : Vec F S3x5632 .f32) (B : Vec F S1x5632 .f32)
  (D : Vec F S2816x1024 .bf16) (P : Vec F S1x1024 .f32)

/-- The store of chunk `e`'s last eight rows, in half `s`. -/
def cPiece (s : Fin 2) (e : Fin 22) : View.Piece (Elt F) S8x5632 .f32 := ⟨cRect e, k0_pay9 (upT X N W s e)⟩
/-- The stores of half `s` before chunk number `n`, over those before. -/
def cList (L : List (View.Piece (Elt F) S8x5632 .f32)) (s : Fin 2) (n : ℕ) : List (View.Piece (Elt F) S8x5632 .f32) :=
  (ords.drop (22 - n)).map (cPiece X N W s) ++ L
/-- The eight rows before the second half, as it reads them. -/
def halo1 (M9 : Memref sig .tc .vmem S8x5632 .f32) (L : List (View.Piece (Elt F) S8x5632 .f32)) (e : Fin 22) : Vec F S8x256 .f32 :=
  M9.view.readCov (cList X N W (cList X N W L 0 22) 1 (pos e)) (cRect e).toLoadRect
/-- The eight rows before the first half, where the point stores zeros first. -/
def halo0 (M9 : Memref sig .tc .vmem S8x5632 .f32) (L : List (View.Piece (Elt F) S8x5632 .f32)) (e : Fin 22) : Vec F S8x256 .f32 :=
  M9.view.readCov (cList X N W L 0 (pos e)) (cRect e).toLoadRect

variable (H : Fin 2 → Fin 22 → Vec F S8x256 .f32)

/-- Chunk `e` of half `s` convolved over the rows before it. -/
def cvT (s : Fin 2) (e : Fin 22) : FVec F S256x256 .f32 := convT (upT X N W s e) (H s e) K B e
/-- The store of activation `j` of half `s`. -/
def aPiece (s : Fin 2) (j : Fin 11) : View.Piece (Elt F) S512x2816 .bf16 :=
  ⟨aRect s j, actT (cvT X N W K B H s (eG j)) (cvT X N W K B H s (eV j))⟩
/-- The activations' stores when half `s` is read back: the first half's come after three chunks of the second. -/
def aList (s : Fin 2) : List (View.Piece (Elt F) S512x2816 .bf16) :=
  (chunks.drop (match s with | 0 => 8 | 1 => 0)).map (aPiece X N W K B H 1) ++ chunks.map (aPiece X N W K B H 0)
/-- Half `s`'s activations as they are read back. -/
def aRead (M10 : Memref sig .tc .vmem S512x2816 .bf16) (s : Fin 2) : Vec F S256x2816 .bf16 :=
  M10.view.readCov (aList X N W K B H s) (hRect s).toLoadRect
/-- The store of half `s`'s result. -/
def oPiece (M10 : Memref sig .tc .vmem S512x2816 .bf16) (s : Fin 2) : View.Piece (Elt F) S512x1024 .f32 :=
  ⟨xRect s, outT X (aRead X N W K B H M10 s) D P s⟩
end Point

/-- The zeros stored over the carried rows at a sequence's first point. -/
def clear : List (View.Piece (Elt F) S8x5632 .f32) := [⟨Rect.unit (s := S8x5632) ![0, 0] S8x5632.size inb_S8x5632_S8x5632_0_0, k0_pay2 (F := F)⟩]

/-- The rows before each half, where the point keeps what the one before left. -/
def haloB (X : Vec F S512x1024 .f32) (N : Vec F S1x1024 .f32) (W : Vec F S1024x5632 .bf16) (M9 : Memref sig .tc .vmem S8x5632 .f32) (C : Vec F S8x5632 .f32) (s : Fin 2) (e : Fin 22) :
    Vec F S8x256 .f32 :=
  match s with
  | 0 => View.ld C (cRect e)
  | 1 => halo1 X N W M9 [] e
/-- The rows before each half, where the point stores zeros first. -/
def haloA (X : Vec F S512x1024 .f32) (N : Vec F S1x1024 .f32) (W : Vec F S1024x5632 .bf16) (M9 : Memref sig .tc .vmem S8x5632 .f32) (s : Fin 2) (e : Fin 22) :
    Vec F S8x256 .f32 :=
  match s with
  | 0 => halo0 X N W M9 clear e
  | 1 => halo1 X N W M9 clear e

end Cert.FfnIdeal.Rows

end
-- ==== Proof.FfnIdeal.Lists.lean ====
/-
  The run of the body leaves exactly the lists of stores of `Pieces`.
-/
module

public import proofs.«01_k».proof.Proof.FfnIdeal.Pieces
public import proofs.«01_k».proof.Proof.Gen.FfnIdeal.Frame

@[expose] public section

set_option maxRecDepth 16384

noncomputable section

namespace Cert.FfnIdeal.Rows

open Cert.FfnIdeal Cert.FfnIdeal.Gen
open Idealize.ShloMosaic Idealize.ShloMosaic.TcCoe

variable {F : FTy → Type} [FloatOps F] [Named F]

section Found
variable (c : Dev nD) (i : grid0.Coords)
    (M1 : Memref sig .tc .vmem S512x1024 .f32) (h1 : M1.IsWhole)
    (M2 : Memref sig .tc .vmem S1x1024 .f32) (h2 : M2.IsWhole)
    (M3 : Memref sig .tc .vmem S1024x5632 .bf16) (h3 : M3.IsWhole)
    (M4 : Memref sig .tc .vmem S3x5632 .f32) (h4 : M4.IsWhole)
    (M5 : Memref sig .tc .vmem S1x5632 .f32) (h5 : M5.IsWhole)
    (M6 : Memref sig .tc .vmem S2816x1024 .bf16) (h6 : M6.IsWhole)
    (M7 : Memref sig .tc .vmem S1x1024 .f32) (h7 : M7.IsWhole)
    (M8 : Memref sig .tc .vmem S512x1024 .f32) (h8 : M8.IsWhole)
    (M9 : Memref sig .tc .vmem S8x5632 .f32) (h9 : M9.IsWhole)
    (M10 : Memref sig .tc .vmem S512x2816 .bf16) (h10 : M10.IsWhole)
    (x0 : Vec F S512x1024 .f32) (x1 : Vec F S1x1024 .f32) (x2 : Vec F S1024x5632 .bf16) (x3 : Vec F S3x5632 .f32) (x4 : Vec F S1x5632 .f32)
    (x5 : Vec F S2816x1024 .bf16) (x6 : Vec F S1x1024 .f32)

set_option maxHeartbeats 4000000 in
/-- The rows carried, at a sequence's first point. -/
theorem carry_A (hc0 : cond0_0 i) : (kernelRun0_A c i M1 h1 M2 h2 M3 h3 M4 h4 M5 h5 M6 h6 M7 h7 M8 h8 M9 h9 M10 h10 hc0 x0 x1 x2 x3 x4 x5 x6).2.1
    = cList (M1.view.read (Elt F) (h1.unread x0)) (M2.view.read (Elt F) (h2.unread x1)) (M3.view.read (Elt F) (h3.unread x2)) (cList (M1.view.read (Elt F) (h1.unread x0)) (M2.view.read (Elt F) (h2.unread x1)) (M3.view.read (Elt F) (h3.unread x2)) clear 0 22) 1 22 := rfl

set_option maxHeartbeats 4000000 in
/-- The rows of the result, at a sequence's first point. -/
theorem rows_A (hc0 : cond0_0 i) : (kernelRun0_A c i M1 h1 M2 h2 M3 h3 M4 h4 M5 h5 M6 h6 M7 h7 M8 h8 M9 h9 M10 h10 hc0 x0 x1 x2 x3 x4 x5 x6).1
    = [oPiece (M1.view.read (Elt F) (h1.unread x0)) (M2.view.read (Elt F) (h2.unread x1)) (M3.view.read (Elt F) (h3.unread x2)) (M4.view.read (Elt F) (h4.unread x3)) (M5.view.read (Elt F) (h5.unread x4)) (M6.view.read (Elt F) (h6.unread x5)) (M7.view.read (Elt F) (h7.unread x6)) (haloA (M1.view.read (Elt F) (h1.unread x0)) (M2.view.read (Elt F) (h2.unread x1)) (M3.view.read (Elt F) (h3.unread x2)) M9) M10 1,
       oPiece (M1.view.read (Elt F) (h1.unread x0)) (M2.view.read (Elt F) (h2.unread x1)) (M3.view.read (Elt F) (h3.unread x2)) (M4.view.read (Elt F) (h4.unread x3)) (M5.view.read (Elt F) (h5.unread x4)) (M6.view.read (Elt F) (h6.unread x5)) (M7.view.read (Elt F) (h7.unread x6)) (haloA (M1.view.read (Elt F) (h1.unread x0)) (M2.view.read (Elt F) (h2.unread x1)) (M3.view.read (Elt F) (h3.unread x2)) M9) M10 0] := rfl

set_option maxHeartbeats 4000000 in
/-- The rows carried, at the other points. -/
theorem carry_B (hc0 : ¬cond0_0 i) (xs0 : Vec F S8x5632 .f32) : (kernelRun0_B c i M1 h1 M2 h2 M3 h3 M4 h4 M5 h5 M6 h6 M7 h7 M8 h8 M9 h9 M10 h10 hc0 x0 x1 x2 x3 x4 x5 x6 xs0).2.1
    = cList (M1.view.read (Elt F) (h1.unread x0)) (M2.view.read (Elt F) (h2.unread x1)) (M3.view.read (Elt F) (h3.unread x2)) (cList (M1.view.read (Elt F) (h1.unread x0)) (M2.view.read (Elt F) (h2.unread x1)) (M3.view.read (Elt F) (h3.unread x2)) [] 0 22) 1 22 := rfl

set_option maxHeartbeats 4000000 in
/-- The rows of the result, at the other points. -/
theorem rows_B (hc0 : ¬cond0_0 i) (xs0 : Vec F S8x5632 .f32) : (kernelRun0_B c i M1 h1 M2 h2 M3 h3 M4 h4 M5 h5 M6 h6 M7 h7 M8 h8 M9 h9 M10 h10 hc0 x0 x1 x2 x3 x4 x5 x6 xs0).1
    = [oPiece (M1.view.read (Elt F) (h1.unread x0)) (M2.view.read (Elt F) (h2.unread x1)) (M3.view.read (Elt F) (h3.unread x2)) (M4.view.read (Elt F) (h4.unread x3)) (M5.view.read (Elt F) (h5.unread x4)) (M6.view.read (Elt F) (h6.unread x5)) (M7.view.read (Elt F) (h7.unread x6)) (haloB (M1.view.read (Elt F) (h1.unread x0)) (M2.view.read (Elt F) (h2.unread x1)) (M3.view.read (Elt F) (h3.unread x2)) M9 (M9.view.read (Elt F) (h9.unread xs0))) M10 1,
       oPiece (M1.view.read (Elt F) (h1.unread x0)) (M2.view.read (Elt F) (h2.unread x1)) (M3.view.read (Elt F) (h3.unread x2)) (M4.view.read (Elt F) (h4.unread x3)) (M5.view.read (Elt F) (h5.unread x4)) (M6.view.read (Elt F) (h6.unread x5)) (M7.view.read (Elt F) (h7.unread x6)) (haloB (M1.view.read (Elt F) (h1.unread x0)) (M2.view.read (Elt F) (h2.unread x1)) (M3.view.read (Elt F) (h3.unread x2)) M9 (M9.view.read (Elt F) (h9.unread xs0))) M10 0] := rfl
end Found

end Cert.FfnIdeal.Rows

end
-- ==== Proof.RowsSpec.lean ====
/-
  The rows of the layer that the feed-forward call computes, as one function of the arguments on extended reals.
-/
module

public import Idealize.ShloMosaic.Lib.Pointwise

@[expose] public section

noncomputable section

namespace Cert.Rows

open Idealize.ShloMosaic

/-- The arguments. -/
structure Args where
  x : (⟨2, ![16384, 1024]⟩ : Shape).Idx → EReal
  np : (⟨1, ![1024]⟩ : Shape).Idx → EReal
  wu : (⟨2, ![1024, 5632]⟩ : Shape).Idx → EReal
  kw : (⟨2, ![3, 5632]⟩ : Shape).Idx → EReal
  kb : (⟨1, ![5632]⟩ : Shape).Idx → EReal
  wd : (⟨2, ![2816, 1024]⟩ : Shape).Idx → EReal
  nq : (⟨1, ![1024]⟩ : Shape).Idx → EReal

/-- A row over the root of its mean square, weighted. -/
def rms (z w : Fin 1024 → EReal) (k : Fin 1024) : EReal :=
  z k * Ideal.rsqrt (Ideal.div (∑ i, z i * z i) (Ideal.ofBits FTy.f32 0x44800000#32) + Ideal.ofBits FTy.f32 0x358637BD#32) * w k

/-- A sequence's row and the two before it, weighted and added to the bias. -/
def conv (b k2 k1 k0 u0 u1 u2 : EReal) : EReal := b + k2 * u0 + k1 * u1 + k0 * u2

/-- The scale inside the gate: minus twice the reference's constant, in base two. -/
abbrev aE : EReal := ((((-2) * (6693141 / 8388608)) * (Real.log 2)⁻¹ : ℝ) : EReal)
/-- The same, times the reference's factor of the cube. -/
abbrev bE : EReal := (((((-2) * (6693141 / 8388608)) * (Real.log 2)⁻¹) * (12003091 / 268435456) : ℝ) : EReal)

/-- The gate, by a power of two. -/
def gate (v : EReal) : EReal := Ideal.div v (1 + Ideal.exp2 (v * (aE + bE * (v * v))))

section Defs
variable (A : Args)

/-- Row `T` normed. -/
def hid (T : Fin 16384) (k : Fin 1024) : EReal := rms (fun k => A.x (ix2 T k)) (fun k => A.np (ix1 k)) k
/-- Row `T` projected. -/
def up (T : Fin 16384) (e : Fin 5632) : EReal := ∑ k : Fin 1024, hid A T k * A.wu (ix2 k e)
/-- The row `d` before row `T` in its sequence, or zero. -/
def before (T : Fin 16384) (d : ℕ) (e : Fin 5632) : EReal := if T.val % 8192 < d then 0 else up A ⟨T.val - d, by omega⟩ e
/-- Row `T` convolved. -/
def cnv (T : Fin 16384) (e : Fin 5632) : EReal :=
  conv (A.kb (ix1 e)) (A.kw (ix2 2 e)) (A.kw (ix2 1 e)) (A.kw (ix2 0 e)) (up A T e) (before A T 1 e) (before A T 2 e)
/-- Row `T`'s activations. -/
def act (T : Fin 16384) (j : Fin 2816) : EReal := gate (cnv A T ⟨j.val, by omega⟩) * cnv A T ⟨2816 + j.val, by omega⟩
/-- Row `T` projected back. -/
def down (T : Fin 16384) (c : Fin 1024) : EReal := ∑ j : Fin 2816, act A T j * A.wd (ix2 j c)
/-- Row `T` of the result. -/
def out (T : Fin 16384) (c : Fin 1024) : EReal := A.x (ix2 T c) + rms (down A T) (fun k => A.nq (ix1 k)) c
end Defs

end Cert.Rows

end
-- ==== Proof.FfnIdeal.Values.lean ====
/-
  The tiles of half a block on extended reals: each element as a sum or a product of the blocks read.
-/
module

public import proofs.«01_k».proof.Proof.FfnIdeal.Tiles
public import proofs.«01_k».proof.Proof.RowsSpec

@[expose] public section

set_option maxRecDepth 16384

noncomputable section

namespace Cert.FfnIdeal.Rows

open Cert.FfnIdeal Cert.FfnIdeal.Gen Cert.Rows
open Idealize.ShloMosaic Idealize.ShloMosaic.TcCoe

variable {F : FTy → Type} [FloatOps F] [Named F]

theorem x_at (X : Vec Ideal S512x1024 .f32) (s : Fin 2) (r : Fin 256) (k : Fin 1024) : (View.ld X (xRect s) : Vec Ideal S256x1024 .f32) (ix2 r k) = X (ix2 ⟨256 * s.val + r.val, by omega⟩ k) := by
  refine congrArg X (funext fun a => Fin.ext ?_)
  match a with
  | 0 => exact congrArg (256 * s.val + ·) (Nat.one_mul _)
  | 1 => exact (Nat.zero_add _).trans (Nat.one_mul _)
theorem r_at (N : Vec Ideal S1x1024 .f32) (k : Fin 1024) : (View.ld N rRect : Vec Ideal S1x1024 .f32) (ix2 0 k) = N (ix2 0 k) := by
  refine congrArg N (funext fun a => Fin.ext ?_)
  match a with
  | 0 => exact (Nat.zero_add _).trans (Nat.one_mul _)
  | 1 => exact (Nat.zero_add _).trans (Nat.one_mul _)
theorem w_at (W : Vec Ideal S1024x5632 .bf16) (e : Fin 22) (k : Fin 1024) (j : Fin 256) : (View.ld W (wRect e) : Vec Ideal S1024x256 .bf16) (ix2 k j) = W (ix2 k ⟨256 * e.val + j.val, by omega⟩) := by
  refine congrArg W (funext fun a => Fin.ext ?_)
  match a with
  | 0 => exact (Nat.zero_add _).trans (Nat.one_mul _)
  | 1 => exact congrArg (256 * e.val + ·) (Nat.one_mul _)
theorem k_at (K : Vec Ideal S3x5632 .f32) (e : Fin 22) (i : Fin 3) (j : Fin 256) : (View.ld K (kRect e) : Vec Ideal S3x256 .f32) (ix2 i j) = K (ix2 i ⟨256 * e.val + j.val, by omega⟩) := by
  refine congrArg K (funext fun a => Fin.ext ?_)
  match a with
  | 0 => exact (Nat.zero_add _).trans (Nat.one_mul _)
  | 1 => exact congrArg (256 * e.val + ·) (Nat.one_mul _)
theorem b_at (B : Vec Ideal S1x5632 .f32) (e : Fin 22) (j : Fin 256) : (View.ld B (bRect e) : Vec Ideal S1x256 .f32) (ix2 0 j) = B (ix2 0 ⟨256 * e.val + j.val, by omega⟩) := by
  refine congrArg B (funext fun a => Fin.ext ?_)
  match a with
  | 0 => exact (Nat.zero_add _).trans (Nat.one_mul _)
  | 1 => exact congrArg (256 * e.val + ·) (Nat.one_mul _)
theorem c_at (C : Vec Ideal S8x5632 .f32) (e : Fin 22) (i : Fin 8) (j : Fin 256) : (View.ld C (cRect e) : Vec Ideal S8x256 .f32) (ix2 i j) = C (ix2 i ⟨256 * e.val + j.val, by omega⟩) := by
  refine congrArg C (funext fun a => Fin.ext ?_)
  match a with
  | 0 => exact (Nat.zero_add _).trans (Nat.one_mul _)
  | 1 => exact congrArg (256 * e.val + ·) (Nat.one_mul _)
theorem d_at (D : Vec Ideal S2816x1024 .bf16) (q : Fin 4) (j : Fin 2816) (c : Fin 256) : (View.ld D (dRect q) : Vec Ideal S2816x256 .bf16) (ix2 j c) = D (ix2 j ⟨256 * q.val + c.val, by omega⟩) := by
  refine congrArg D (funext fun a => Fin.ext ?_)
  match a with
  | 0 => exact (Nat.zero_add _).trans (Nat.one_mul _)
  | 1 => exact congrArg (256 * q.val + ·) (Nat.one_mul _)

theorem norm_at (x : Vec Ideal S256x1024 .f32) (n : Vec Ideal S1x1024 .f32) (r : Fin 256) (k : Fin 1024) :
    k0_pay3 x n (ix2 r k) = rms (fun k => x (ix2 r k)) (fun k => n (ix2 0 k)) k := by
  unfold rms
  pointwise [k0_pay3]

theorem hid_at (X : Vec Ideal S512x1024 .f32) (N : Vec Ideal S1x1024 .f32) (s : Fin 2) (r : Fin 256) (k : Fin 1024) :
    hidT X N s (ix2 r k) = rms (fun k => X (ix2 ⟨256 * s.val + r.val, by omega⟩ k)) (fun k => N (ix2 0 k)) k := by
  exact (norm_at _ _ r k).trans (congrFun (congr (congrArg rms (funext fun k => x_at X s r k)) (funext fun k => r_at N k)) k)

theorem proj_at (h : FVec Ideal S256x1024 .bf16) (w : Vec Ideal S1024x256 .bf16) (r j : Fin 256) : k0_pay6 h w (ix2 r j) = ∑ k : Fin 1024, h (ix2 r k) * w (ix2 k j) := by
  pointwise [k0_pay6]

theorem up_at (X : Vec Ideal S512x1024 .f32) (N : Vec Ideal S1x1024 .f32) (W : Vec Ideal S1024x5632 .bf16) (s : Fin 2) (e : Fin 22) (r j : Fin 256) :
    upT X N W s e (ix2 r j) = ∑ k : Fin 1024, hidT X N s (ix2 r k) * W (ix2 k ⟨256 * e.val + j.val, by omega⟩) := by
  exact (proj_at _ _ r j).trans (Finset.sum_congr rfl fun k _ => congrArg _ (w_at W e k j))

theorem tail_at (u : FVec Ideal S256x256 .f32) (i : Fin 8) (j : Fin 256) : k0_pay9 u (ix2 i j) = u (ix2 ⟨248 + i.val, by omega⟩ j) := by
  pointwise [k0_pay9]

theorem act_at (g v : FVec Ideal S256x256 .f32) (r j : Fin 256) : actT g v (ix2 r j) = gate (g (ix2 r j)) * v (ix2 r j) := by
  unfold gate
  pointwise [actT, k0_pay15, k0_pay10, k0_pay13, k0_pay14]
  rfl

/-- The row `d` before row `r`, from the eight rows before or from the rows themselves. -/
def prev (d : ℕ) (hd : d ≤ 8) (h : Fin 8 → EReal) (u : Fin 256 → EReal) (r : Fin 256) : EReal :=
  if hr : r.val < d then h ⟨8 + r.val - d, by omega⟩ else u ⟨r.val - d, by omega⟩

theorem prev_sel (d : ℕ) (hd : d ≤ 8) (h : Fin 8 → EReal) (u : Fin 256 → EReal) (r : Fin 256) (b : BitVec 1) (t : ℕ) (ht : t = (r.val % 8 + 8 - d) % 8)
    (hb : b = if 8 - d ≤ t then 1#1 else 0#1) (h1 : ∀ p : ¬ r.val / 8 * 8 + t < 8, r.val / 8 * 8 + t - 8 < 256) (h2 : ∀ p : ¬ (1 + r.val / 8) * 8 + t < 8, (1 + r.val / 8) * 8 + t - 8 < 256) :
    Scalar.select b (if p : r.val / 8 * 8 + t < 8 then h ⟨r.val / 8 * 8 + t, p⟩ else u ⟨r.val / 8 * 8 + t - 8, h1 p⟩)
      (if p : (1 + r.val / 8) * 8 + t < 8 then h ⟨(1 + r.val / 8) * 8 + t, p⟩ else u ⟨(1 + r.val / 8) * 8 + t - 8, h2 p⟩) = prev d hd h u r := by
  have hsel (x y : EReal) : Scalar.select b x y = if 8 - d ≤ t then x else y := by
    rw [hb]; unfold Scalar.select
    by_cases q : 8 - d ≤ t
    · simp only [q, if_true]; rfl
    · simp only [q, if_false]; rfl
  have eh (i i' : Fin 8) (e : i.val = i'.val) : h i = h i' := congrArg h (Fin.ext e)
  have eu (i i' : Fin 256) (e : i.val = i'.val) : u i = u i' := congrArg u (Fin.ext e)
  rw [hsel]
  unfold prev
  split_ifs <;> first | (exact eh _ _ (by simp only; omega)) | (exact eu _ _ (by simp only; omega)) | (exfalso; omega)

theorem conv8_at (u : FVec Ideal S256x256 .f32) (h : Vec Ideal S8x256 .f32) (k : Vec Ideal S3x256 .f32) (b : Vec Ideal S1x256 .f32) (r j : Fin 256) :
    k0_pay8 u h k b (ix2 r j) = conv (b (ix2 0 j)) (k (ix2 2 j)) (k (ix2 1 j)) (k (ix2 0 j)) (u (ix2 r j))
      (prev 1 (by decide) (fun i => h (ix2 i j)) (fun i => u (ix2 i j)) r) (prev 2 (by decide) (fun i => h (ix2 i j)) (fun i => u (ix2 i j)) r) := by
  have c7 (t : Fin 8) : IntOp.cmpi CmpIPredicate.sge (BitVec.ofNat 32 t.val) 7#32 = if 8 - 1 ≤ t.val then 1#1 else 0#1 := by
    revert t; decide +kernel
  have c6 (t : Fin 8) : IntOp.cmpi CmpIPredicate.sge (BitVec.ofNat 32 t.val) 6#32 = if 8 - 2 ≤ t.val then 1#1 else 0#1 := by
    revert t; decide +kernel
  unfold conv
  rw [← prev_sel 1 (by decide) (fun i => h (ix2 i j)) (fun i => u (ix2 i j)) r _ _ rfl (c7 ⟨(r.val % 8 + 8 - 1) % 8, by omega⟩) (by omega) (by omega),
    ← prev_sel 2 (by decide) (fun i => h (ix2 i j)) (fun i => u (ix2 i j)) r _ _ rfl (c6 ⟨(r.val % 8 + 8 - 2) % 8, by omega⟩) (by omega) (by omega)]
  pointwise [k0_pay8]

theorem conv_at (u : FVec Ideal S256x256 .f32) (h : Vec Ideal S8x256 .f32) (K : Vec Ideal S3x5632 .f32) (B : Vec Ideal S1x5632 .f32) (e : Fin 22) (r j : Fin 256) :
    convT u h K B e (ix2 r j) = conv (B (ix2 0 ⟨256 * e.val + j.val, by omega⟩)) (K (ix2 2 ⟨256 * e.val + j.val, by omega⟩)) (K (ix2 1 ⟨256 * e.val + j.val, by omega⟩)) (K (ix2 0 ⟨256 * e.val + j.val, by omega⟩))
      (u (ix2 r j)) (prev 1 (by decide) (fun i => h (ix2 i j)) (fun i => u (ix2 i j)) r) (prev 2 (by decide) (fun i => h (ix2 i j)) (fun i => u (ix2 i j)) r) := by
  refine (conv8_at _ _ _ _ r j).trans ?_
  rw [← b_at B e j, ← k_at K e 2 j, ← k_at K e 1 j, ← k_at K e 0 j]

theorem down_at (a : Vec Ideal S256x2816 .bf16) (D : Vec Ideal S2816x1024 .bf16) (q : Fin 4) (r c : Fin 256) :
    downT a D q (ix2 r c) = ∑ j : Fin 2816, a (ix2 r j) * D (ix2 j ⟨256 * q.val + c.val, by omega⟩) := by
  have h (w : Vec Ideal S2816x256 .bf16) : k0_pay250 a w (ix2 r c) = ∑ j : Fin 2816, a (ix2 r j) * w (ix2 j c) := by
    pointwise [k0_pay250]
  exact (h _).trans (Finset.sum_congr rfl fun j _ => congrArg _ (d_at D q j c))

/-- Four quarters side by side. -/
def fourT (y : Fin 4 → FVec F S256x256 .f32) : FVec F S256x1024 .f32 :=
  concatenate S256x1024 1 [⟨S256x256, y 0⟩, ⟨S256x256, y 1⟩, ⟨S256x256, y 2⟩, ⟨S256x256, y 3⟩] concatenates_S256x256_S256x256_S256x256_S256x256_S256x1024_d1
/-- Rows normed, weighted and added to `x`. -/
def postT (o x : FVec F S256x1024 .f32) (w : FVec F S1x1024 .f32) : FVec F S256x1024 .f32 :=
  addf x (mulf (mulf o (broadcastTo S256x1024 (rsqrt (addf (divf (shapeCast S256x1 (multiReduction .add [1] S256 (mulf o o) 0x00000000#32 reduces_S256x1024_S256 (.inl rfl) rfl) shapeCasts_S256_S256x1)
      (broadcast S256x1 (Scalar.ofBits .f32 0x44800000#32))) (broadcast S256x1 (Scalar.ofBits .f32 0x358637BD#32)))) broadcasts_S256x1_S256x1024))
    (broadcastTo S256x1024 (shapeCast S1x1024 w shapeCasts_S1x1024_S1x1024) broadcasts_S1x1024_S256x1024))

theorem outT_eq (X : Vec F S512x1024 .f32) (a : Vec F S256x2816 .bf16) (D : Vec F S2816x1024 .bf16) (P : Vec F S1x1024 .f32) (s : Fin 2) :
    outT X a D P s = postT (fourT (downT a D)) (View.ld X (xRect s)) (View.ld P rRect) := rfl

theorem quarters {α : Type} (f : Fin 4 → Fin 256 → α) (r : Fin 4) (q : Fin 256) :
    (if h : 256 * r.val + q.val < 256 then f 0 ⟨256 * r.val + q.val, h⟩
      else if h' : 256 * r.val + q.val - 256 < 256 then f 1 ⟨256 * r.val + q.val - 256, h'⟩
      else if h'' : 256 * r.val + q.val - 256 - 256 < 256 then f 2 ⟨256 * r.val + q.val - 256 - 256, h''⟩
      else f 3 ⟨256 * r.val + q.val - 256 - 256 - 256, by omega⟩) = f r q := by
  have e (r' : Fin 4) (n : ℕ) (hn : n < 256) (h1 : r' = r) (h2 : n = q.val) : f r' ⟨n, hn⟩ = f r q := by
    subst h1; subst h2; rfl
  split_ifs <;> refine e _ _ _ ?_ ?_ <;> first | omega | exact Fin.ext (by simp; omega)

theorem four_at (y : Fin 4 → FVec Ideal S256x256 .f32) (q : Fin 4) (r c : Fin 256) : fourT y (ix2 r ⟨256 * q.val + c.val, by omega⟩) = y q (ix2 r c) := by
  pointwise [fourT]
  exact quarters (fun q c => y q (ix2 r c)) q c

theorem post_at (o x : FVec Ideal S256x1024 .f32) (w : FVec Ideal S1x1024 .f32) (r : Fin 256) (c : Fin 1024) :
    postT o x w (ix2 r c) = x (ix2 r c) + rms (fun k => o (ix2 r k)) (fun k => w (ix2 0 k)) c := by
  unfold rms
  pointwise [postT]

theorem out_at (X : Vec Ideal S512x1024 .f32) (a : Vec Ideal S256x2816 .bf16) (D : Vec Ideal S2816x1024 .bf16) (P : Vec Ideal S1x1024 .f32) (s : Fin 2) (r : Fin 256) (c : Fin 1024) :
    outT X a D P s (ix2 r c) = X (ix2 ⟨256 * s.val + r.val, by omega⟩ c)
      + rms (fun c => ∑ j : Fin 2816, a (ix2 r j) * D (ix2 j c)) (fun k => P (ix2 0 k)) c := by
  rw [outT_eq]
  refine (post_at _ _ _ r c).trans (congr (congrArg HAdd.hAdd (x_at X s r c)) (congrFun (congr (congrArg rms (funext fun k => ?_)) (funext fun k => r_at P k)) c))
  have h := four_at (downT a D) ⟨k.val / 256, by omega⟩ r ⟨k.val % 256, by omega⟩
  rw [down_at] at h
  have e : (⟨256 * (k.val / 256) + k.val % 256, by omega⟩ : Fin 1024) = k := Fin.ext (Nat.div_add_mod _ _)
  simpa only [e] using h

end Cert.FfnIdeal.Rows

end
-- ==== Proof.FfnIdeal.Reads.lean ====
/-
  What the body's loads of its scratches read, and what its stores leave: the tile of the store that covers them.
-/
module

public import proofs.«01_k».proof.Proof.FfnIdeal.Pieces
public import proofs.«01_k».proof.Proof.FfnIdeal.Values
public import proofs.«01_k».proof.Proof.KernelIdeal.Reads

@[expose] public section

set_option maxRecDepth 16384

noncomputable section

namespace Cert.FfnIdeal.Rows

open Cert.FfnIdeal Cert.FfnIdeal.Gen
open Cert.KernelIdeal.Attn (canon_fam canon_skip)
open Idealize.ShloMosaic Idealize.ShloMosaic.TcCoe

theorem mem_ords (e : Fin 22) : e ∈ ords.drop (22 - 22) := by revert e; decide
theorem not_mem_ords (e : Fin 22) : e ∉ ords.drop (22 - pos e) := by revert e; decide
theorem mem_chunks (j : Fin 11) : j ∈ chunks := by revert j; decide

theorem mem_cRect {e : Fin 22} {y : S8x5632.Idx} (m : y ∈ (cRect e).set) : 256 * e.val ≤ (y 1).val ∧ (y 1).val < 256 * e.val + 256 := Rect.mem_set_unit.mp m 1
theorem mem_aRect {s : Fin 2} {j : Fin 11} {y : S512x2816.Idx} (m : y ∈ (aRect s j).set) :
    (256 * s.val ≤ (y 0).val ∧ (y 0).val < 256 * s.val + 256) ∧ (256 * j.val ≤ (y 1).val ∧ (y 1).val < 256 * j.val + 256) :=
  ⟨Rect.mem_set_unit.mp m 0, Rect.mem_set_unit.mp m 1⟩
theorem mem_xRect {s : Fin 2} {y : S512x1024.Idx} (m : y ∈ (xRect s).set) : 256 * s.val ≤ (y 0).val ∧ (y 0).val < 256 * s.val + 256 := Rect.mem_set_unit.mp m 0

theorem cRect_inj (e e' : Fin 22) (y : S8x5632.Idx) (m : y ∈ (cRect e).set) (m' : y ∈ (cRect e').set) : e = e' := by
  have a := mem_cRect m
  have b := mem_cRect m'
  exact Fin.ext (by omega)
theorem aRect_inj (s : Fin 2) (j j' : Fin 11) (y : S512x2816.Idx) (m : y ∈ (aRect s j).set) (m' : y ∈ (aRect s j').set) : j = j' := by
  have a := mem_aRect m
  have b := mem_aRect m'
  exact Fin.ext (by omega)
theorem xRect_inj (s s' : Fin 2) (y : S512x1024.Idx) (m : y ∈ (xRect s).set) (m' : y ∈ (xRect s').set) : s = s' := by
  have a := mem_xRect m
  have b := mem_xRect m'
  exact Fin.ext (by omega)

theorem c_emb (e : Fin 22) (i : Fin 8) (j : Fin 256) : (cRect e).emb (ix2 i j : S8x256.Idx) = ix2 i ⟨256 * e.val + j.val, by omega⟩ := by
  funext a
  refine Fin.ext ?_
  match a with
  | 0 => exact (by omega : 0 + 1 * i.val = i.val)
  | 1 => exact (by omega : 256 * e.val + 1 * j.val = 256 * e.val + j.val)
theorem a_emb (s : Fin 2) (j : Fin 11) (r k : Fin 256) : (hRect s).emb (ix2 r ⟨256 * j.val + k.val, by omega⟩ : S256x2816.Idx) = (aRect s j).emb (ix2 r k : S256x256.Idx) := by
  funext a
  refine Fin.ext ?_
  match a with
  | 0 => exact (by omega : 256 * s.val + 1 * r.val = 256 * s.val + 1 * r.val)
  | 1 => exact (by omega : 0 + 1 * (256 * j.val + k.val) = 256 * j.val + 1 * k.val)
theorem x_emb (s : Fin 2) (r : Fin 256) (c : Fin 1024) : (xRect s).emb (ix2 r c : S256x1024.Idx) = ix2 ⟨256 * s.val + r.val, by omega⟩ c := by
  funext a
  refine Fin.ext ?_
  match a with
  | 0 => exact (by omega : 256 * s.val + 1 * r.val = 256 * s.val + r.val)
  | 1 => exact (by omega : 0 + 1 * c.val = c.val)

variable {F : FTy → Type} [FloatOps F] [Named F]

section Point
variable (X : Vec F S512x1024 .f32) (N : Vec F S1x1024 .f32) (W : Vec F S1024x5632 .bf16) (K : Vec F S3x5632 .f32) (B : Vec F S1x5632 .f32)
  (D : Vec F S2816x1024 .bf16) (P : Vec F S1x1024 .f32)

/-- Half `s`'s stores over the rows carried leave each chunk's last rows. -/
theorem canon_carry (L : List (View.Piece (Elt F) S8x5632 .f32)) (s : Fin 2) (e : Fin 22) (y : S8x256.Idx) :
    View.canon (cList X N W L s 22) ((cRect e).emb y) = k0_pay9 (upT X N W s e) y :=
  canon_fam (e := .f32) (Val := Elt F) cRect (fun e => k0_pay9 (upT X N W s e)) L cRect_inj e y (ords.drop (22 - 22)) (mem_ords e)

/-- Before chunk `e`'s turn the rows carried are as the half found them. -/
theorem canon_before (L : List (View.Piece (Elt F) S8x5632 .f32)) (s : Fin 2) (e : Fin 22) (y : S8x256.Idx) :
    View.canon (cList X N W L s (pos e)) ((cRect e).emb y) = View.canon L ((cRect e).emb y) := by
  refine canon_skip _ _ _ fun p hp hy => ?_
  obtain ⟨e', h, rfl⟩ := List.mem_map.mp hp
  exact not_mem_ords e (cRect_inj e' e _ hy ((cRect e).toLoadRect.idx_mem y) ▸ h)

theorem halo1_eq (M9 : Memref sig .tc .vmem S8x5632 .f32) (L : List (View.Piece (Elt F) S8x5632 .f32)) (e : Fin 22) :
    halo1 X N W M9 L e = k0_pay9 (upT X N W 0 e) := by
  unfold halo1
  rw [View.readCov_eq_canon']
  funext y
  exact (canon_before X N W _ 1 e y).trans (canon_carry X N W L 0 e y)

theorem halo0_eq (M9 : Memref sig .tc .vmem S8x5632 .f32) (e : Fin 22) (i : Fin 8) (j : Fin 256) :
    halo0 X N W M9 clear e (ix2 i j) = k0_pay2 (F := F) (ix2 i ⟨256 * e.val + j.val, by omega⟩) := by
  unfold halo0
  rw [View.readCov_eq_canon']
  refine (canon_before X N W _ 0 e (ix2 i j)).trans ?_
  have h : (cRect e).emb (ix2 i j : S8x256.Idx) = (Rect.unit (s := S8x5632) ![0, 0] S8x5632.size inb_S8x5632_S8x5632_0_0).emb (ix2 i ⟨256 * e.val + j.val, by omega⟩ : S8x5632.Idx) := by
    funext a
    refine Fin.ext ?_
    match a with
    | 0 => exact (by omega : 0 + 1 * i.val = 0 + 1 * i.val)
    | 1 => exact (by omega : 256 * e.val + 1 * j.val = 0 + 1 * (256 * e.val + j.val))
  rw [h]
  exact View.canon_cons_emb (Val := Elt F) (e := .f32) (Rect.unit (s := S8x5632) ![0, 0] S8x5632.size inb_S8x5632_S8x5632_0_0) (k0_pay2 (F := F)) [] _

/-- The rows carried after the point. -/
theorem carry_at (V : View sig .tc .vmem S8x5632 .f32) (L : List (View.Piece (Elt F) S8x5632 .f32)) (e : Fin 22) (i : Fin 8) (j : Fin 256) :
    V.read (Elt F) (V.writes (Elt F) V.junk (cList X N W (cList X N W L 0 22) 1 22)) (ix2 i ⟨256 * e.val + j.val, by omega⟩) = k0_pay9 (upT X N W 1 e) (ix2 i j) := by
  rw [← c_emb e i j]
  refine (View.read_writes_apply_eq_canon _ _ _ _ ⟨cPiece X N W 1 e, List.mem_append_left _ (List.mem_map.mpr ⟨e, mem_ords e, rfl⟩), (cRect e).toLoadRect.idx_mem _⟩).trans ?_
  exact canon_carry X N W _ 1 e (ix2 i j)

variable (H : Fin 2 → Fin 22 → Vec F S8x256 .f32)

theorem canon_acts (L : List (View.Piece (Elt F) S512x2816 .bf16)) (s : Fin 2) (j : Fin 11) (y : S256x256.Idx) :
    View.canon (chunks.map (aPiece X N W K B H s) ++ L) ((aRect s j).emb y) = actT (cvT X N W K B H s (eG j)) (cvT X N W K B H s (eV j)) y :=
  canon_fam (e := .bf16) (Val := Elt F) (aRect s) (fun j => actT (cvT X N W K B H s (eG j)) (cvT X N W K B H s (eV j))) L (aRect_inj s) j y chunks (mem_chunks j)

/-- Half `s`'s activations as read back. -/
theorem aRead_at (M10 : Memref sig .tc .vmem S512x2816 .bf16) (s : Fin 2) (j : Fin 11) (r k : Fin 256) :
    aRead X N W K B H M10 s (ix2 r ⟨256 * j.val + k.val, by omega⟩) = actT (cvT X N W K B H s (eG j)) (cvT X N W K B H s (eV j)) (ix2 r k) := by
  unfold aRead
  rw [View.readCov_eq_canon']
  refine (congrArg (View.canon (Val := Elt F) (e := .bf16) (aList X N W K B H s)) (a_emb s j r k)).trans ?_
  match s with
  | 1 => exact canon_acts X N W K B H _ 1 j (ix2 r k)
  | 0 =>
    refine (canon_skip _ _ _ fun p hp hy => ?_).trans ((congrArg (fun L => View.canon (Val := Elt F) (e := .bf16) L ((aRect 0 j).emb (ix2 r k : S256x256.Idx))) (List.append_nil _).symm).trans (canon_acts X N W K B H [] 0 j (ix2 r k)))
    obtain ⟨j', h, rfl⟩ := List.mem_map.mp hp
    have a : 256 ≤ _ := (mem_aRect hy).1.1
    have b : _ < 256 := (mem_aRect ((aRect 0 j).toLoadRect.idx_mem (ix2 r k : S256x256.Idx))).1.2
    exact absurd b (Nat.not_lt.mpr a)

/-- The rows of the result after the point. -/
theorem rows_at (V : View sig .tc .vmem S512x1024 .f32) (M10 : Memref sig .tc .vmem S512x2816 .bf16) (s : Fin 2) (r : Fin 256) (c : Fin 1024) :
    V.read (Elt F) (V.writes (Elt F) V.junk [oPiece X N W K B D P H M10 1, oPiece X N W K B D P H M10 0]) (ix2 ⟨256 * s.val + r.val, by omega⟩ c)
      = outT X (aRead X N W K B H M10 s) D P s (ix2 r c) := by
  have hs : s ∈ ([1, 0] : List (Fin 2)) := by revert s; decide
  rw [← x_emb s r c]
  refine (View.read_writes_apply_eq_canon _ _ _ _ ⟨oPiece X N W K B D P H M10 s, List.mem_map.mpr ⟨s, hs, rfl⟩, (xRect s).toLoadRect.idx_mem _⟩).trans ?_
  exact canon_fam (e := .f32) (Val := Elt F) xRect (fun s => outT X (aRead X N W K B H M10 s) D P s) [] xRect_inj s (ix2 r c : S256x1024.Idx) [1, 0] hs
end Point

end Cert.FfnIdeal.Rows

end
-- ==== Proof.FfnIdeal.State.lean ====
/-
  One grid point's tiles are the layer's rows, given that its blocks are the arguments' and that the rows
  carried into it are the sequence's.
-/
module

public import proofs.«01_k».proof.Proof.FfnIdeal.Reads

@[expose] public section

set_option maxRecDepth 16384

noncomputable section

namespace Cert.FfnIdeal.Rows

open Cert.FfnIdeal Cert.FfnIdeal.Gen Cert.Rows
open Idealize.ShloMosaic Idealize.ShloMosaic.TcCoe

/-- Row `r` of half `s` of tile `t`. -/
def rowOf (t : Fin 32) (s : Fin 2) (r : Fin 256) : Fin 16384 := ⟨512 * t.val + (256 * s.val + r.val), by omega⟩
/-- Column `j` of chunk `e`. -/
def colOf (e : Fin 22) (j : Fin 256) : Fin 5632 := ⟨256 * e.val + j.val, by omega⟩

variable (A : Args) (t : Fin 32)
variable (X : Vec Ideal S512x1024 .f32) (N : Vec Ideal S1x1024 .f32) (W : Vec Ideal S1024x5632 .bf16) (K : Vec Ideal S3x5632 .f32) (B : Vec Ideal S1x5632 .f32)
  (D : Vec Ideal S2816x1024 .bf16) (P : Vec Ideal S1x1024 .f32)

/-- The blocks of tile `t` are the arguments'. -/
structure Blocks : Prop where
  x (r : Fin 512) (k : Fin 1024) : X (ix2 r k) = A.x (ix2 ⟨512 * t.val + r.val, by omega⟩ k)
  n (k : Fin 1024) : N (ix2 0 k) = A.np (ix1 k)
  w (k : Fin 1024) (e : Fin 5632) : W (ix2 k e) = A.wu (ix2 k e)
  k (d : Fin 3) (e : Fin 5632) : K (ix2 d e) = A.kw (ix2 d e)
  b (e : Fin 5632) : B (ix2 0 e) = A.kb (ix1 e)
  d (j : Fin 2816) (k : Fin 1024) : D (ix2 j k) = A.wd (ix2 j k)
  p (k : Fin 1024) : P (ix2 0 k) = A.nq (ix1 k)

/-- The eight rows a half finds before its own: the sequence's, or zero at its start. -/
def Halo (H : Fin 2 → Fin 22 → Vec Ideal S8x256 .f32) : Prop :=
  ∀ (s : Fin 2) (e : Fin 22) (i : Fin 8) (j : Fin 256), H s e (ix2 i j) = before A (rowOf t s 0) (8 - i.val) (colOf e j)

/-- The rows carried out of tile `t`. -/
def Carry (C : Vec Ideal S8x5632 .f32) : Prop := ∀ (e : Fin 22) (i : Fin 8) (j : Fin 256), C (ix2 i (colOf e j)) = up A (rowOf t 1 ⟨248 + i.val, by omega⟩) (colOf e j)

variable {A t X N W K B D P}

theorem hid_row (h : Blocks A t X N W K B D P) (s : Fin 2) (r : Fin 256) (k : Fin 1024) : hidT X N s (ix2 r k) = hid A (rowOf t s r) k := by
  rw [hid_at]
  have a : (fun k => X (ix2 ⟨256 * s.val + r.val, by omega⟩ k)) = fun k => A.x (ix2 (rowOf t s r) k) := funext fun k => h.x _ k
  have b : (fun k => N (ix2 0 k)) = fun k => A.np (ix1 k) := funext h.n
  rw [a, b]
  rfl

theorem up_row (h : Blocks A t X N W K B D P) (s : Fin 2) (e : Fin 22) (r j : Fin 256) : upT X N W s e (ix2 r j) = up A (rowOf t s r) (colOf e j) := by
  rw [up_at]
  unfold up
  exact Finset.sum_congr rfl fun k _ => congr (congrArg _ (hid_row h s r k)) (h.w k _)

/-- The row `d` before row `r`, from the half's rows and the eight before them. -/
theorem prev_row (h : Blocks A t X N W K B D P) {H : Fin 2 → Fin 22 → Vec Ideal S8x256 .f32} (hH : Halo A t H) (s : Fin 2) (e : Fin 22) (d : ℕ) (hd : d ≤ 8) (r j : Fin 256) :
    prev d hd (fun i => H s e (ix2 i j)) (fun i => upT X N W s e (ix2 i j)) r = before A (rowOf t s r) d (colOf e j) := by
  have h0 : (rowOf t s r).val = 512 * t.val + (256 * s.val + r.val) := rfl
  have h1 : (rowOf t s 0).val = 512 * t.val + (256 * s.val + 0) := rfl
  unfold prev
  by_cases c : r.val < d
  · rw [dif_pos c]
    refine (hH s e _ j).trans ?_
    unfold before
    by_cases z : (rowOf t s r).val % 8192 < d
    · rw [if_pos z, if_pos (by dsimp only; omega)]
    · rw [if_neg z, if_neg (by dsimp only; omega)]
      exact congrArg (fun T => up A T (colOf e j)) (Fin.ext (by dsimp only; omega))
  · rw [dif_neg c]
    refine (up_row h s e _ j).trans ?_
    unfold before
    rw [if_neg (by omega)]
    exact congrArg (fun T => up A T (colOf e j)) (Fin.ext (by unfold rowOf; dsimp only; omega))

theorem cnv_row (h : Blocks A t X N W K B D P) {H : Fin 2 → Fin 22 → Vec Ideal S8x256 .f32} (hH : Halo A t H) (s : Fin 2) (e : Fin 22) (r j : Fin 256) :
    cvT X N W K B H s e (ix2 r j) = cnv A (rowOf t s r) (colOf e j) := by
  unfold cvT
  rw [conv_at, prev_row h hH, prev_row h hH, up_row h, h.b, h.k, h.k, h.k]
  rfl

theorem act_row (h : Blocks A t X N W K B D P) {H : Fin 2 → Fin 22 → Vec Ideal S8x256 .f32} (hH : Halo A t H) (M10 : Memref sig .tc .vmem S512x2816 .bf16) (s : Fin 2)
    (r : Fin 256) (j : Fin 2816) : aRead X N W K B H M10 s (ix2 r j) = act A (rowOf t s r) j := by
  have e : j = ⟨256 * (⟨j.val / 256, by omega⟩ : Fin 11).val + (⟨j.val % 256, by omega⟩ : Fin 256).val, by dsimp only; omega⟩ := Fin.ext (by dsimp only; omega)
  have g : colOf (eG ⟨j.val / 256, by omega⟩) ⟨j.val % 256, by omega⟩ = ⟨j.val, by omega⟩ := Fin.ext (by unfold colOf eG; dsimp only; omega)
  have v : colOf (eV ⟨j.val / 256, by omega⟩) ⟨j.val % 256, by omega⟩ = ⟨2816 + j.val, by omega⟩ := Fin.ext (by unfold colOf eV; dsimp only; omega)
  refine (congrArg (fun j => aRead X N W K B H M10 s (ix2 r j)) e).trans ?_
  refine (aRead_at X N W K B H M10 s _ r _).trans ?_
  rw [act_at, cnv_row h hH, cnv_row h hH, g, v]
  rfl

theorem out_row (h : Blocks A t X N W K B D P) {H : Fin 2 → Fin 22 → Vec Ideal S8x256 .f32} (hH : Halo A t H) (M10 : Memref sig .tc .vmem S512x2816 .bf16) (s : Fin 2)
    (r : Fin 256) (c : Fin 1024) : outT X (aRead X N W K B H M10 s) D P s (ix2 r c) = out A (rowOf t s r) c := by
  rw [out_at]
  have a : (fun c => ∑ j, aRead X N W K B H M10 s (ix2 r j) * D (ix2 j c)) = down A (rowOf t s r) :=
    funext fun c => Finset.sum_congr rfl fun j _ => congr (congrArg _ (act_row h hH M10 s r j)) (h.d j c)
  have b : (fun k => P (ix2 0 k)) = fun k => A.nq (ix1 k) := funext h.p
  rw [a, b, h.x]
  rfl

/-- The second half finds the first half's last rows. -/
theorem halo_second (h : Blocks A t X N W K B D P) (M9 : Memref sig .tc .vmem S8x5632 .f32) (L : List (View.Piece (Elt Ideal) S8x5632 .f32)) (e : Fin 22) (i : Fin 8) (j : Fin 256) :
    halo1 X N W M9 L e (ix2 i j) = before A (rowOf t 1 0) (8 - i.val) (colOf e j) := by
  have h1 : (rowOf t 1 0).val = 512 * t.val + (256 * 1 + 0) := rfl
  rw [halo1_eq, tail_at]
  refine (up_row h 0 e _ j).trans ?_
  unfold before
  rw [if_neg (by omega)]
  exact congrArg (fun T => up A T (colOf e j)) (Fin.ext (by
    dsimp only
    rw [h1]
    exact (by omega : 512 * t.val + (256 * 0 + (248 + i.val)) = 512 * t.val + (256 * 1 + 0) - (8 - i.val))))

/-- At a sequence's first tile the first half finds zeros. -/
theorem halo_first (h : Blocks A t X N W K B D P) (h0 : t.val % 16 = 0) (M9 : Memref sig .tc .vmem S8x5632 .f32) : Halo A t (haloA X N W M9) := by
  intro s e i j
  match s with
  | 1 => exact halo_second h M9 clear e i j
  | 0 =>
    have h1 : (rowOf t 0 0).val = 512 * t.val + (256 * 0 + 0) := rfl
    refine (halo0_eq X N W M9 e i j).trans ?_
    unfold before
    rw [if_pos (by omega)]
    pointwise [k0_pay2]

/-- Elsewhere it finds the rows the tile before carried out. -/
theorem halo_next {t' : Fin 32} (h : Blocks A t X N W K B D P) (h0 : ¬ t.val % 16 = 0) (ht : t'.val = t.val - 1) {C : Vec Ideal S8x5632 .f32} (hC : Carry A t' C)
    (M9 : Memref sig .tc .vmem S8x5632 .f32) : Halo A t (haloB X N W M9 C) := by
  intro s e i j
  match s with
  | 1 => exact halo_second h M9 [] e i j
  | 0 =>
    have h1 : (rowOf t 0 0).val = 512 * t.val + (256 * 0 + 0) := rfl
    refine (c_at C e i j).trans ((hC e i j).trans ?_)
    unfold before
    rw [if_neg (by omega)]
    exact congrArg (fun T => up A T (colOf e j)) (Fin.ext (by
      dsimp only
      rw [h1]
      exact (by omega : 512 * t'.val + (256 * 1 + (248 + i.val)) = 512 * t.val + (256 * 0 + 0) - (8 - i.val))))

/-- What a tile carries out. -/
theorem carry_row (h : Blocks A t X N W K B D P) (V : View sig .tc .vmem S8x5632 .f32) (L : List (View.Piece (Elt Ideal) S8x5632 .f32)) :
    Carry A t (V.read (Elt Ideal) (V.writes (Elt Ideal) V.junk (cList X N W (cList X N W L 0 22) 1 22))) := by
  intro e i j
  refine (carry_at X N W V L e i j).trans ?_
  rw [tail_at]
  exact up_row h 1 e _ j

/-- What a tile leaves in the result's block. -/
theorem block_row (h : Blocks A t X N W K B D P) {H : Fin 2 → Fin 22 → Vec Ideal S8x256 .f32} (hH : Halo A t H) (V : View sig .tc .vmem S512x1024 .f32)
    (M10 : Memref sig .tc .vmem S512x2816 .bf16) (r : Fin 512) (c : Fin 1024) :
    V.read (Elt Ideal) (V.writes (Elt Ideal) V.junk [oPiece X N W K B D P H M10 1, oPiece X N W K B D P H M10 0]) (ix2 r c) = out A ⟨512 * t.val + r.val, by omega⟩ c := by
  have e : r = ⟨256 * (⟨r.val / 256, by omega⟩ : Fin 2).val + (⟨r.val % 256, by omega⟩ : Fin 256).val, by dsimp only; omega⟩ := Fin.ext (by dsimp only; omega)
  refine (congrArg (fun r => View.read (Elt Ideal) V (V.writes (Elt Ideal) V.junk [oPiece X N W K B D P H M10 1, oPiece X N W K B D P H M10 0]) (ix2 r c)) e).trans ?_
  refine (rows_at X N W K B D P H V M10 _ _ c).trans ((out_row h hH M10 _ _ c).trans ?_)
  exact congrArg (fun T => out A T c) (Fin.ext (by unfold rowOf; dsimp only; omega))

end Cert.FfnIdeal.Rows

end
-- ==== Proof.FfnIdeal.Windows.lean ====
/-
  The blocks the windows hand the body, as entries of the arguments, and the arguments after the run.
-/
module

public import proofs.«01_k».proof.Proof.Gen.FfnIdeal.Frame
public import proofs.«01_k».proof.Proof.RowsSpec
public import Idealize.ShloMosaic.Lib.Pipeline.ValueKit
public import Idealize.ShloMosaic.Lib.Claim

@[expose] public section

set_option maxRecDepth 16384

noncomputable section

namespace Cert.FfnIdeal.Rows

open Cert.FfnIdeal Cert.FfnIdeal.Gen Cert.Rows
open Idealize.ShloMosaic Idealize.ShloMosaic.TcCoe

variable (m : (ℓ : Loc nD τ sig) → Buf (Elt Ideal) ℓ) (c : Dev nD)

/-- The call's arguments. -/
def argsK : Args where
  x := m ((c : Thread nD τ).loc main_arg0)
  np := m ((c : Thread nD τ).loc main_arg1)
  wu := m ((c : Thread nD τ).loc main_arg2)
  kw := m ((c : Thread nD τ).loc main_arg3)
  kb := m ((c : Thread nD τ).loc main_arg4)
  wd := m ((c : Thread nD τ).loc main_arg5)
  nq := m ((c : Thread nD τ).loc main_arg6)

/-- Which block of its array each window shows at a point. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val, 0] :=
  (by decide +kernel : ∀ t : Fin grid0.N, _)

/-! The buffers the host fills before the call. -/

theorem host0 (b : Fin 1024) : V m c main_v0 (ix2 0 b) = m ((c : Thread nD τ).loc main_arg1) (ix1 b) := by
  entry_read; pointwise
theorem host1 (a : Fin 1024) (b : Fin 5632) : V m c main_v1 (ix2 a b) = m ((c : Thread nD τ).loc main_arg2) (ix2 a b) := by
  entry_read; pointwise
theorem host2 (b : Fin 5632) : V m c main_v2 (ix2 0 b) = m ((c : Thread nD τ).loc main_arg4) (ix1 b) := by
  entry_read; pointwise
theorem host3 (a : Fin 2816) (b : Fin 1024) : V m c main_v3 (ix2 a b) = m ((c : Thread nD τ).loc main_arg5) (ix2 a b) := by
  entry_read; pointwise
theorem host4 (b : Fin 1024) : V m c main_v4 (ix2 0 b) = m ((c : Thread nD τ).loc main_arg6) (ix1 b) := by
  entry_read; pointwise

/-! The windows' blocks. -/

variable (t : Fin cfg0.N)

theorem point_lt : t.val < 32 := t.isLt

theorem blk0 (r : Fin 512) (k : Fin 1024) : iblk m c 0 t (ix2 r k) = (argsK m c).x (ix2 ⟨512 * t.val + r.val, by have := point_lt t; omega⟩ k) := by
  have e := (idx t).1
  unfold argsK
  blk_ext [iblk, V, e]

theorem blk1 (b : Fin 1024) : iblk m c 1 t (ix2 0 b) = (argsK m c).np (ix1 b) := by
  have e := (idx t).2.1
  refine Eq.trans ?_ (host0 m c b)
  blk_ext [iblk, e]

theorem blk2 (a : Fin 1024) (b : Fin 5632) : iblk m c 2 t (ix2 a b) = (argsK m c).wu (ix2 a b) := by
  have e := (idx t).2.2.1
  refine Eq.trans ?_ (host1 m c a b)
  blk_ext [iblk, e]

theorem blk3 (a : Fin 3) (b : Fin 5632) : iblk m c 3 t (ix2 a b) = (argsK m c).kw (ix2 a b) := by
  have e := (idx t).2.2.2.1
  unfold argsK
  blk_ext [iblk, V, e]

theorem blk4 (b : Fin 5632) : iblk m c 4 t (ix2 0 b) = (argsK m c).kb (ix1 b) := by
  have e := (idx t).2.2.2.2.1
  refine Eq.trans ?_ (host2 m c b)
  blk_ext [iblk, e]

theorem blk5 (a : Fin 2816) (b : Fin 1024) : iblk m c 5 t (ix2 a b) = (argsK m c).wd (ix2 a b) := by
  have e := (idx t).2.2.2.2.2.1
  refine Eq.trans ?_ (host3 m c a b)
  blk_ext [iblk, e]

theorem blk6 (b : Fin 1024) : iblk m c 6 t (ix2 0 b) = (argsK m c).nq (ix1 b) := by
  have e := (idx t).2.2.2.2.2.2.1
  refine Eq.trans ?_ (host4 m c b)
  blk_ext [iblk, e]

/-- What follows from the run's postcondition about the arguments: they are as before. -/
theorem args_kept {F : FTy → Type} [FloatOps F] [Named F] (m : (ℓ : Loc nD τ sig) → Buf (Elt F) ℓ) {r : PUnit × MemSt nD τ sig (Elt F)}
    (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).1 3).trans (((dats m 0 c).arrAt_in 3 rfl _).trans ((A_eq m c 3).trans (V_main_arg3 m c))),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

end Cert.FfnIdeal.Rows

end
-- ==== Proof.FfnIdeal.Result.lean ====
/-
  The result array after the run, row by row.
-/
module

public import proofs.«01_k».proof.Proof.FfnIdeal.Lists
public import proofs.«01_k».proof.Proof.FfnIdeal.State
public import proofs.«01_k».proof.Proof.FfnIdeal.Windows

@[expose] public section

set_option maxRecDepth 16384

noncomputable section

namespace Cert.FfnIdeal.Rows

open Cert.FfnIdeal Cert.FfnIdeal.Gen Cert.Rows
open Idealize.ShloMosaic Idealize.ShloMosaic.TcCoe

section Found
variable {A : Args} {t : Fin 32}
variable (c : Dev nD) (i : grid0.Coords)
    (M1 : Memref sig .tc .vmem S512x1024 .f32) (h1 : M1.IsWhole)
    (M2 : Memref sig .tc .vmem S1x1024 .f32) (h2 : M2.IsWhole)
    (M3 : Memref sig .tc .vmem S1024x5632 .bf16) (h3 : M3.IsWhole)
    (M4 : Memref sig .tc .vmem S3x5632 .f32) (h4 : M4.IsWhole)
    (M5 : Memref sig .tc .vmem S1x5632 .f32) (h5 : M5.IsWhole)
    (M6 : Memref sig .tc .vmem S2816x1024 .bf16) (h6 : M6.IsWhole)
    (M7 : Memref sig .tc .vmem S1x1024 .f32) (h7 : M7.IsWhole)
    (M8 : Memref sig .tc .vmem S512x1024 .f32) (h8 : M8.IsWhole)
    (M9 : Memref sig .tc .vmem S8x5632 .f32) (h9 : M9.IsWhole)
    (M10 : Memref sig .tc .vmem S512x2816 .bf16) (h10 : M10.IsWhole)
    (x0 : Vec Ideal S512x1024 .f32) (x1 : Vec Ideal S1x1024 .f32) (x2 : Vec Ideal S1024x5632 .bf16) (x3 : Vec Ideal S3x5632 .f32) (x4 : Vec Ideal S1x5632 .f32)
    (x5 : Vec Ideal S2816x1024 .bf16) (x6 : Vec Ideal S1x1024 .f32)

/-- The result's block, at a sequence's first point. -/
theorem out_A (hc0 : cond0_0 i) (h0 : t.val % 16 = 0) (h : Blocks A t x0 x1 x2 x3 x4 x5 x6) (r : Fin 512) (k : Fin 1024) :
    out0_A_7 c i M1 h1 M2 h2 M3 h3 M4 h4 M5 h5 M6 h6 M7 h7 M8 h8 M9 h9 M10 h10 hc0 x0 x1 x2 x3 x4 x5 x6 (ix2 r k) = out A ⟨512 * t.val + r.val, by omega⟩ k := by
  unfold out0_A_7
  rw [rows_A]
  rw [h1.read_unread, h2.read_unread, h3.read_unread, h4.read_unread, h5.read_unread, h6.read_unread, h7.read_unread]
  exact block_row h (halo_first h h0 M9) VO0_7 M10 r k

/-- The rows carried out, at a sequence's first point. -/
theorem sout_A (hc0 : cond0_0 i) (h : Blocks A t x0 x1 x2 x3 x4 x5 x6) :
    Carry A t (sout0_A_0 c i M1 h1 M2 h2 M3 h3 M4 h4 M5 h5 M6 h6 M7 h7 M8 h8 M9 h9 M10 h10 hc0 x0 x1 x2 x3 x4 x5 x6) := by
  unfold sout0_A_0
  rw [carry_A]
  rw [h1.read_unread, h2.read_unread, h3.read_unread]
  exact carry_row h VS0_0 _

/-- The result's block, at the other points. -/
theorem out_B (hc0 : ¬cond0_0 i) (h0 : ¬t.val % 16 = 0) {t' : Fin 32} (ht : t'.val = t.val - 1) (xs0 : Vec Ideal S8x5632 .f32) (hC : Carry A t' xs0) (h : Blocks A t x0 x1 x2 x3 x4 x5 x6) (r : Fin 512) (k : Fin 1024) :
    out0_B_7 c i M1 h1 M2 h2 M3 h3 M4 h4 M5 h5 M6 h6 M7 h7 M8 h8 M9 h9 M10 h10 hc0 x0 x1 x2 x3 x4 x5 x6 xs0 (ix2 r k) = out A ⟨512 * t.val + r.val, by omega⟩ k := by
  unfold out0_B_7
  rw [rows_B]
  rw [h1.read_unread, h2.read_unread, h3.read_unread, h4.read_unread, h5.read_unread, h6.read_unread, h7.read_unread]
  rw [h9.read_unread]
  exact block_row h (halo_next h h0 ht hC M9) VO0_7 M10 r k

/-- The rows carried out, at the other points. -/
theorem sout_B (hc0 : ¬cond0_0 i) (xs0 : Vec Ideal S8x5632 .f32) (h : Blocks A t x0 x1 x2 x3 x4 x5 x6) :
    Carry A t (sout0_B_0 c i M1 h1 M2 h2 M3 h3 M4 h4 M5 h5 M6 h6 M7 h7 M8 h8 M9 h9 M10 h10 hc0 x0 x1 x2 x3 x4 x5 x6 xs0) := by
  unfold sout0_B_0
  rw [carry_B]
  rw [h1.read_unread, h2.read_unread, h3.read_unread]
  exact carry_row h VS0_0 _
end Found

variable (m : (ℓ : Loc nD τ sig) → Buf (Elt Ideal) ℓ) (c : Dev nD)

/-- The tile of a point. -/
def tileAt (t : Fin cfg0.N) : Fin 32 := ⟨t.val, point_lt t⟩

theorem blocks (t : Fin cfg0.N) : Blocks (argsK m c) (tileAt t) (iblk m c 0 t) (iblk m c 1 t) (iblk m c 2 t) (iblk m c 3 t) (iblk m c 4 t) (iblk m c 5 t) (iblk m c 6 t) :=
  ⟨blk0 m c t, blk1 m c t, blk2 m c t, blk3 m c t, blk4 m c t, blk5 m c t, blk6 m c t⟩

/-- What a point leaves, at a sequence's first point. -/
theorem leaves_A (t : Fin cfg0.N) (h0 : t.val % 16 = 0) :
    Carry (argsK m c) (tileAt t) (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t)) :=
  sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (iblk m c 6 t) ((hcond0_0 t).mpr h0) (blocks m c t)

/-- What a point leaves, at the other points. -/
theorem leaves_B (t : Fin cfg0.N) (h0 : ¬t.val % 16 = 0) :
    Carry (argsK m c) (tileAt t) (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) :=
  sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (iblk m c 6 t) (fun h => h0 ((hcond0_0 t).mp h)) (outsAt0 m c (t.val - 1) (Nat.lt_of_le_of_lt (Nat.sub_le _ _) t.isLt)).2 (blocks m c t)

theorem snd_of {α β : Type} {p : α × β} {a : α} {b : β} (Q : β → Prop) (h : p = (a, b)) (hb : Q b) : Q p.2 := by
  subst h
  exact hb
theorem fst_of {α β : Type} {p : α × β} {a : α} {b : β} (Q : α → Prop) (h : p = (a, b)) (ha : Q a) : Q p.1 := by
  subst h
  exact ha

/-- Each point carries its tile's last rows out. -/
theorem carry_after (t : Fin cfg0.N) : Carry (argsK m c) (tileAt t) (outsAt0 m c t.val t.isLt).2 := by
  by_cases h0 : t.val % 16 = 0
  · exact snd_of (Carry (argsK m c) (tileAt t)) (outsAt0_A m c t h0) (leaves_A m c t h0)
  · exact snd_of (Carry (argsK m c) (tileAt t)) (outsAt0_B m c t h0) (leaves_B m c t h0)

/-- What a point gives, at a sequence's first point. -/
theorem gives_A (t : Fin cfg0.N) (h0 : t.val % 16 = 0) (r : Fin 512) (k : Fin 1024) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (ix2 r k) = out (argsK m c) ⟨512 * (tileAt t).val + r.val, by omega⟩ k :=
  out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (iblk m c 6 t) ((hcond0_0 t).mpr h0) h0 (blocks m c t) r k

/-- What a point gives, at the other points. -/
theorem gives_B (t : Fin cfg0.N) (h0 : ¬t.val % 16 = 0) (r : Fin 512) (k : Fin 1024) :
    out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2 (ix2 r k) = out (argsK m c) ⟨512 * (tileAt t).val + r.val, by omega⟩ k :=
  out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (iblk m c 6 t) (fun h => h0 ((hcond0_0 t).mp h)) h0 (t' := tileAt ⟨t.val - 1, Nat.lt_of_le_of_lt (Nat.sub_le _ _) t.isLt⟩) rfl (outsAt0 m c (t.val - 1) (Nat.lt_of_le_of_lt (Nat.sub_le _ _) t.isLt)).2
    (carry_after m c ⟨t.val - 1, Nat.lt_of_le_of_lt (Nat.sub_le _ _) t.isLt⟩) (blocks m c t) r k

/-- The result's block after a point holds its tile's rows. -/
theorem rows_after (t : Fin cfg0.N) (r : Fin 512) (k : Fin 1024) :
    (dats m 0 c).after 7 t (ix2 r k) = out (argsK m c) ⟨512 * (tileAt t).val + r.val, by omega⟩ k := by
  refine (congrFun (after0_7 m c t) (ix2 r k)).trans ?_
  by_cases h0 : t.val % 16 = 0
  · exact fst_of (fun v => v (ix2 r k) = out (argsK m c) ⟨512 * (tileAt t).val + r.val, by omega⟩ k) (outsAt0_A m c t h0) (gives_A m c t h0 r k)
  · exact fst_of (fun v => v (ix2 r k) = out (argsK m c) ⟨512 * (tileAt t).val + r.val, by omega⟩ k) (outsAt0_B m c t h0) (gives_B m c t h0 r k)

/-- The rows of the result. -/
def rowsOf (A : Args) : S16384x1024.Idx → EReal := fun y => out A ⟨(y 0).val, (y 0).isLt⟩ ⟨(y 1).val, (y 1).isLt⟩

/-- The result array at the end holds the layer's rows. -/
theorem final : (dats (F := Ideal) m 0 c).arrAt 7 (cfgs 0).N = rowsOf (argsK m c) := by
  refine (dats (F := Ideal) m 0 c).arrAt_eq_of_covers 7 _ (by decide +kernel) fun t hf y => ?_
  have e := (idx t).2.2.2.2.2.2.2
  have h := rows_after m c t (y 0) (y 1)
  have hy : (y : S512x1024.Idx) = ix2 (y 0) (y 1) := funext fun a => match a with | 0 => rfl | 1 => rfl
  blk_simp
  refine ((congrArg ((dats (F := Ideal) m 0 c).after 7 t) hy).trans h).trans ?_
  unfold rowsOf
  refine congr (congrArg (out (argsK m c)) (Fin.ext ?_)) (Fin.ext ?_)
  · blk_simp [e]
    exact congrArg (· + (y 0).val) (Nat.mul_comm _ _)
  · blk_simp [e]

end Cert.FfnIdeal.Rows

end
-- ==== Proof.Gate.lean ====
/-
  The gate by a hyperbolic tangent is the gate by a power of two, on every extended real.
-/
module

public import proofs.«01_k».proof.Proof.RowsSpec
public import Idealize.ShloMosaic.Lib.Claim

@[expose] public section

noncomputable section

namespace Cert.Rows

open Idealize.ShloMosaic

/-- The gate, by a hyperbolic tangent. -/
def gateR (v : EReal) : EReal :=
  v * (Ideal.ofBits FTy.f32 0x3F000000#32 * (Ideal.ofBits FTy.f32 0x3F800000#32
    + Ideal.tanh (Ideal.ofBits FTy.f32 0x3F4C422A#32 * (v + Ideal.ofBits FTy.f32 0x3D372713#32 * (v * v * v)))))

theorem bits_half : Ideal.ofBits FTy.f32 0x3F000000#32 = (((1 / 2 : ℝ)) : EReal) := by
  simp [Ideal.ofBits, Ideal.ieee, -EReal.coe_mul]; norm_num
theorem bits_one : Ideal.ofBits FTy.f32 0x3F800000#32 = ((1 : ℝ) : EReal) := by
  simp [Ideal.ofBits, Ideal.ieee, -EReal.coe_mul]; norm_num
theorem bits_c : Ideal.ofBits FTy.f32 0x3F4C422A#32 = ((6693141 / 8388608 : ℝ) : EReal) := by
  simp [Ideal.ofBits, Ideal.ieee, -EReal.coe_mul]; norm_num
theorem bits_k : Ideal.ofBits FTy.f32 0x3D372713#32 = ((12003091 / 268435456 : ℝ) : EReal) := by
  simp [Ideal.ofBits, Ideal.ieee, -EReal.coe_mul]; norm_num

/-- The tangent's gate on the reals is the logistic of twice the argument. -/
theorem tanh_logistic (w : ℝ) : 1 / 2 * (1 + Real.tanh w) = (1 + Real.exp (-2 * w))⁻¹ := by
  have e : Real.exp (-2 * w) = Real.exp (-w) * Real.exp (-w) := by rw [← Real.exp_add]; congr 1; ring
  have e1 : Real.exp w * Real.exp (-w) = 1 := by rw [← Real.exp_add]; simp
  have p : 0 < Real.exp w := Real.exp_pos w
  have q : 0 < Real.exp (-w) := Real.exp_pos _
  rw [Real.tanh_eq_sinh_div_cosh, Real.sinh_eq, Real.cosh_eq, e, eq_comm, inv_eq_iff_eq_inv, eq_comm]
  have h : 1 / 2 * (1 + (Real.exp w - Real.exp (-w)) / 2 / ((Real.exp w + Real.exp (-w)) / 2)) = Real.exp w / (Real.exp w + Real.exp (-w)) := by
    field_simp; ring
  rw [h, inv_div, div_eq_iff p.ne']
  linear_combination (-Real.exp (-w)) * e1

theorem real_pow (r : ℝ) : Real.rpow 2 (r * ((-2) * (6693141 / 8388608) * (Real.log 2)⁻¹ + (-2) * (6693141 / 8388608) * (Real.log 2)⁻¹ * (12003091 / 268435456) * (r * r)))
    = Real.exp (-2 * (6693141 / 8388608 * (r + 12003091 / 268435456 * (r * r * r)))) := by
  have hl : Real.log 2 ≠ 0 := (Real.log_pos (by norm_num)).ne'
  refine (Real.rpow_def_of_pos (by norm_num) _).trans ?_
  congr 1
  field_simp
  ring

theorem gate_eq (v : EReal) : gateR v = gate v := by
  have hl : 0 < (Real.log 2)⁻¹ := inv_pos.mpr (Real.log_pos (by norm_num))
  have ha : ((-2) * (6693141 / 8388608)) * (Real.log 2)⁻¹ < 0 := mul_neg_of_neg_of_pos (by norm_num) hl
  have hb : (((-2) * (6693141 / 8388608)) * (Real.log 2)⁻¹) * (12003091 / 268435456) < 0 := mul_neg_of_neg_of_pos ha (by norm_num)
  have hbt : bE * ⊤ = ⊥ := EReal.coe_mul_top_of_neg hb
  unfold gateR gate
  rw [bits_half, bits_one, bits_c, bits_k]
  induction v with
  | bot =>
    have h1 : (⊥ : EReal) * (⊥ * ⊥) = ⊥ := by simp
    have h2 : ((12003091 / 268435456 : ℝ) : EReal) * ⊥ = ⊥ := EReal.coe_mul_bot_of_pos (by norm_num)
    have h3 : ((6693141 / 8388608 : ℝ) : EReal) * ⊥ = ⊥ := EReal.coe_mul_bot_of_pos (by norm_num)
    rw [mul_assoc ⊥ ⊥ ⊥, h1, h2, EReal.bot_add, h3, Ideal.tanh_bot, EReal.bot_mul_bot, hbt, EReal.add_bot, EReal.bot_mul_bot]
    have z : ((1 : ℝ) : EReal) + -1 = 0 := by
      rw [← EReal.coe_one, ← EReal.coe_neg, ← EReal.coe_add]; simp
    rw [z, mul_zero, mul_zero]
    show (0 : EReal) = Ideal.div ⊥ (1 + ⊤)
    have o : (1 : EReal) + ⊤ = ⊤ := EReal.add_top_of_ne_bot (EReal.coe_ne_bot 1)
    rw [o]
    unfold Ideal.div
    rw [if_neg (by simp), EReal.inv_top, mul_zero]
  | top =>
    have h2 : ((12003091 / 268435456 : ℝ) : EReal) * ⊤ = ⊤ := EReal.coe_mul_top_of_pos (by norm_num)
    have h3 : ((6693141 / 8388608 : ℝ) : EReal) * ⊤ = ⊤ := EReal.coe_mul_top_of_pos (by norm_num)
    rw [EReal.top_mul_top, EReal.top_mul_top, h2, EReal.top_add_top, h3, Ideal.tanh_top, hbt, EReal.add_bot, EReal.top_mul_bot]
    have z : ((1 / 2 : ℝ) : EReal) * (((1 : ℝ) : EReal) + 1) = 1 := by
      rw [← EReal.coe_one, ← EReal.coe_add, ← EReal.coe_mul]; norm_num
    rw [z, mul_one]
    show (⊤ : EReal) = Ideal.div ⊤ (1 + 0)
    unfold Ideal.div
    rw [add_zero, if_neg one_ne_zero]
    simp
  | coe r =>
    have hp : 0 < 1 + Real.exp (-2 * (6693141 / 8388608 * (r + 12003091 / 268435456 * (r * r * r)))) := by positivity
    have e1 : ((r : EReal)) * (aE + bE * ((r : EReal) * r))
        = ((r * ((-2) * (6693141 / 8388608) * (Real.log 2)⁻¹ + (-2) * (6693141 / 8388608) * (Real.log 2)⁻¹ * (12003091 / 268435456) * (r * r)) : ℝ) : EReal) := by
      rw [EReal.coe_mul r, EReal.coe_add, EReal.coe_mul _ (r * r), EReal.coe_mul r r]
    have e2 : ((6693141 / 8388608 : ℝ) : EReal) * ((r : EReal) + ((12003091 / 268435456 : ℝ) : EReal) * ((r : EReal) * r * r))
        = ((6693141 / 8388608 * (r + 12003091 / 268435456 * (r * r * r)) : ℝ) : EReal) := by
      rw [EReal.coe_mul _ (r + _), EReal.coe_add, EReal.coe_mul _ (r * r * r), EReal.coe_mul (r * r) r, EReal.coe_mul r r]
    rw [e1, e2, Ideal.tanh_coe, ← EReal.coe_add, ← EReal.coe_mul, tanh_logistic, ← EReal.coe_mul]
    show _ = Ideal.div (r : EReal) (1 + ((Real.rpow 2 _ : ℝ) : EReal))
    rw [real_pow, ← EReal.coe_one, ← EReal.coe_add]
    unfold Ideal.div
    rw [if_neg (by exact_mod_cast hp.ne'), ← EReal.coe_inv, ← EReal.coe_mul]

end Cert.Rows

end
-- ==== Proof.FfnReferenceIdeal.Result.lean ====
/-
  The reference's result: the shared rows.
-/
module

public import proofs.«01_k».proof.Proof.Gen.FfnReferenceIdeal.Run
public import proofs.«01_k».proof.Proof.Gate
public import Idealize.ShloMosaic.Lib.Pointwise
public import Idealize.ShloMosaic.Lib.Claim

@[expose] public section

set_option maxRecDepth 16384

noncomputable section

namespace Cert.FfnReferenceIdeal.Rows

open Cert.FfnReferenceIdeal Cert.FfnReferenceIdeal.Gen Cert.FfnReferenceIdeal.Value Cert.Rows
open Idealize.ShloMosaic Idealize.ShloMosaic.TcCoe Idealize.SL.Sem

/-- Rows over the root of their mean square, weighted. -/
def normR (x : FVec Ideal S2x8192x1024 .f32) (w : FVec Ideal S1024 .f32) : FVec Ideal S2x8192x1024 .f32 :=
  mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 w))
/-- Their projection. -/
def upR (h : FVec Ideal S2x8192x1024 .f32) (w : FVec Ideal S1024x5632 .f32) : FVec Ideal S2x8192x5632 .f32 :=
  Host.dotGeneral dot_S2x8192x1024_S1024x5632_S2x8192x5632_2_0_01_1_n_n none h w
/-- Two rows of zeros before each sequence. -/
def padR (u : FVec Ideal S2x8192x5632 .f32) : FVec Ideal S2x8194x5632 .f32 :=
  pad S2x8194x5632 ![0, 2, 0] ![0, 0, 0] ![0, 0, 0] u (sitofp .f32 (constantI S_ 32 0#32)) pads_S2x8192x5632_S2x8194x5632_000_200_000 h_S_
/-- The causal convolution. -/
def convR (p : FVec Ideal S2x8194x5632 .f32) (k : FVec Ideal S3x5632 .f32) (b : FVec Ideal S5632 .f32) : FVec Ideal S2x8192x5632 .f32 :=
  addf (addf (addf (addf (broadcastInDim S2x8192x5632 ![] bcast_S_S2x8192x5632 (constant S_ .f32 0x00000000#32)) (mulf (broadcastInDim S2x8192x5632 ![0, 1, 2] bcast_S1x1x5632_S2x8192x5632_0_1_2 (broadcastInDim S1x1x5632 ![2] bcast_S5632_S1x1x5632_2 (shapeCast _ (extractStridedSlice S1x5632 ![0, 0] k slices_S3x5632_S1x5632_0_0) shapeCasts_S1x5632_S5632))) (extractStridedSlice S2x8192x5632 ![0, 0, 0] p slices_S2x8194x5632_S2x8192x5632_0_0_0))) (mulf (broadcastInDim S2x8192x5632 ![0, 1, 2] bcast_S1x1x5632_S2x8192x5632_0_1_2 (broadcastInDim S1x1x5632 ![2] bcast_S5632_S1x1x5632_2 (shapeCast _ (extractStridedSlice S1x5632 ![1, 0] k slices_S3x5632_S1x5632_1_0) shapeCasts_S1x5632_S5632))) (extractStridedSlice S2x8192x5632 ![0, 1, 0] p slices_S2x8194x5632_S2x8192x5632_0_1_0))) (mulf (broadcastInDim S2x8192x5632 ![0, 1, 2] bcast_S1x1x5632_S2x8192x5632_0_1_2 (broadcastInDim S1x1x5632 ![2] bcast_S5632_S1x1x5632_2 (shapeCast _ (extractStridedSlice S1x5632 ![2, 0] k slices_S3x5632_S1x5632_2_0) shapeCasts_S1x5632_S5632))) (extractStridedSlice S2x8192x5632 ![0, 2, 0] p slices_S2x8194x5632_S2x8192x5632_0_2_0))) (broadcastInDim S2x8192x5632 ![0, 1, 2] bcast_S1x1x5632_S2x8192x5632_0_1_2 (broadcastInDim S1x1x5632 ![2] bcast_S5632_S1x1x5632_2 b))
/-- The gated activations. -/
def actR (v : FVec Ideal S2x8192x5632 .f32) : FVec Ideal S2x8192x2816 .f32 :=
  mulf (mulf (extractStridedSlice S2x8192x2816 ![0, 0, 0] v slices_S2x8192x5632_S2x8192x2816_0_0_0) (mulf (broadcastInDim S2x8192x2816 ![] bcast_S_S2x8192x2816 (constant S_ .f32 0x3F000000#32)) (addf (broadcastInDim S2x8192x2816 ![] bcast_S_S2x8192x2816 (constant S_ .f32 0x3F800000#32)) (Host.tanh (mulf (broadcastInDim S2x8192x2816 ![] bcast_S_S2x8192x2816 (constant S_ .f32 0x3F4C422A#32)) (addf (extractStridedSlice S2x8192x2816 ![0, 0, 0] v slices_S2x8192x5632_S2x8192x2816_0_0_0) (mulf (broadcastInDim S2x8192x2816 ![] bcast_S_S2x8192x2816 (constant S_ .f32 0x3D372713#32)) (mulf (mulf (extractStridedSlice S2x8192x2816 ![0, 0, 0] v slices_S2x8192x5632_S2x8192x2816_0_0_0) (extractStridedSlice S2x8192x2816 ![0, 0, 0] v slices_S2x8192x5632_S2x8192x2816_0_0_0)) (extractStridedSlice S2x8192x2816 ![0, 0, 0] v slices_S2x8192x5632_S2x8192x2816_0_0_0))))))))) (extractStridedSlice S2x8192x2816 ![0, 0, 2816] v slices_S2x8192x5632_S2x8192x2816_0_0_2816)
/-- Their projection back. -/
def downR (a : FVec Ideal S2x8192x2816 .f32) (w : FVec Ideal S2816x1024 .f32) : FVec Ideal S2x8192x1024 .f32 :=
  Host.dotGeneral dot_S2x8192x2816_S2816x1024_S2x8192x1024_2_0_01_1_n_n none a w
/-- The rows split in sequences. -/
def seqs (x : FVec Ideal S16384x1024 .f32) : FVec Ideal S2x8192x1024 .f32 := shapeCast _ x shapeCasts_S16384x1024_S2x8192x1024
/-- The sequences joined. -/
def joined (x : FVec Ideal S2x8192x1024 .f32) : FVec Ideal S16384x1024 .f32 := shapeCast _ x shapeCasts_S2x8192x1024_S16384x1024

theorem norm_at (x : FVec Ideal S2x8192x1024 .f32) (w : FVec Ideal S1024 .f32) (β : Fin 2) (s : Fin 8192) (k : Fin 1024) :
    normR x w (ix3 β s k) = rms (fun k => x (ix3 β s k)) (fun k => w (ix1 k)) k := by
  unfold rms
  pointwise [normR]
theorem up_at (h : FVec Ideal S2x8192x1024 .f32) (w : FVec Ideal S1024x5632 .f32) (β : Fin 2) (s : Fin 8192) (e : Fin 5632) :
    upR h w (ix3 β s e) = ∑ k : Fin 1024, h (ix3 β s k) * w (ix2 k e) := by
  pointwise [upR]
theorem conv_at (p : FVec Ideal S2x8194x5632 .f32) (k : FVec Ideal S3x5632 .f32) (b : FVec Ideal S5632 .f32) (β : Fin 2) (s : Fin 8192) (e : Fin 5632) :
    convR p k b (ix3 β s e) = k (ix2 0 e) * p (ix3 β ⟨s.val, by omega⟩ e) + k (ix2 1 e) * p (ix3 β ⟨1 + s.val, by omega⟩ e) + k (ix2 2 e) * p (ix3 β ⟨2 + s.val, by omega⟩ e) + b (ix1 e) := by
  pointwise [convR]
theorem pad_at (u : FVec Ideal S2x8192x5632 .f32) (β : Fin 2) (s : Fin 8194) (e : Fin 5632) :
    padR u (ix3 β s e) = if h : s.val < 2 then 0 else u (ix3 β ⟨s.val - 2, by omega⟩ e) := by
  have z : FloatOps.sitofp (F := Ideal) .f32 (0#32) = (0 : EReal) := by
    show ((((0#32).toInt : ℤ) : ℝ) : EReal) = 0
    simp
  pointwise [padR]
  by_cases h : s.val < 2
  · rw [dif_neg (by omega), dif_pos h]
    exact z
  · rw [dif_pos ⟨by omega, by omega⟩, dif_neg h]
theorem act_at (v : FVec Ideal S2x8192x5632 .f32) (β : Fin 2) (s : Fin 8192) (j : Fin 2816) :
    actR v (ix3 β s j) = gateR (v (ix3 β s ⟨j.val, by omega⟩)) * v (ix3 β s ⟨2816 + j.val, by omega⟩) := by
  unfold gateR
  pointwise [actR]
theorem down_at (a : FVec Ideal S2x8192x2816 .f32) (w : FVec Ideal S2816x1024 .f32) (β : Fin 2) (s : Fin 8192) (c : Fin 1024) :
    downR a w (ix3 β s c) = ∑ j : Fin 2816, a (ix3 β s j) * w (ix2 j c) := by
  pointwise [downR]
theorem seqs_at (x : FVec Ideal S16384x1024 .f32) (β : Fin 2) (s : Fin 8192) (c : Fin 1024) : seqs x (ix3 β s c) = x (ix2 ⟨β.val * 8192 + s.val, by omega⟩ c) := by
  pointwise [seqs]
theorem joined_at (x : FVec Ideal S2x8192x1024 .f32) (T : Fin 16384) (c : Fin 1024) :
    joined x (ix2 T c) = x (ix3 ⟨T.val / 8192, by omega⟩ ⟨T.val % 8192, by omega⟩ c) := by
  pointwise [joined]

variable (m : (ℓ : Loc nD τ sig) → Buf (Elt Ideal) ℓ) (c : Dev nD)

/-- The reference's arguments. -/
def argsR : Args where
  x := m ((c : Thread nD τ).loc main_arg0)
  np := m ((c : Thread nD τ).loc main_arg1)
  wu := m ((c : Thread nD τ).loc main_arg2)
  kw := m ((c : Thread nD τ).loc main_arg3)
  kb := m ((c : Thread nD τ).loc main_arg4)
  wd := m ((c : Thread nD τ).loc main_arg5)
  nq := m ((c : Thread nD τ).loc main_arg6)

/-- The reference's rows, from its arguments. -/
def resR (A : Args) : FVec Ideal S16384x1024 .f32 :=
  joined (addf (seqs A.x) (normR (downR (actR (convR (padR (upR (normR (seqs A.x) A.np) A.wu)) A.kw A.kb)) A.wd) A.nq))

set_option maxHeartbeats 2000000 in
theorem res_eq : res_main_v72 m c = resR (argsR m c) := rfl

section At
variable (A : Args) (β : Fin 2) (s : Fin 8192)

/-- Row `s` of sequence `β`. -/
def row : Fin 16384 := ⟨β.val * 8192 + s.val, by omega⟩

theorem uph_at (e : Fin 5632) : upR (normR (seqs A.x) A.np) A.wu (ix3 β s e) = up A (row β s) e := by
  refine (up_at _ _ β s e).trans (Finset.sum_congr rfl fun k _ => congrArg (· * _) ?_)
  exact (norm_at _ _ β s k).trans (congrFun (congrFun (congrArg rms (funext fun k => seqs_at A.x β s k)) _) k)

theorem pad_prev (e : Fin 5632) (d : Fin 3) (n : Fin 8194) (hn : n.val = 2 - d.val + s.val) :
    padR (upR (normR (seqs A.x) A.np) A.wu) (ix3 β n e) = before A (row β s) d.val e := by
  refine (pad_at _ β n e).trans ?_
  have hm : (row β s).val % 8192 = s.val := by show (β.val * 8192 + s.val) % 8192 = s.val; omega
  unfold before
  by_cases h : s.val < d.val
  · rw [dif_pos (by omega), if_pos (by omega)]
  · rw [dif_neg (by omega), if_neg (by omega)]
    refine (uph_at A β _ e).trans (congrArg (fun T => up A T e) (Fin.ext ?_))
    show β.val * 8192 + (n.val - 2) = β.val * 8192 + s.val - d.val
    omega

theorem cnv_at (e : Fin 5632) : convR (padR (upR (normR (seqs A.x) A.np) A.wu)) A.kw A.kb (ix3 β s e) = cnv A (row β s) e := by
  have h0 : before A (row β s) 0 e = up A (row β s) e := if_neg (Nat.not_lt_zero _)
  refine (conv_at _ _ _ β s e).trans ?_
  unfold cnv conv
  rw [← h0, pad_prev A β s e 2 ⟨s.val, by omega⟩ (by show s.val = 2 - 2 + s.val; omega), pad_prev A β s e 1 ⟨1 + s.val, by omega⟩ rfl, pad_prev A β s e 0 ⟨2 + s.val, by omega⟩ rfl]
  show _ * before A (row β s) 2 e + _ * before A (row β s) 1 e + _ * before A (row β s) 0 e + _ = _
  rw [add_comm, add_assoc (A.kw (ix2 0 e) * _), add_comm (A.kw (ix2 0 e) * _), add_comm (A.kw (ix2 1 e) * _), ← add_assoc, ← add_assoc]

theorem acts_at (j : Fin 2816) : actR (convR (padR (upR (normR (seqs A.x) A.np) A.wu)) A.kw A.kb) (ix3 β s j) = act A (row β s) j := by
  rw [act_at, cnv_at, cnv_at, gate_eq]
  rfl
end At

/-- The reference's rows are the shared rows. -/
theorem result_at (A : Args) (T : Fin 16384) (c : Fin 1024) : resR A (ix2 T c) = out A T c := by
  have hT : row ⟨T.val / 8192, by omega⟩ ⟨T.val % 8192, by omega⟩ = T := Fin.ext (by show T.val / 8192 * 8192 + T.val % 8192 = T.val; omega)
  refine (joined_at _ T c).trans ?_
  refine (congr (congrArg HAdd.hAdd (seqs_at A.x _ _ c)) (norm_at _ A.nq _ _ c)).trans ?_
  have hx : (⟨T.val / 8192 * 8192 + T.val % 8192, by omega⟩ : Fin 16384) = T := hT
  unfold out
  refine congr (congrArg HAdd.hAdd (congrArg (fun T => A.x (ix2 T c)) hx)) (congrFun (congrFun (congrArg rms (funext fun k => ?_)) _) c)
  refine (down_at _ _ _ _ k).trans (Finset.sum_congr rfl fun j _ => congrArg (· * _) ?_)
  rw [acts_at, hT]

end Cert.FfnReferenceIdeal.Rows

end
-- ==== Proof.RowsAlgebraic.lean ====
/-
  The feed-forward call's two runs have equal results: each is the layer's rows, read off the same arguments.
-/
module

public import proofs.«01_k».proof.Defs
public import proofs.«01_k».proof.Proof.FfnIdeal.Result
public import proofs.«01_k».proof.Proof.FfnReferenceIdeal.Result

@[expose] public section

set_option maxRecDepth 16384

noncomputable section

namespace Cert.Proof

open Idealize.ShloMosaic Idealize.ShloMosaic.TcCoe Idealize.SL.Sem

/-- The reference's rows as an array. -/
theorem ffn_reference_rows (A : Cert.Rows.Args) : Cert.FfnReferenceIdeal.Rows.resR A = Cert.FfnIdeal.Rows.rowsOf A := by
  funext y
  have hy : y = ix2 ⟨(y 0).val, (y 0).isLt⟩ ⟨(y 1).val, (y 1).isLt⟩ := funext fun a => match a with | 0 => rfl | 1 => rfl
  exact (congrArg (Cert.FfnReferenceIdeal.Rows.resR A) hy).trans (Cert.FfnReferenceIdeal.Rows.result_at A _ _)

/-- From equal arguments both programs run to equal results. -/
theorem ffn_algebraic : @Cert.algebraic_FfnIdeal_FfnReferenceIdeal Cert.FfnIdeal.Gen.facts Cert.FfnReferenceIdeal.Gen.facts := by
  intro m ρ m' ρ' _ hagree
  have he : ∀ c, Cert.FfnReferenceIdeal.Rows.argsR m' c = Cert.FfnIdeal.Rows.argsK m c := fun c => by
    obtain ⟨h0, h1, h2, h3, h4, h5, h6⟩ := hagree c
    unfold Cert.FfnReferenceIdeal.Rows.argsR Cert.FfnIdeal.Rows.argsK
    exact congr (congr (congr (congr (congr (congr (congrArg Cert.Rows.Args.mk h0) h1) h2) h3) h4) h5) h6
  refine ⟨fun c => Cert.FfnIdeal.Rows.rowsOf (Cert.FfnIdeal.Rows.argsK m c), ?_, ?_⟩
  · refine (θ_run Cert.FfnIdeal.defs _ _).mono (fun r h c => ⟨?_, Cert.FfnIdeal.Rows.args_kept m h c⟩) (Cert.FfnIdeal.Gen.run_main m ρ)
    exact ((h c).1 7).trans (Cert.FfnIdeal.Rows.final m c)
  · refine (θ_run Cert.FfnReferenceIdeal.defs _ _).mono (fun r h c => ⟨(h c).1.trans ?_, (h c).2⟩) (Cert.FfnReferenceIdeal.Value.run (F := Ideal) m' ρ')
    exact (Cert.FfnReferenceIdeal.Rows.res_eq m' c).trans ((congrArg _ (he c)).trans (ffn_reference_rows _))

end Cert.Proof

end
-- ==== Proof.lean ====
/-
  The certificate's claims put together: each kernel's run (Proof/Kernel/Body.lean and Proof/KernelIdeal/Body.lean) read at
  the arguments and the counters, the reference's run likewise, the two named constants, and the equal results
  (Proof/Algebraic.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.FfnReferenceIdeal.Run
public import proofs.«01_k».proof.Proof.Kernel.Body
public import proofs.«01_k».proof.Proof.KernelIdeal.Body
public import proofs.«01_k».proof.Proof.Algebraic
public import proofs.«01_k».proof.Proof.RowsAlgebraic
public import Idealize.ShloMosaic.Adequacy
public import Idealize.ShloMosaic.Init

@[expose] public section

noncomputable section

namespace Cert.Proof

open Idealize.ShloMosaic Idealize.SL.Sem Cert.Kernel

/-- The printed kernel's frame. -/
theorem frame_kernel : @Cert.quiescent_Kernel Cert.Kernel.Gen.facts := fun m ρ _ =>
  (θ_run Cert.Kernel.defs _ _).mono (fun _ h => ⟨Cert.Kernel.Attn.args_kept h.1, h.2⟩) (Cert.Kernel.Attn.run_main m ρ)

/-- The idealized kernel's frame. -/
theorem frame_kernelIdeal : @Cert.quiescent_KernelIdeal Cert.KernelIdeal.Gen.facts := fun m ρ _ =>
  (θ_run Cert.KernelIdeal.defs _ _).mono (fun _ h => ⟨Cert.KernelIdeal.Attn.args_kept h.1, h.2⟩) (Cert.KernelIdeal.Attn.run_main m ρ)

/-- The reference's frame. -/
theorem frame_referenceIdeal : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two named constants are what the idealized kernel's table says. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "scale" .f32 0x3E38AA3B#32 ((8⁻¹ * (Real.log 2)⁻¹ : ℝ) : EReal) rfl⟩

/-- The idealized kernel's frame under the precondition: it needs none. -/
theorem frame_kernelIdeal_pre : @Cert.quiescent_KernelIdeal_pre_attention_is_finite Cert.KernelIdeal.Gen.facts Cert.Attn.pre_facts := fun m ρ _ =>
  (θ_run Cert.KernelIdeal.defs _ _).mono (fun _ h => ⟨Cert.KernelIdeal.Attn.args_kept h.1, h.2⟩) (Cert.KernelIdeal.Attn.run_main m ρ)

/-- The reference's frame under the precondition: it needs none. -/
theorem frame_referenceIdeal_pre : @Cert.quiescent_ReferenceIdeal_pre_attention_is_finite Cert.ReferenceIdeal.Gen.facts Cert.Attn.pre_facts := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The printed feed-forward call's frame. -/
theorem frame_ffn : @Cert.quiescent_Ffn Cert.Ffn.Gen.facts := fun m ρ _ => Cert.Ffn.Gen.frame m ρ

/-- The idealized feed-forward call's frame. -/
theorem frame_ffnIdeal : @Cert.quiescent_FfnIdeal Cert.FfnIdeal.Gen.facts := fun m ρ _ => Cert.FfnIdeal.Gen.frame m ρ

/-- The frame of the feed-forward call's reference. -/
theorem frame_ffnReferenceIdeal : @Cert.quiescent_FfnReferenceIdeal Cert.FfnReferenceIdeal.Gen.facts := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

/-- The gate's two named constants are what the idealized kernel's table says. -/
theorem ffn_preserves : Cert.preserves_Ffn_FfnIdeal :=
  ⟨IdealRules.named_const.statement Cert.FfnIdeal.κ "gelu_b" .bf16 0xBDD3#16 _ rfl,
    IdealRules.named_const.statement Cert.FfnIdeal.κ "gelu_a" .bf16 0xC013#16 _ rfl⟩

theorem claim : Cert.Claim :=
  ⟨Cert.Kernel.Gen.facts, Cert.KernelIdeal.Gen.facts, Cert.ReferenceIdeal.Gen.facts, Cert.Ffn.Gen.facts, Cert.FfnIdeal.Gen.facts, Cert.FfnReferenceIdeal.Gen.facts,
    Cert.Attn.pre_facts,
    frame_kernel, frame_kernelIdeal, frame_kernelIdeal_pre, frame_referenceIdeal, frame_referenceIdeal_pre, frame_ffn, frame_ffnIdeal, frame_ffnReferenceIdeal,
    preserves, algebraic, ffn_preserves, ffn_algebraic⟩

end Cert.Proof

end
